-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_SearchIdeal_finite [hPre_finite : Cert.Pre_finite.Facts] (m : (ℓ : Loc Cert.SearchIdeal.nD Cert.SearchIdeal.τ Cert.SearchIdeal.sig) → Buf (Elt Ideal) ℓ) : Prop :=
  ∀ c : Dev Cert.SearchIdeal.nD,
    (Cert.Pre_finite.fn (F := Ideal) (m ((c.tc : Thread Cert.SearchIdeal.nD Cert.SearchIdeal.τ).loc Cert.SearchIdeal.main_arg0))) = (fun _ => 1#1)

def Pre_NearestIdeal (m : (ℓ : Loc Cert.NearestIdeal.nD Cert.NearestIdeal.τ Cert.NearestIdeal.sig) → Buf (Elt Ideal) ℓ) : Prop :=
  True

def Pre_NearestIdeal_finite [hPre_finite : Cert.Pre_finite.Facts] (m : (ℓ : Loc Cert.NearestIdeal.nD Cert.NearestIdeal.τ Cert.NearestIdeal.sig) → Buf (Elt Ideal) ℓ) : Prop :=
  ∀ c : Dev Cert.NearestIdeal.nD,
    (Cert.Pre_finite.fn (F := Ideal) (m ((c.tc : Thread Cert.NearestIdeal.nD Cert.NearestIdeal.τ).loc Cert.NearestIdeal.main_arg0))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ r.2.sem = fun _ => 0)

def quiescent_SearchIdeal_pre_finite [hSearchIdeal : Cert.SearchIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_finite m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ r.2.sem = fun _ => 0)

def quiescent_NearestIdeal [hNearestIdeal : Cert.NearestIdeal.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def quiescent_NearestIdeal_pre_finite [hNearestIdeal : Cert.NearestIdeal.Facts] [hPre_finite : Cert.Pre_finite.Facts] : Prop :=
  ∀ (m : (ℓ : Loc Cert.NearestIdeal.nD Cert.NearestIdeal.τ Cert.NearestIdeal.sig) → Buf (Elt Ideal) ℓ) (g : Dev Cert.NearestIdeal.nD → PrngReg), Pre_NearestIdeal_finite m →
    θ_run (Cert.NearestIdeal.defs (F := Ideal)) (onTc (τ := Cert.NearestIdeal.τ) (Cert.NearestIdeal.main (F := Ideal))) ⟨m, fun _ => 0, g⟩ (fun r => (∀ c : Dev Cert.NearestIdeal.nD,
      r.2.mem ((c.tc : Thread Cert.NearestIdeal.nD Cert.NearestIdeal.τ).loc Cert.NearestIdeal.main_arg0) = m ((c.tc : Thread Cert.NearestIdeal.nD Cert.NearestIdeal.τ).loc Cert.NearestIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Search_SearchIdeal : Prop :=
  True

def algebraic_SearchIdeal_NearestIdeal_pre_finite [hSearchIdeal : Cert.SearchIdeal.Facts] [hNearestIdeal : Cert.NearestIdeal.Facts] [hPre_finite : Cert.Pre_finite.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.NearestIdeal.nD Cert.NearestIdeal.τ Cert.NearestIdeal.sig) → Buf (Elt Ideal) ℓ) (g' : Dev Cert.NearestIdeal.nD → PrngReg), Pre_SearchIdeal_finite m →
    (∀ c : Dev Cert.SearchIdeal.nD,
      m' ((c.tc : Thread Cert.NearestIdeal.nD Cert.NearestIdeal.τ).loc Cert.NearestIdeal.main_arg0) = m ((c.tc : Thread Cert.SearchIdeal.nD Cert.SearchIdeal.τ).loc Cert.SearchIdeal.main_arg0)) →
    ∃ (v0 : (c : Dev Cert.SearchIdeal.nD) → Buf (Elt Ideal) ((c.tc : Thread Cert.SearchIdeal.nD Cert.SearchIdeal.τ).loc Cert.SearchIdeal.main_v1)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v1) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ θ_run (Cert.NearestIdeal.defs (F := Ideal)) (onTc (τ := Cert.NearestIdeal.τ) (Cert.NearestIdeal.main (F := Ideal))) ⟨m', fun _ => 0, g'⟩ (fun r => ∀ c : Dev Cert.NearestIdeal.nD,
          r.2.mem ((c.tc : Thread Cert.NearestIdeal.nD Cert.NearestIdeal.τ).loc Cert.NearestIdeal.main_indices) = v0 c
          ∧ r.2.mem ((c.tc : Thread Cert.NearestIdeal.nD Cert.NearestIdeal.τ).loc Cert.NearestIdeal.main_arg0) = m' ((c.tc : Thread Cert.NearestIdeal.nD Cert.NearestIdeal.τ).loc Cert.NearestIdeal.main_arg0))

def Claim : Prop :=
  ∃ (hKernel : Cert.Kernel.Facts) (hKernelIdeal : Cert.KernelIdeal.Facts) (hReferenceIdeal : Cert.ReferenceIdeal.Facts) (hSearch : Cert.Search.Facts) (hSearchIdeal : Cert.SearchIdeal.Facts) (hNearestIdeal : Cert.NearestIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Search (hSearch := hSearch)
    ∧ quiescent_SearchIdeal (hSearchIdeal := hSearchIdeal)
    ∧ quiescent_SearchIdeal_pre_finite (hSearchIdeal := hSearchIdeal) (hPre_finite := hPre_finite)
    ∧ quiescent_NearestIdeal (hNearestIdeal := hNearestIdeal)
    ∧ quiescent_NearestIdeal_pre_finite (hNearestIdeal := hNearestIdeal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
    ∧ preserves_Search_SearchIdeal
    ∧ algebraic_SearchIdeal_NearestIdeal_pre_finite (hSearchIdeal := hSearchIdeal) (hNearestIdeal := hNearestIdeal) (hPre_finite := hPre_finite)
-- ==== Pre_finite.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  main_v3
-- ==== Pre_in_range.lean ====
abbrev S4x8192x3 : Shape := ⟨3, ![4, 8192, 3]⟩
abbrev S4x8192x16 : Shape := ⟨3, ![4, 8192, 16]⟩
abbrev S64x3 : Shape := ⟨2, ![64, 3]⟩
abbrev S128x64 : Shape := ⟨2, ![128, 64]⟩
abbrev S128 : Shape := ⟨1, ![128]⟩
abbrev S_ : Shape := ⟨0, ![]⟩

class Facts : Prop where
  bcast_S_S4x8192x16 : S_.BroadcastsInDim S4x8192x16 (![] : Fin 0 → Fin S4x8192x16.rank)
  reducesTo_S4x8192x16_S_d0_1_2 : S4x8192x16.ReducesTo [0, 1, 2] S_
  h_S_ : 0 < S_.numel

variable [Facts]

def fn {F : FTy → Type} [FloatOps F] (main_arg0 : FVec F S4x8192x3 .f32) (main_arg1 : IVec S4x8192x16 32) (main_arg2 : FVec F S64x3 .f32) (main_arg3 : FVec F S128x64 .f32) (main_arg4 : FVec F S128 .f32) : IVec S_ 1 :=
  let main_c : IVec S_ 32 := constantI S_ 32 0#32
  let main_v0 : IVec S4x8192x16 32 := broadcastInDim S4x8192x16 ![] bcast_S_S4x8192x16 main_c
  let main_v1 : IVec S4x8192x16 1 := cmpi .sge main_arg1 main_v0
  let main_c_0 : IVec S_ 32 := constantI S_ 32 8192#32
  let main_v2 : IVec S4x8192x16 32 := broadcastInDim S4x8192x16 ![] bcast_S_S4x8192x16 main_c_0
  let main_v3 : IVec S4x8192x16 1 := cmpi .slt main_arg1 main_v2
  let main_v4 : IVec S4x8192x16 1 := andi main_v1 main_v3
  let main_c_1 : IVec S_ 1 := constantI S_ 1 1#1
  let main_v5 : IVec S_ 1 := (fun x v => Host.reduce IntOp.andi x v reducesTo_S4x8192x16_S_d0_1_2 h_S_) main_v4 main_c_1
  main_v5
-- ==== Kernel.lean ====
abbrev S4x8192x3 : Shape := ⟨3, ![4, 8192, 3]⟩
abbrev S4x8192x16 : Shape := ⟨3, ![4, 8192, 16]⟩
abbrev S64x3 : Shape := ⟨2, ![64, 3]⟩
abbrev S128x64 : Shape := ⟨2, ![128, 64]⟩
abbrev S128 : Shape := ⟨1, ![128]⟩
abbrev S4x3x8192 : Shape := ⟨3, ![4, 3, 8192]⟩
abbrev S98304 : Shape := ⟨1, ![98304]⟩
abbrev S524288 : Shape := ⟨1, ![524288]⟩
abbrev S1572864 : Shape := ⟨1, ![1572864]⟩
abbrev S24576 : Shape := ⟨1, ![24576]⟩
abbrev S4096 : Shape := ⟨1, ![4096]⟩
abbrev S12288 : Shape := ⟨1, ![12288]⟩
abbrev S16 : Shape := ⟨1, ![16]⟩
abbrev S_ : Shape := ⟨0, ![]⟩
abbrev S256 : Shape := ⟨1, ![256]⟩
abbrev S4x16x3x8192 : Shape := ⟨4, ![4, 16, 3, 8192]⟩
abbrev S128x1 : Shape := ⟨2, ![128, 1]⟩
abbrev S4x128x8192 : Shape := ⟨3, ![4, 128, 8192]⟩
abbrev S1x16x3x4096 : Shape := ⟨4, ![1, 16, 3, 4096]⟩
abbrev S1x3x4096 : Shape := ⟨3, ![1, 3, 4096]⟩
abbrev S1x128x4096 : Shape := ⟨3, ![1, 128, 4096]⟩
abbrev S16x3x4096 : Shape := ⟨3, ![16, 3, 4096]⟩
abbrev S3x4096 : Shape := ⟨2, ![3, 4096]⟩
abbrev S1x4096 : Shape := ⟨2, ![1, 4096]⟩
abbrev S64x4096 : Shape := ⟨2, ![64, 4096]⟩
abbrev S128x4096 : Shape := ⟨2, ![128, 4096]⟩

abbrev nBuf : Table → Nat
  | .hbm => 12
  | .local .tc .vmem => 9
  | .local .scVector .vmem => 3
  | _ => 0

abbrev bufTy : (tb : Table) → Fin (nBuf tb) → BufTy
  | .hbm, ⟨0, _⟩ => ⟨S4x8192x3, .f32⟩
  | .hbm, ⟨1, _⟩ => ⟨S4x8192x16, .i32⟩
  | .hbm, ⟨2, _⟩ => ⟨S64x3, .f32⟩
  | .hbm, ⟨3, _⟩ => ⟨S128x64, .f32⟩
  | .hbm, ⟨4, _⟩ => ⟨S128, .f32⟩
  | .hbm, ⟨5, _⟩ => ⟨S4x3x8192, .f32⟩
  | .hbm, ⟨6, _⟩ => ⟨S98304, .f32⟩
  | .hbm, ⟨7, _⟩ => ⟨S524288, .i32⟩
  | .hbm, ⟨8, _⟩ => ⟨S1572864, .f32⟩
  | .hbm, ⟨9, _⟩ => ⟨S4x16x3x8192, .f32⟩
  | .hbm, ⟨10, _⟩ => ⟨S128x1, .f32⟩
  | .hbm, ⟨11, _⟩ => ⟨S4x128x8192, .f32⟩
  | .local .tc .vmem, ⟨0, _⟩ => ⟨S1x16x3x4096, .f32⟩
  | .local .tc .vmem, ⟨1, _⟩ => ⟨S1x16x3x4096, .f32⟩
  | .local .tc .vmem, ⟨2, _⟩ => ⟨S1x3x4096, .f32⟩
  | .local .tc .vmem, ⟨3, _⟩ => ⟨S1x3x4096, .f32⟩
  | .local .tc .vmem, ⟨4, _⟩ => ⟨S64x3, .f32⟩
  | .local .tc .vmem, ⟨5, _⟩ => ⟨S128x64, .f32⟩
  | .local .tc .vmem, ⟨6, _⟩ => ⟨S128x1, .f32⟩
  | .local .tc .vmem, ⟨7, _⟩ => ⟨S1x128x4096, .f32⟩
  | .local .tc .vmem, ⟨8, _⟩ => ⟨S1x128x4096, .f32⟩
  | .local .scVector .vmem, ⟨0, _⟩ => ⟨S24576, .f32⟩
  | .local .scVector .vmem, ⟨1, _⟩ => ⟨S4096, .i32⟩
  | .local .scVector .vmem, ⟨2, _⟩ => ⟨S12288, .f32⟩
  | _, _ => ⟨S4x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v1_scv : Ref sig .scVector := ⟨.hbm, 6, rfl⟩
abbrev main_v2_scv : Ref sig .scVector := ⟨.hbm, 7, rfl⟩
abbrev main_v3_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v6 : BitVec 32 := Scalar.addi c0_i32 v2
  let c16_i32 : BitVec 32 := 16#32
  let v7 : BitVec 32 := Scalar.muli v6 c16_i32
  ![v7.toNat]
@[reducible] def k0_t1_loop : Scf.Loop 32 :=
  let c0_i32_1 : BitVec 32 := 0#32
  let c256_i32_2 : BitVec 32 := 256#32
  let v8 : BitVec 32 := Scalar.addi c0_i32_1 c256_i32_2
  let c1_i32 : BitVec 32 := 1#32
  ⟨c0_i32_1, v8, c1_i32⟩
def k0_off2 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32_38 : BitVec 32 := 16#32
  let v26 : BitVec 32 := Scalar.muli arg8 c16_i32_38
  let v27 : Index := Scalar.indexCast v26
  ![v27.toNat]

def k0_chk1 (v30 : IVec S16 32) : Prop :=
  (∀ a x, ((![v30] : Fin 1 → IVec S16 32) a x).toNat < S24576.size a)
theorem k0_idx1_inb : ∀ (v30 : IVec S16 32) (k0_hw1 : k0_chk1 v30), ∀ a x, ((![v30] : Fin 1 → IVec S16 32) a x).toNat < S24576.size a := fun v30 k0_hw1 => k0_hw1

def k0_chk2 (v34 : IVec S16 32) : Prop :=
  (∀ a x, ((![v34] : Fin 1 → IVec S16 32) a x).toNat < S12288.size a)
theorem k0_idx2_inb : ∀ (v34 : IVec S16 32) (k0_hw2 : k0_chk2 v34), ∀ a x, ((![v34] : Fin 1 → IVec S16 32) a x).toNat < S12288.size a := fun v34 k0_hw2 => k0_hw2

def k0_chk3 (v36 : IVec S16 32) : Prop :=
  (∀ a x, ((![v36] : Fin 1 → IVec S16 32) a x).toNat < S24576.size a)
theorem k0_idx3_inb : ∀ (v36 : IVec S16 32) (k0_hw3 : k0_chk3 v36), ∀ a x, ((![v36] : Fin 1 → IVec S16 32) a x).toNat < S24576.size a := fun v36 k0_hw3 => k0_hw3

def k0_chk4 (v40 : IVec S16 32) : Prop :=
  (∀ a x, ((![v40] : Fin 1 → IVec S16 32) a x).toNat < S12288.size a)
theorem k0_idx4_inb : ∀ (v40 : IVec S16 32) (k0_hw4 : k0_chk4 v40), ∀ a x, ((![v40] : Fin 1 → IVec S16 32) a x).toNat < S12288.size a := fun v40 k0_hw4 => k0_hw4

def k0_chk5 (v42 : IVec S16 32) : Prop :=
  (∀ a x, ((![v42] : Fin 1 → IVec S16 32) a x).toNat < S24576.size a)
theorem k0_idx5_inb : ∀ (v42 : IVec S16 32) (k0_hw5 : k0_chk5 v42), ∀ a x, ((![v42] : Fin 1 → IVec S16 32) a x).toNat < S24576.size a := fun v42 k0_hw5 => k0_hw5

def k0_chk6 (v46 : IVec S16 32) : Prop :=
  (∀ a x, ((![v46] : Fin 1 → IVec S16 32) a x).toNat < S12288.size a)
theorem k0_idx6_inb : ∀ (v46 : IVec S16 32) (k0_hw6 : k0_chk6 v46), ∀ a x, ((![v46] : Fin 1 → IVec S16 32) a x).toNat < S12288.size a := fun v46 k0_hw6 => k0_hw6
@[reducible] def k0_t2_loop : Scf.Loop 32 :=
  let c0_i32_4 : BitVec 32 := 0#32
  let c16_i32_5 : BitVec 32 := 16#32
  let v10 : BitVec 32 := Scalar.addi c0_i32_4 c16_i32_5
  let c1_i32_6 : BitVec 32 := 1#32
  ⟨c0_i32_4, v10, c1_i32_6⟩
@[reducible] def k0_t3_loop : Scf.Loop 32 :=
  let c0_i32_40 : BitVec 32 := 0#32
  let c3_i32 : BitVec 32 := 3#32
  let v28 : BitVec 32 := Scalar.addi c0_i32_40 c3_i32
  let c1_i32_41 : BitVec 32 := 1#32
  ⟨c0_i32_40, v28, c1_i32_41⟩
def k0_off3 (k0_t2 : Fin k0_t2_loop.trips) (k0_t3 : Fin k0_t3_loop.trips) : Fin 1 → Nat :=
  let c0_i32_39 : BitVec 32 := 0#32
  let c0_i32_4 : BitVec 32 := 0#32
  let c1_i32_6 : BitVec 32 := 1#32
  let arg8 : BitVec 32 := Scf.iv c0_i32_4 c1_i32_6 k0_t2
  let c1_i32_38 : BitVec 32 := 1#32
  let v26 : BitVec 32 := Scalar.muli arg8 c1_i32_38
  let v27 : BitVec 32 := Scalar.addi c0_i32_39 v26
  let c3_i32_45 : BitVec 32 := 3#32
  let v31 : BitVec 32 := Scalar.muli v27 c3_i32_45
  let c0_i32_44 : BitVec 32 := 0#32
  let c0_i32_40 : BitVec 32 := 0#32
  let c1_i32_41 : BitVec 32 := 1#32
  let arg9 : BitVec 32 := Scf.iv c0_i32_40 c1_i32_41 k0_t3
  let c1_i32_43 : BitVec 32 := 1#32
  let v29 : BitVec 32 := Scalar.muli arg9 c1_i32_43
  let v30 : BitVec 32 := Scalar.addi c0_i32_44 v29
  let v32 : BitVec 32 := Scalar.addi v31 v30
  let c256_i32_46 : BitVec 32 := 256#32
  let v33 : BitVec 32 := Scalar.muli v32 c256_i32_46
  ![v33.toNat]
def k0_off4 (i : grid0.Coords) (k0_t2 : Fin k0_t2_loop.trips) (k0_t3 : Fin k0_t3_loop.trips) : Fin 1 → Nat :=
  let c0_i32_47 : BitVec 32 := 0#32
  let c0_i32_39 : BitVec 32 := 0#32
  let c0_i32_4 : BitVec 32 := 0#32
  let c1_i32_6 : BitVec 32 := 1#32
  let arg8 : BitVec 32 := Scf.iv c0_i32_4 c1_i32_6 k0_t2
  let c1_i32_38 : BitVec 32 := 1#32
  let v26 : BitVec 32 := Scalar.muli arg8 c1_i32_38
  let v27 : BitVec 32 := Scalar.addi c0_i32_39 v26
  let v34 : BitVec 32 := Scalar.addi c0_i32_47 v27
  let c3_i32_48 : BitVec 32 := 3#32
  let v35 : BitVec 32 := Scalar.muli v34 c3_i32_48
  let c0_i32_44 : BitVec 32 := 0#32
  let c0_i32_40 : BitVec 32 := 0#32
  let c1_i32_41 : BitVec 32 := 1#32
  let arg9 : BitVec 32 := Scf.iv c0_i32_40 c1_i32_41 k0_t3
  let c1_i32_43 : BitVec 32 := 1#32
  let v29 : BitVec 32 := Scalar.muli arg9 c1_i32_43
  let v30 : BitVec 32 := Scalar.addi c0_i32_44 v29
  let v36 : BitVec 32 := Scalar.addi v35 v30
  let c8192_i32_49 : BitVec 32 := 8192#32
  let v37 : BitVec 32 := Scalar.muli v36 c8192_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v38 : BitVec 32 := Scalar.addi v37 v2
  ![v38.toNat]
@[reducible] def k0_t4_loop : Scf.Loop 32 :=
  let c0_i32_10 : BitVec 32 := 0#32
  let c256_i32_11 : BitVec 32 := 256#32
  let v13 : BitVec 32 := Scalar.addi c0_i32_10 c256_i32_11
  let c1_i32_12 : BitVec 32 := 1#32
  ⟨c0_i32_10, v13, c1_i32_12⟩
def k0_off5 (k0_t4 : Fin k0_t4_loop.trips) : Fin 1 → Nat :=
  let c0_i32_10 : BitVec 32 := 0#32
  let c1_i32_12 : BitVec 32 := 1#32
  let arg8 : BitVec 32 := Scf.iv c0_i32_10 c1_i32_12 k0_t4
  let c16_i32_38 : BitVec 32 := 16#32
  let v26 : BitVec 32 := Scalar.muli arg8 c16_i32_38
  let v27 : Index := Scalar.indexCast v26
  ![v27.toNat]

def k0_chk7 (v30 : IVec S16 32) : Prop :=
  (∀ a x, ((![v30] : Fin 1 → IVec S16 32) a x).toNat < S24576.size a)
theorem k0_idx7_inb : ∀ (v30 : IVec S16 32) (k0_hw7 : k0_chk7 v30), ∀ a x, ((![v30] : Fin 1 → IVec S16 32) a x).toNat < S24576.size a := fun v30 k0_hw7 => k0_hw7

def k0_chk8 (v34 : IVec S16 32) : Prop :=
  (∀ a x, ((![v34] : Fin 1 → IVec S16 32) a x).toNat < S12288.size a)
theorem k0_idx8_inb : ∀ (v34 : IVec S16 32) (k0_hw8 : k0_chk8 v34), ∀ a x, ((![v34] : Fin 1 → IVec S16 32) a x).toNat < S12288.size a := fun v34 k0_hw8 => k0_hw8

def k0_chk9 (v36 : IVec S16 32) : Prop :=
  (∀ a x, ((![v36] : Fin 1 → IVec S16 32) a x).toNat < S24576.size a)
theorem k0_idx9_inb : ∀ (v36 : IVec S16 32) (k0_hw9 : k0_chk9 v36), ∀ a x, ((![v36] : Fin 1 → IVec S16 32) a x).toNat < S24576.size a := fun v36 k0_hw9 => k0_hw9

def k0_chk10 (v40 : IVec S16 32) : Prop :=
  (∀ a x, ((![v40] : Fin 1 → IVec S16 32) a x).toNat < S12288.size a)
theorem k0_idx10_inb : ∀ (v40 : IVec S16 32) (k0_hw10 : k0_chk10 v40), ∀ a x, ((![v40] : Fin 1 → IVec S16 32) a x).toNat < S12288.size a := fun v40 k0_hw10 => k0_hw10

def k0_chk11 (v42 : IVec S16 32) : Prop :=
  (∀ a x, ((![v42] : Fin 1 → IVec S16 32) a x).toNat < S24576.size a)
theorem k0_idx11_inb : ∀ (v42 : IVec S16 32) (k0_hw11 : k0_chk11 v42), ∀ a x, ((![v42] : Fin 1 → IVec S16 32) a x).toNat < S24576.size a := fun v42 k0_hw11 => k0_hw11

def k0_chk12 (v46 : IVec S16 32) : Prop :=
  (∀ a x, ((![v46] : Fin 1 → IVec S16 32) a x).toNat < S12288.size a)
theorem k0_idx12_inb : ∀ (v46 : IVec S16 32) (k0_hw12 : k0_chk12 v46), ∀ a x, ((![v46] : Fin 1 → IVec S16 32) a x).toNat < S12288.size a := fun v46 k0_hw12 => k0_hw12
@[reducible] def k0_t5_loop : Scf.Loop 32 :=
  let c0_i32_14 : BitVec 32 := 0#32
  let c16_i32_15 : BitVec 32 := 16#32
  let v15 : BitVec 32 := Scalar.addi c0_i32_14 c16_i32_15
  let c1_i32_16 : BitVec 32 := 1#32
  ⟨c0_i32_14, v15, c1_i32_16⟩
@[reducible] def k0_t6_loop : Scf.Loop 32 :=
  let c0_i32_40 : BitVec 32 := 0#32
  let c3_i32 : BitVec 32 := 3#32
  let v28 : BitVec 32 := Scalar.addi c0_i32_40 c3_i32
  let c1_i32_41 : BitVec 32 := 1#32
  ⟨c0_i32_40, v28, c1_i32_41⟩
def k0_off6 (k0_t5 : Fin k0_t5_loop.trips) (k0_t6 : Fin k0_t6_loop.trips) : Fin 1 → Nat :=
  let c0_i32_39 : BitVec 32 := 0#32
  let c0_i32_14 : BitVec 32 := 0#32
  let c1_i32_16 : BitVec 32 := 1#32
  let arg8 : BitVec 32 := Scf.iv c0_i32_14 c1_i32_16 k0_t5
  let c1_i32_38 : BitVec 32 := 1#32
  let v26 : BitVec 32 := Scalar.muli arg8 c1_i32_38
  let v27 : BitVec 32 := Scalar.addi c0_i32_39 v26
  let c3_i32_45 : BitVec 32 := 3#32
  let v31 : BitVec 32 := Scalar.muli v27 c3_i32_45
  let c0_i32_44 : BitVec 32 := 0#32
  let c0_i32_40 : BitVec 32 := 0#32
  let c1_i32_41 : BitVec 32 := 1#32
  let arg9 : BitVec 32 := Scf.iv c0_i32_40 c1_i32_41 k0_t6
  let c1_i32_43 : BitVec 32 := 1#32
  let v29 : BitVec 32 := Scalar.muli arg9 c1_i32_43
  let v30 : BitVec 32 := Scalar.addi c0_i32_44 v29
  let v32 : BitVec 32 := Scalar.addi v31 v30
  let c256_i32_46 : BitVec 32 := 256#32
  let v33 : BitVec 32 := Scalar.muli v32 c256_i32_46
  ![v33.toNat]
def k0_off7 (i : grid0.Coords) (k0_t5 : Fin k0_t5_loop.trips) (k0_t6 : Fin k0_t6_loop.trips) : Fin 1 → Nat :=
  let c16_i32_47 : BitVec 32 := 16#32
  let c0_i32_39 : BitVec 32 := 0#32
  let c0_i32_14 : BitVec 32 := 0#32
  let c1_i32_16 : BitVec 32 := 1#32
  let arg8 : BitVec 32 := Scf.iv c0_i32_14 c1_i32_16 k0_t5
  let c1_i32_38 : BitVec 32 := 1#32
  let v26 : BitVec 32 := Scalar.muli arg8 c1_i32_38
  let v27 : BitVec 32 := Scalar.addi c0_i32_39 v26
  let v34 : BitVec 32 := Scalar.addi c16_i32_47 v27
  let c3_i32_48 : BitVec 32 := 3#32
  let v35 : BitVec 32 := Scalar.muli v34 c3_i32_48
  let c0_i32_44 : BitVec 32 := 0#32
  let c0_i32_40 : BitVec 32 := 0#32
  let c1_i32_41 : BitVec 32 := 1#32
  let arg9 : BitVec 32 := Scf.iv c0_i32_40 c1_i32_41 k0_t6
  let c1_i32_43 : BitVec 32 := 1#32
  let v29 : BitVec 32 := Scalar.muli arg9 c1_i32_43
  let v30 : BitVec 32 := Scalar.addi c0_i32_44 v29
  let v36 : BitVec 32 := Scalar.addi v35 v30
  let c8192_i32_49 : BitVec 32 := 8192#32
  let v37 : BitVec 32 := Scalar.muli v36 c8192_i32_49
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v38 : BitVec 32 := Scalar.addi v37 v2
  ![v38.toNat]
@[reducible] def k0_t7_loop : Scf.Loop 32 :=
  let c0_i32_20 : BitVec 32 := 0#32
  let c256_i32_21 : BitVec 32 := 256#32
  let v18 : BitVec 32 := Scalar.addi c0_i32_20 c256_i32_21
  let c1_i32_22 : BitVec 32 := 1#32
  ⟨c0_i32_20, v18, c1_i32_22⟩
def k0_off8 (k0_t7 : Fin k0_t7_loop.trips) : Fin 1 → Nat :=
  let c0_i32_20 : BitVec 32 := 0#32
  let c1_i32_22 : BitVec 32 := 1#32
  let arg8 : BitVec 32 := Scf.iv c0_i32_20 c1_i32_22 k0_t7
  let c16_i32_38 : BitVec 32 := 16#32
  let v26 : BitVec 32 := Scalar.muli arg8 c16_i32_38
  let v27 : Index := Scalar.indexCast v26
  ![v27.toNat]

def k0_chk13 (v30 : IVec S16 32) : Prop :=
  (∀ a x, ((![v30] : Fin 1 → IVec S16 32) a x).toNat < S24576.size a)
theorem k0_idx13_inb : ∀ (v30 : IVec S16 32) (k0_hw13 : k0_chk13 v30), ∀ a x, ((![v30] : Fin 1 → IVec S16 32) a x).toNat < S24576.size a := fun v30 k0_hw13 => k0_hw13

def k0_chk14 (v34 : IVec S16 32) : Prop :=
  (∀ a x, ((![v34] : Fin 1 → IVec S16 32) a x).toNat < S12288.size a)
theorem k0_idx14_inb : ∀ (v34 : IVec S16 32) (k0_hw14 : k0_chk14 v34), ∀ a x, ((![v34] : Fin 1 → IVec S16 32) a x).toNat < S12288.size a := fun v34 k0_hw14 => k0_hw14

def k0_chk15 (v36 : IVec S16 32) : Prop :=
  (∀ a x, ((![v36] : Fin 1 → IVec S16 32) a x).toNat < S24576.size a)
theorem k0_idx15_inb : ∀ (v36 : IVec S16 32) (k0_hw15 : k0_chk15 v36), ∀ a x, ((![v36] : Fin 1 → IVec S16 32) a x).toNat < S24576.size a := fun v36 k0_hw15 => k0_hw15

def k0_chk16 (v40 : IVec S16 32) : Prop :=
  (∀ a x, ((![v40] : Fin 1 → IVec S16 32) a x).toNat < S12288.size a)
theorem k0_idx16_inb : ∀ (v40 : IVec S16 32) (k0_hw16 : k0_chk16 v40), ∀ a x, ((![v40] : Fin 1 → IVec S16 32) a x).toNat < S12288.size a := fun v40 k0_hw16 => k0_hw16

def k0_chk17 (v42 : IVec S16 32) : Prop :=
  (∀ a x, ((![v42] : Fin 1 → IVec S16 32) a x).toNat < S24576.size a)
theorem k0_idx17_inb : ∀ (v42 : IVec S16 32) (k0_hw17 : k0_chk17 v42), ∀ a x, ((![v42] : Fin 1 → IVec S16 32) a x).toNat < S24576.size a := fun v42 k0_hw17 => k0_hw17

def k0_chk18 (v46 : IVec S16 32) : Prop :=
  (∀ a x, ((![v46] : Fin 1 → IVec S16 32) a x).toNat < S12288.size a)
theorem k0_idx18_inb : ∀ (v46 : IVec S16 32) (k0_hw18 : k0_chk18 v46), ∀ a x, ((![v46] : Fin 1 → IVec S16 32) a x).toNat < S12288.size a := fun v46 k0_hw18 => k0_hw18
@[reducible] def k0_t8_loop : Scf.Loop 32 :=
  let c0_i32_24 : BitVec 32 := 0#32
  let c16_i32_25 : BitVec 32 := 16#32
  let v20 : BitVec 32 := Scalar.addi c0_i32_24 c16_i32_25
  let c1_i32_26 : BitVec 32 := 1#32
  ⟨c0_i32_24, v20, c1_i32_26⟩
@[reducible] def k0_t9_loop : Scf.Loop 32 :=
  let c0_i32_40 : BitVec 32 := 0#32
  let c3_i32 : BitVec 32 := 3#32
  let v28 : BitVec 32 := Scalar.addi c0_i32_40 c3_i32
  let c1_i32_41 : BitVec 32 := 1#32
  ⟨c0_i32_40, v28, c1_i32_41⟩
def k0_off9 (k0_t8 : Fin k0_t8_loop.trips) (k0_t9 : Fin k0_t9_loop.trips) : Fin 1 → Nat :=
  let c0_i32_39 : BitVec 32 := 0#32
  let c0_i32_24 : BitVec 32 := 0#32
  let c1_i32_26 : BitVec 32 := 1#32
  let arg8 : BitVec 32 := Scf.iv c0_i32_24 c1_i32_26 k0_t8
  let c1_i32_38 : BitVec 32 := 1#32
  let v26 : BitVec 32 := Scalar.muli arg8 c1_i32_38
  let v27 : BitVec 32 := Scalar.addi c0_i32_39 v26
  let c3_i32_45 : BitVec 32 := 3#32
  let v31 : BitVec 32 := Scalar.muli v27 c3_i32_45
  let c0_i32_44 : BitVec 32 := 0#32
  let c0_i32_40 : BitVec 32 := 0#32
  let c1_i32_41 : BitVec 32 := 1#32
  let arg9 : BitVec 32 := Scf.iv c0_i32_40 c1_i32_41 k0_t9
  let c1_i32_43 : BitVec 32 := 1#32
  let v29 : BitVec 32 := Scalar.muli arg9 c1_i32_43
  let v30 : BitVec 32 := Scalar.addi c0_i32_44 v29
  let v32 : BitVec 32 := Scalar.addi v31 v30
  let c256_i32_46 : BitVec 32 := 256#32
  let v33 : BitVec 32 := Scalar.muli v32 c256_i32_46
  ![v33.toNat]
def k0_off10 (i : grid0.Coords) (k0_t8 : Fin k0_t8_loop.trips) (k0_t9 : Fin k0_t9_loop.trips) : Fin 1 → Nat :=
  let c32_i32 : BitVec 32 := 32#32
  let c0_i32_39 : BitVec 32 := 0#32
  let c0_i32_24 : BitVec 32 := 0#32
  let c1_i32_26 : BitVec 32 := 1#32
  let arg8 : BitVec 32 := Scf.iv c0_i32_24 c1_i32_26 k0_t8
  let c1_i32_38 : BitVec 32 := 1#32
  let v26 : BitVec 32 := Scalar.muli arg8 c1_i32_38
  let v27 : BitVec 32 := Scalar.addi c0_i32_39 v26
  let v34 : BitVec 32 := Scalar.addi c32_i32 v27
  let c3_i32_47 : BitVec 32 := 3#32
  let v35 : BitVec 32 := Scalar.muli v34 c3_i32_47
  let c0_i32_44 : BitVec 32 := 0#32
  let c0_i32_40 : BitVec 32 := 0#32
  let c1_i32_41 : BitVec 32 := 1#32
  let arg9 : BitVec 32 := Scf.iv c0_i32_40 c1_i32_41 k0_t9
  let c1_i32_43 : BitVec 32 := 1#32
  let v29 : BitVec 32 := Scalar.muli arg9 c1_i32_43
  let v30 : BitVec 32 := Scalar.addi c0_i32_44 v29
  let v36 : BitVec 32 := Scalar.addi v35 v30
  let c8192_i32_48 : BitVec 32 := 8192#32
  let v37 : BitVec 32 := Scalar.muli v36 c8192_i32_48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v38 : BitVec 32 := Scalar.addi v37 v2
  ![v38.toNat]
@[reducible] def k0_t10_loop : Scf.Loop 32 :=
  let c0_i32_30 : BitVec 32 := 0#32
  let c256_i32_31 : BitVec 32 := 256#32
  let v23 : BitVec 32 := Scalar.addi c0_i32_30 c256_i32_31
  let c1_i32_32 : BitVec 32 := 1#32
  ⟨c0_i32_30, v23, c1_i32_32⟩
def k0_off11 (k0_t10 : Fin k0_t10_loop.trips) : Fin 1 → Nat :=
  let c0_i32_30 : BitVec 32 := 0#32
  let c1_i32_32 : BitVec 32 := 1#32
  let arg8 : BitVec 32 := Scf.iv c0_i32_30 c1_i32_32 k0_t10
  let c16_i32_38 : BitVec 32 := 16#32
  let v26 : BitVec 32 := Scalar.muli arg8 c16_i32_38
  let v27 : Index := Scalar.indexCast v26
  ![v27.toNat]

def k0_chk19 (v30 : IVec S16 32) : Prop :=
  (∀ a x, ((![v30] : Fin 1 → IVec S16 32) a x).toNat < S24576.size a)
theorem k0_idx19_inb : ∀ (v30 : IVec S16 32) (k0_hw19 : k0_chk19 v30), ∀ a x, ((![v30] : Fin 1 → IVec S16 32) a x).toNat < S24576.size a := fun v30 k0_hw19 => k0_hw19

def k0_chk20 (v34 : IVec S16 32) : Prop :=
  (∀ a x, ((![v34] : Fin 1 → IVec S16 32) a x).toNat < S12288.size a)
theorem k0_idx20_inb : ∀ (v34 : IVec S16 32) (k0_hw20 : k0_chk20 v34), ∀ a x, ((![v34] : Fin 1 → IVec S16 32) a x).toNat < S12288.size a := fun v34 k0_hw20 => k0_hw20

def k0_chk21 (v36 : IVec S16 32) : Prop :=
  (∀ a x, ((![v36] : Fin 1 → IVec S16 32) a x).toNat < S24576.size a)
theorem k0_idx21_inb : ∀ (v36 : IVec S16 32) (k0_hw21 : k0_chk21 v36), ∀ a x, ((![v36] : Fin 1 → IVec S16 32) a x).toNat < S24576.size a := fun v36 k0_hw21 => k0_hw21

def k0_chk22 (v40 : IVec S16 32) : Prop :=
  (∀ a x, ((![v40] : Fin 1 → IVec S16 32) a x).toNat < S12288.size a)
theorem k0_idx22_inb : ∀ (v40 : IVec S16 32) (k0_hw22 : k0_chk22 v40), ∀ a x, ((![v40] : Fin 1 → IVec S16 32) a x).toNat < S12288.size a := fun v40 k0_hw22 => k0_hw22

def k0_chk23 (v42 : IVec S16 32) : Prop :=
  (∀ a x, ((![v42] : Fin 1 → IVec S16 32) a x).toNat < S24576.size a)
theorem k0_idx23_inb : ∀ (v42 : IVec S16 32) (k0_hw23 : k0_chk23 v42), ∀ a x, ((![v42] : Fin 1 → IVec S16 32) a x).toNat < S24576.size a := fun v42 k0_hw23 => k0_hw23

def k0_chk24 (v46 : IVec S16 32) : Prop :=
  (∀ a x, ((![v46] : Fin 1 → IVec S16 32) a x).toNat < S12288.size a)
theorem k0_idx24_inb : ∀ (v46 : IVec S16 32) (k0_hw24 : k0_chk24 v46), ∀ a x, ((![v46] : Fin 1 → IVec S16 32) a x).toNat < S12288.size a := fun v46 k0_hw24 => k0_hw24
@[reducible] def k0_t11_loop : Scf.Loop 32 :=
  let c0_i32_34 : BitVec 32 := 0#32
  let c16_i32_35 : BitVec 32 := 16#32
  let v25 : BitVec 32 := Scalar.addi c0_i32_34 c16_i32_35
  let c1_i32_36 : BitVec 32 := 1#32
  ⟨c0_i32_34, v25, c1_i32_36⟩
@[reducible] def k0_t12_loop : Scf.Loop 32 :=
  let c0_i32_40 : BitVec 32 := 0#32
  let c3_i32 : BitVec 32 := 3#32
  let v28 : BitVec 32 := Scalar.addi c0_i32_40 c3_i32
  let c1_i32_41 : BitVec 32 := 1#32
  ⟨c0_i32_40, v28, c1_i32_41⟩
def k0_off12 (k0_t11 : Fin k0_t11_loop.trips) (k0_t12 : Fin k0_t12_loop.trips) : Fin 1 → Nat :=
  let c0_i32_39 : BitVec 32 := 0#32
  let c0_i32_34 : BitVec 32 := 0#32
  let c1_i32_36 : BitVec 32 := 1#32
  let arg8 : BitVec 32 := Scf.iv c0_i32_34 c1_i32_36 k0_t11
  let c1_i32_38 : BitVec 32 := 1#32
  let v26 : BitVec 32 := Scalar.muli arg8 c1_i32_38
  let v27 : BitVec 32 := Scalar.addi c0_i32_39 v26
  let c3_i32_45 : BitVec 32 := 3#32
  let v31 : BitVec 32 := Scalar.muli v27 c3_i32_45
  let c0_i32_44 : BitVec 32 := 0#32
  let c0_i32_40 : BitVec 32 := 0#32
  let c1_i32_41 : BitVec 32 := 1#32
  let arg9 : BitVec 32 := Scf.iv c0_i32_40 c1_i32_41 k0_t12
  let c1_i32_43 : BitVec 32 := 1#32
  let v29 : BitVec 32 := Scalar.muli arg9 c1_i32_43
  let v30 : BitVec 32 := Scalar.addi c0_i32_44 v29
  let v32 : BitVec 32 := Scalar.addi v31 v30
  let c256_i32_46 : BitVec 32 := 256#32
  let v33 : BitVec 32 := Scalar.muli v32 c256_i32_46
  ![v33.toNat]
def k0_off13 (i : grid0.Coords) (k0_t11 : Fin k0_t11_loop.trips) (k0_t12 : Fin k0_t12_loop.trips) : Fin 1 → Nat :=
  let c48_i32 : BitVec 32 := 48#32
  let c0_i32_39 : BitVec 32 := 0#32
  let c0_i32_34 : BitVec 32 := 0#32
  let c1_i32_36 : BitVec 32 := 1#32
  let arg8 : BitVec 32 := Scf.iv c0_i32_34 c1_i32_36 k0_t11
  let c1_i32_38 : BitVec 32 := 1#32
  let v26 : BitVec 32 := Scalar.muli arg8 c1_i32_38
  let v27 : BitVec 32 := Scalar.addi c0_i32_39 v26
  let v34 : BitVec 32 := Scalar.addi c48_i32 v27
  let c3_i32_47 : BitVec 32 := 3#32
  let v35 : BitVec 32 := Scalar.muli v34 c3_i32_47
  let c0_i32_44 : BitVec 32 := 0#32
  let c0_i32_40 : BitVec 32 := 0#32
  let c1_i32_41 : BitVec 32 := 1#32
  let arg9 : BitVec 32 := Scf.iv c0_i32_40 c1_i32_41 k0_t12
  let c1_i32_43 : BitVec 32 := 1#32
  let v29 : BitVec 32 := Scalar.muli arg9 c1_i32_43
  let v30 : BitVec 32 := Scalar.addi c0_i32_44 v29
  let v36 : BitVec 32 := Scalar.addi v35 v30
  let c8192_i32_48 : BitVec 32 := 8192#32
  let v37 : BitVec 32 := Scalar.muli v36 c8192_i32_48
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v38 : BitVec 32 := Scalar.addi v37 v2
  ![v38.toNat]
abbrev grid1 : Pipeline.Grid := ⟨2, ![4, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x16x3x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x3 : Shape := ⟨3, ![4, 8192, 3]⟩
abbrev S4x8192x16 : Shape := ⟨3, ![4, 8192, 16]⟩
abbrev S64x3 : Shape := ⟨2, ![64, 3]⟩
abbrev S128x64 : Shape := ⟨2, ![128, 64]⟩
abbrev S128 : Shape := ⟨1, ![128]⟩
abbrev S4x3x8192 : Shape := ⟨3, ![4, 3, 8192]⟩
abbrev S4x8192x15 : Shape := ⟨3, ![4, 8192, 15]⟩
abbrev S4x3x1x8192 : Shape := ⟨4, ![4, 3, 1, 8192]⟩
abbrev S4x1x8192x15 : Shape := ⟨4, ![4, 1, 8192, 15]⟩
abbrev S_ : Shape := ⟨0, ![]⟩
abbrev S4x8192x15x1 : Shape := ⟨4, ![4, 8192, 15, 1]⟩
abbrev S1 : Shape := ⟨1, ![1]⟩
abbrev S1x1x1x1 : Shape := ⟨4, ![1, 1, 1, 1]⟩
abbrev S4x3x8192x15 : Shape := ⟨4, ![4, 3, 8192, 15]⟩
abbrev S4x3x8192x1 : Shape := ⟨4, ![4, 3, 8192, 1]⟩
abbrev S4x8192x15x64 : Shape := ⟨4, ![4, 8192, 15, 64]⟩
abbrev S4x64x8192x15 : Shape := ⟨4, ![4, 64, 8192, 15]⟩
abbrev S4x64x8192 : Shape := ⟨3, ![4, 64, 8192]⟩
abbrev S4x8192x128 : Shape := ⟨3, ![4, 8192, 128]⟩
abbrev S4x128x8192 : Shape := ⟨3, ![4, 128, 8192]⟩
abbrev S1x128x1 : Shape := ⟨3, ![1, 128, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x16, .i32⟩
  | .hbm, ⟨2, _⟩ => ⟨S64x3, .f32⟩
  | .hbm, ⟨3, _⟩ => ⟨S128x64, .f32⟩
  | .hbm, ⟨4, _⟩ => ⟨S128, .f32⟩
  | .hbm, ⟨5, _⟩ => ⟨S4x3x8192, .f32⟩
  | .hbm, ⟨6, _⟩ => ⟨S4x8192x15, .i32⟩
  | .hbm, ⟨7, _⟩ => ⟨S4x3x1x8192, .f32⟩
  | .hbm, ⟨8, _⟩ => ⟨S4x1x8192x15, .i32⟩
  | .hbm, ⟨9, _⟩ => ⟨S_, .i32⟩
  | .hbm, ⟨10, _⟩ => ⟨S4x1x8192x15, .i32⟩
  | .hbm, ⟨11, _⟩ => ⟨S4x1x8192x15, .i1⟩
  | .hbm, ⟨12, _⟩ => ⟨S_, .i32⟩
  | .hbm, ⟨13, _⟩ => ⟨S4x1x8192x15, .i32⟩
  | .hbm, ⟨14, _⟩ => ⟨S4x1x8192x15, .i32⟩
  | .hbm, ⟨15, _⟩ => ⟨S4x1x8192x15, .i32⟩
  | .hbm, ⟨16, _⟩ => ⟨S4x8192x15x1, .i32⟩
  | .hbm, ⟨17, _⟩ => ⟨S4x3x8192, .f32⟩
  | .hbm, ⟨18, _⟩ => ⟨S1, .i32⟩
  | .hbm, ⟨19, _⟩ => ⟨S_, .i32⟩
  | .hbm, ⟨20, _⟩ => ⟨S4x8192x15x1, .i32⟩
  | .hbm, ⟨21, _⟩ => ⟨S4x8192x15x1, .i1⟩
  | .hbm, ⟨22, _⟩ => ⟨S1x1x1x1, .i32⟩
  | .hbm, ⟨23, _⟩ => ⟨S4x8192x15x1, .i32⟩
  | .hbm, ⟨24, _⟩ => ⟨S4x8192x15x1, .i1⟩
  | .hbm, ⟨25, _⟩ => ⟨S4x8192x15x1, .i1⟩
  | .hbm, ⟨26, _⟩ => ⟨S_, .i1⟩
  | .hbm, ⟨27, _⟩ => ⟨S4x8192x15, .i1⟩
  | .hbm, ⟨28, _⟩ => ⟨S4x3x8192x15, .f32⟩
  | .hbm, ⟨29, _⟩ => ⟨S4x3x8192x15, .i1⟩
  | .hbm, ⟨30, _⟩ => ⟨S_, .f32⟩
  | .hbm, ⟨31, _⟩ => ⟨S4x3x8192x15, .f32⟩
  | .hbm, ⟨32, _⟩ => ⟨S4x3x8192x15, .f32⟩
  | .hbm, ⟨33, _⟩ => ⟨S4x3x8192, .f32⟩
  | .hbm, ⟨34, _⟩ => ⟨S4x3x8192x1, .f32⟩
  | .hbm, ⟨35, _⟩ => ⟨S4x3x8192x15, .f32⟩
  | .hbm, ⟨36, _⟩ => ⟨S4x3x8192x15, .f32⟩
  | .hbm, ⟨37, _⟩ => ⟨S4x3x8192x15, .f32⟩
  | .hbm, ⟨38, _⟩ => ⟨S_, .f32⟩
  | .hbm, ⟨39, _⟩ => ⟨S4x8192x15, .f32⟩
  | .hbm, ⟨40, _⟩ => ⟨S4x1x8192x15, .f32⟩
  | .hbm, ⟨41, _⟩ => ⟨S4x1x8192x15, .f32⟩
  | .hbm, ⟨42, _⟩ => ⟨S_, .f32⟩
  | .hbm, ⟨43, _⟩ => ⟨S4x1x8192x15, .f32⟩
  | .hbm, ⟨44, _⟩ => ⟨S4x1x8192x15, .f32⟩
  | .hbm, ⟨45, _⟩ => ⟨S4x8192x15x64, .f32⟩
  | .hbm, ⟨46, _⟩ => ⟨S4x64x8192x15, .f32⟩
  | .hbm, ⟨47, _⟩ => ⟨S4x64x8192x15, .f32⟩
  | .hbm, ⟨48, _⟩ => ⟨S4x64x8192x15, .f32⟩
  | .hbm, ⟨49, _⟩ => ⟨S4x64x8192x15, .f32⟩
  | .hbm, ⟨50, _⟩ => ⟨S4x64x8192x15, .f32⟩
  | .hbm, ⟨51, _⟩ => ⟨S4x64x8192x15, .f32⟩
  | .hbm, ⟨52, _⟩ => ⟨S4x64x8192x15, .f32⟩
  | .hbm, ⟨53, _⟩ => ⟨S_, .f32⟩
  | .hbm, ⟨54, _⟩ => ⟨S4x64x8192, .f32⟩
  | .hbm, ⟨55, _⟩ => ⟨S4x8192x128, .f32⟩
  | .hbm, ⟨56, _⟩ => ⟨S4x128x8192, .f32⟩
  | .hbm, ⟨57, _⟩ => ⟨S1x128x1, .f32⟩
  | .hbm, ⟨58, _⟩ => ⟨S4x128x8192, .f32⟩
  | .hbm, ⟨59, _⟩ => ⟨S4x128x8192, .f32⟩
  | .hbm, ⟨60, _⟩ => ⟨S_, .f32⟩
  | .hbm, ⟨61, _⟩ => ⟨S4x128x8192, .f32⟩
  | .hbm, ⟨62, _⟩ => ⟨S4x128x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_c_1 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_c_3 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_cst : Ref sig .tc := ⟨.hbm, 30, rfl⟩
abbrev main_call0_v16 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_0 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call2_cst : Ref sig .tc := ⟨.hbm, 60, rfl⟩
abbrev main_call2_v0 : Ref sig .tc := ⟨.hbm, 61, rfl⟩
abbrev main_v26 : Ref sig .tc := ⟨.hbm, 62, rfl⟩

abbrev nD : Nat := 1
abbrev τ : Topo := Topo.v7x

variable {F : FTy → Type} [FloatOps F]
-- ==== Search.lean ====
abbrev S4x8192x3 : Shape := ⟨3, ![4, 8192, 3]⟩
abbrev S4x3x8192 : Shape := ⟨3, ![4, 3, 8192]⟩
abbrev S4x8192x16 : Shape := ⟨3, ![4, 8192, 16]⟩
abbrev S1x256x3 : Shape := ⟨3, ![1, 256, 3]⟩
abbrev S1x3x8192 : Shape := ⟨3, ![1, 3, 8192]⟩
abbrev S1x256x16 : Shape := ⟨3, ![1, 256, 16]⟩
abbrev S256x8192 : Shape := ⟨2, ![256, 8192]⟩
abbrev S3x8192 : Shape := ⟨2, ![3, 8192]⟩
abbrev S256x3 : Shape := ⟨2, ![256, 3]⟩
abbrev S256x1 : Shape := ⟨2, ![256, 1]⟩
abbrev S1x8192 : Shape := ⟨2, ![1, 8192]⟩
abbrev S1x512 : Shape := ⟨2, ![1, 512]⟩
abbrev S256x512 : Shape := ⟨2, ![256, 512]⟩
abbrev S256x128 : Shape := ⟨2, ![256, 128]⟩
abbrev S256 : Shape := ⟨1, ![256]⟩
abbrev S256x16 : Shape := ⟨2, ![256, 16]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x3x8192, .f32⟩
  | .hbm, ⟨2, _⟩ => ⟨S4x8192x16, .i32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x3x8192, .f32⟩
  | .local _ .vmem, ⟨4, _⟩ => ⟨S1x256x16, .i32⟩
  | .local _ .vmem, ⟨5, _⟩ => ⟨S1x256x16, .i32⟩
  | .local _ .vmem, ⟨6, _⟩ => ⟨S256x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearestIdeal.lean ====
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x8192x16 : Shape := ⟨3, ![4, 8192, 16]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192, .f32⟩
  | .hbm, ⟨4, _⟩ => ⟨S4x8192x1, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x1x8192, .f32⟩
  | .hbm, ⟨9, _⟩ => ⟨S4x8192x8192, .f32⟩
  | .hbm, ⟨10, _⟩ => ⟨S4x8192x8192, .f32⟩
  | .hbm, ⟨11, _⟩ => ⟨S4x8192x8192, .f32⟩
  | .hbm, ⟨12, _⟩ => ⟨S4x8192x8192, .f32⟩
  | .hbm, ⟨13, _⟩ => ⟨S_, .f32⟩
  | .hbm, ⟨14, _⟩ => ⟨S4x8192x8192, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S4x8192x16, .f32⟩
  | .hbm, ⟨19, _⟩ => ⟨S4x8192x16, .i32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_values : Ref sig .tc := ⟨.hbm, 18, rfl⟩
abbrev main_indices : Ref sig .tc := ⟨.hbm, 19, rfl⟩

abbrev nD : Nat := 1
abbrev τ : Topo := Topo.v7x

variable {F : FTy → Type} [FloatOps F]
-- ==== Proof.Ideal.Gather.lean ====
/-
  The words a tile of the gather computes: the closed offsets of its slices, the index vectors of its sixteen-lane
  gathers and scatters, and what one trip of its loop leaves in the row buffer. All of it is about plain functions; the
  four batches' loops are shown to be one program.
-/
module

public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F]

/-! ## One loop for the four batches -/

section Same

variable (i : grid0.Coords) (a2 : Memref sig .scVector .hbm S98304 .f32) (h2 : a2.IsWhole) (a3 : Memref sig .scVector .hbm S524288 .i32)
  (h3 : a3.IsWhole) (a4 : Memref sig .scVector .hbm S1572864 .f32) (h4 : a4.IsWhole) (a5 : Memref sig .scVector .vmem S24576 .f32) (h5 : a5.IsWhole)
  (a6 : Memref sig .scVector .vmem S4096 .i32) (h6 : a6.IsWhole) (a7 : Memref sig .scVector .vmem S12288 .f32) (h7 : a7.IsWhole)
  (s0 s1 s2 s3 s4 s5 s6 s7 s8 s9 s10 s11 : DmaSems sig S_)

theorem t4_eq (w : BitVec 32) : k0_t4_body (F := F) i a2 h2 a3 h3 a4 h4 a5 h5 a6 h6 a7 h7 s0 s1 s2 s3 s4 s5 s6 s7 s8 s9 s10 s11 w k0_pay7
    = k0_t1_body i a2 h2 a3 h3 a4 h4 a5 h5 a6 h6 a7 h7 s0 s1 s2 s3 s4 s5 s6 s7 s8 s9 s10 s11 := rfl
theorem t7_eq (w : BitVec 32) : k0_t7_body (F := F) i a2 h2 a3 h3 a4 h4 a5 h5 a6 h6 a7 h7 s0 s1 s2 s3 s4 s5 s6 s7 s8 s9 s10 s11 w k0_pay7
    = k0_t1_body i a2 h2 a3 h3 a4 h4 a5 h5 a6 h6 a7 h7 s0 s1 s2 s3 s4 s5 s6 s7 s8 s9 s10 s11 := rfl
theorem t10_eq : k0_t10_body (F := F) i a2 h2 a3 h3 a4 h4 a5 h5 a6 h6 a7 h7 s0 s1 s2 s3 s4 s5 s6 s7 s8 s9 s10 s11 k0_pay7
    = k0_t1_body i a2 h2 a3 h3 a4 h4 a5 h5 a6 h6 a7 h7 s0 s1 s2 s3 s4 s5 s6 s7 s8 s9 s10 s11 := rfl

/-- One strip written out: the transfer of a slice of the row buffer to a slice of the result, and its wait. -/
def strip (o o' : Fin 1 → ℕ) (ho : ∀ a, o a + S256.size a ≤ S12288.size a) (ho' : ∀ a, o' a + S256.size a ≤ S1572864.size a) (s : DmaSems sig S_) :
    Prog (TpuEff nD τ sig (Elt F) Λ₀ (.scVector ((i 0).castLE hcore0) ((i 1).castLE hsub0))) Unit := do
  Prog.lift (.enqueueDma (a7.slice (Rect.unit (s := S12288) o S256.size ho) (fun _ => rfl))
    (.here (a4.slice (Rect.unit (s := S1572864) o' S256.size ho') (fun _ => rfl))) (.dma s.sem) (View.wordExact_bits rfl) (View.wordExact_bits rfl) ⟨Or.inl rfl, trivial⟩)
  Prog.lift (.waitDma2 s.sem (a7.slice (Rect.unit (s := S12288) o S256.size ho) (fun _ => rfl))
    (a4.slice (Rect.unit (s := S1572864) o' S256.size ho') (fun _ => rfl)) (View.wordExact_bits rfl) (View.wordExact_bits rfl))
  pure ⟨⟩

/-- The forty-eight strips of one batch. -/
def strips (o o' : Fin 16 → Fin 3 → Fin 1 → ℕ) (ho : ∀ j c a, o j c a + S256.size a ≤ S12288.size a)
    (ho' : ∀ j c a, o' j c a + S256.size a ≤ S1572864.size a) (s : DmaSems sig S_) :
    Fin k0_t2_loop.trips → Unit → Prog (TpuEff nD τ sig (Elt F) Λ₀ (.scVector ((i 0).castLE hcore0) ((i 1).castLE hsub0))) Unit :=
  fun j _ => do
    Scf.Loop.for k0_t3_loop k0_t3_ok ⟨⟩ (fun c _ => strip i a4 a7 (o j c) (o' j c) (ho j c) (ho' j c) s)
    pure ⟨⟩

theorem t2_eq : k0_t2_body (F := F) i a2 h2 a3 h3 a4 h4 a5 h5 a6 h6 a7 h7 s0 s1 s2 s3 s4 s5 s6 s7 s8 s9 s10 s11
    = strips i a4 a7 k0_off3 (k0_off4 i) k0_off3_inb (k0_off4_inb i) s2 := rfl
theorem t5_eq (w : BitVec 32) (v : IVec S16 32) : k0_t5_body (F := F) i a2 h2 a3 h3 a4 h4 a5 h5 a6 h6 a7 h7 s0 s1 s2 s3 s4 s5 s6 s7 s8 s9 s10 s11 w v
    = strips i a4 a7 k0_off6 (k0_off7 i) k0_off6_inb (k0_off7_inb i) s5 := rfl
theorem t8_eq (w : BitVec 32) (v : IVec S16 32) : k0_t8_body (F := F) i a2 h2 a3 h3 a4 h4 a5 h5 a6 h6 a7 h7 s0 s1 s2 s3 s4 s5 s6 s7 s8 s9 s10 s11 w v
    = strips i a4 a7 k0_off9 (k0_off10 i) k0_off9_inb (k0_off10_inb i) s8 := rfl
theorem t11_eq : k0_t11_body (F := F) i a2 h2 a3 h3 a4 h4 a5 h5 a6 h6 a7 h7 s0 s1 s2 s3 s4 s5 s6 s7 s8 s9 s10 s11
    = strips i a4 a7 k0_off12 (k0_off13 i) k0_off12_inb (k0_off13_inb i) s11 := rfl

end Same

/-! ## The tile's program as four runs of one batch -/

/-- One batch of one tile: the batch's coordinate table and the tile's indices copied in, the gather loop, the strips
    copied out. -/
def batch (i : grid0.Coords) (a2 : Memref sig .scVector .hbm S98304 .f32) (a3 : Memref sig .scVector .hbm S524288 .i32)
    (a4 : Memref sig .scVector .hbm S1572864 .f32) (a5 : Memref sig .scVector .vmem S24576 .f32) (h5 : a5.IsWhole)
    (a6 : Memref sig .scVector .vmem S4096 .i32) (h6 : a6.IsWhole) (a7 : Memref sig .scVector .vmem S12288 .f32)
    (loop : Fin k0_t1_loop.trips → BitVec 32 → Prog (TpuEff nD τ sig (Elt F) Λ₀ (.scVector ((i 0).castLE hcore0) ((i 1).castLE hsub0))) (BitVec 32))
    (ot : Fin 1 → ℕ) (hot : ∀ a, ot a + S24576.size a ≤ S98304.size a) (oi : Fin 1 → ℕ) (hoi : ∀ a, oi a + S4096.size a ≤ S524288.size a)
    (o o' : Fin 16 → Fin 3 → Fin 1 → ℕ) (ho : ∀ j c a, o j c a + S256.size a ≤ S12288.size a)
    (ho' : ∀ j c a, o' j c a + S256.size a ≤ S1572864.size a) (st si so : DmaSems sig S_) :
    Prog (TpuEff nD τ sig (Elt F) Λ₀ (.scVector ((i 0).castLE hcore0) ((i 1).castLE hsub0))) PUnit := do
  Prog.lift (.enqueueDma (a2.slice (Rect.unit (s := S98304) ot S24576.size hot) (fun _ => rfl)) (.here a5) (.dma st.sem) (View.wordExact_bits rfl) h5.wordExact ⟨Or.inl rfl, trivial⟩)
  Prog.lift (.waitDma2 st.sem (a2.slice (Rect.unit (s := S98304) ot S24576.size hot) (fun _ => rfl)) a5 (View.wordExact_bits rfl) h5.wordExact)
  Prog.lift (.enqueueDma (a3.slice (Rect.unit (s := S524288) oi S4096.size hoi) (fun _ => rfl)) (.here a6) (.dma si.sem) (View.wordExact_bits rfl) h6.wordExact ⟨Or.inl rfl, trivial⟩)
  Prog.lift (.waitDma2 si.sem (a3.slice (Rect.unit (s := S524288) oi S4096.size hoi) (fun _ => rfl)) a6 (View.wordExact_bits rfl) h6.wordExact)
  let _ ← Scf.Loop.for k0_t1_loop k0_t1_ok 0#32 loop
  Scf.Loop.for k0_t2_loop k0_t2_ok ⟨⟩ (strips i a4 a7 o o' ho ho' so)
  pure ⟨⟩

theorem k_eq (i : grid0.Coords) (a2 : Memref sig .scVector .hbm S98304 .f32) (h2 : a2.IsWhole) (a3 : Memref sig .scVector .hbm S524288 .i32)
  (h3 : a3.IsWhole) (a4 : Memref sig .scVector .hbm S1572864 .f32) (h4 : a4.IsWhole) (a5 : Memref sig .scVector .vmem S24576 .f32) (h5 : a5.IsWhole)
  (a6 : Memref sig .scVector .vmem S4096 .i32) (h6 : a6.IsWhole) (a7 : Memref sig .scVector .vmem S12288 .f32) (h7 : a7.IsWhole)
  (s0 s1 s2 s3 s4 s5 s6 s7 s8 s9 s10 s11 : DmaSems sig S_) :
    cc0_k (F := F) i a2 h2 a3 h3 a4 h4 a5 h5 a6 h6 a7 h7 s0 s1 s2 s3 s4 s5 s6 s7 s8 s9 s10 s11
      = (do
        let loop := k0_t1_body (F := F) i a2 h2 a3 h3 a4 h4 a5 h5 a6 h6 a7 h7 s0 s1 s2 s3 s4 s5 s6 s7 s8 s9 s10 s11
        batch i a2 a3 a4 a5 h5 a6 h6 a7 loop ![0] inb_S98304_S24576_0 (k0_off1 i 0#32) (k0_off1_inb i 0) k0_off3 (k0_off4 i) k0_off3_inb (k0_off4_inb i) s0 s1 s2
        batch i a2 a3 a4 a5 h5 a6 h6 a7 loop ![24576] inb_S98304_S24576_24576 (k0_off1 i 8192#32) (k0_off1_inb i 1) k0_off6 (k0_off7 i) k0_off6_inb (k0_off7_inb i) s3 s4 s5
        batch i a2 a3 a4 a5 h5 a6 h6 a7 loop ![49152] inb_S98304_S24576_49152 (k0_off1 i 16384#32) (k0_off1_inb i 2) k0_off9 (k0_off10 i) k0_off9_inb (k0_off10_inb i) s6 s7 s8
        batch i a2 a3 a4 a5 h5 a6 h6 a7 loop ![73728] inb_S98304_S24576_73728 (k0_off1 i 24576#32) (k0_off1_inb i 3) k0_off12 (k0_off13 i) k0_off12_inb (k0_off13_inb i) s9 s10 s11) := by
  simp only [cc0_k_eq_skeleton, cc0_k_skel, k0_part1_eq_skeleton, k0_part1_skel, k0_part2_eq_skeleton, k0_part2_skel, batch, bind_assoc, pure_bind,
    t4_eq, t7_eq, t10_eq, t2_eq, t5_eq, t8_eq, t11_eq]

/-! ## The words of a trip -/

/-- Position `k` of a shape of rank one, wrapped to its extent. -/
def lin (s : Shape) (h : ∀ a, 0 < s.size a) (k : ℕ) : s.Idx := fun a => ⟨k % s.size a, Nat.mod_lt _ (h a)⟩

abbrev tabIx (k : ℕ) : S24576.Idx := lin S24576 (by decide) k
abbrev idxIx (k : ℕ) : S4096.Idx := lin S4096 (by decide) k
abbrev rowIx (k : ℕ) : S12288.Idx := lin S12288 (by decide) k

theorem lin_eq {s : Shape} (h : ∀ a, 0 < s.size a) (x : s.Idx) (k : ℕ) (hx : ∀ a, (x a).val = k) : lin s h k = x := by
  funext a
  apply Fin.ext
  show k % s.size a = (x a).val
  rw [← hx a, Nat.mod_eq_of_lt (x a).isLt]

/-- What the loop leaves at `x` of the row buffer: of row `768 j + 256 c`, point `q`, the table's coordinate `c` of the
    point that index `16 q + j` names. -/
def gathered (tb : Vec F S24576 .f32) (ix : IVec S4096 32) (x : S12288.Idx) : Elt F .f32 :=
  tb (tabIx ((x 0).val / 256 % 3 * 8192 + (ix (idxIx ((x 0).val % 256 * 16 + (x 0).val / 768))).toNat))

/-- Lane `l` of a sixteen-lane vector. -/
def ln (l : Fin 16) : S16.Idx := fun a => ⟨l.val, by obtain rfl : a = 0 := Subsingleton.elim _ _; exact l.isLt⟩

theorem lane0 : ∀ l : Fin 16, (k0_pay7 (ln l)).toNat = 768 * l.val := by decide +kernel

theorem foldl_miss {ι A B : Type} (P : ι → A → Prop) [∀ k a, Decidable (P k a)] (y : ι → B) (j : A) :
    ∀ (L : List ι) (f : A → B), (∀ k ∈ L, ¬P k j) → L.foldl (fun g k => fun a => if P k a then y k else g a) f j = f j
  | [], _, _ => rfl
  | k :: L, f, h => by
    rw [List.foldl_cons, foldl_miss P y j L _ fun k' hk' => h k' (List.mem_cons_of_mem _ hk'), if_neg (h k List.mem_cons_self)]

theorem foldl_hit {ι A B : Type} (P : ι → A → Prop) [∀ k a, Decidable (P k a)] (y : ι → B) (j : A) (k₀ : ι) (h₀ : P k₀ j) :
    ∀ (L : List ι) (f : A → B), k₀ ∈ L → (∀ k ∈ L, P k j → k = k₀) → L.foldl (fun g k => fun a => if P k a then y k else g a) f j = y k₀
  | [], _, h, _ => absurd h List.not_mem_nil
  | k :: L, f, hm, h => by
    rw [List.foldl_cons]
    by_cases hL : k₀ ∈ L
    · exact foldl_hit P y j k₀ h₀ L _ hL fun k' hk' => h k' (List.mem_cons_of_mem _ hk')
    · have hk : k = k₀ := by
        rcases List.mem_cons.mp hm with e | e
        · exact e.symm
        · exact absurd e hL
      rw [foldl_miss P y j L _ fun k' hk' hp => hL (h k' (List.mem_cons_of_mem _ hk') hp ▸ hk'), hk, if_pos h₀]

/-- The store of sixteen lanes at the words `v`, as the folded update it is. -/
theorem storeIdx_eq (f : Vec F S12288 .f32) (v : IVec S16 32) (w : Vec F S16 .f32) (h : ∀ a x, ((![v] : Fin 1 → IVec S16 32) a x).toNat < S12288.size a) :
    storeIdx f ![v] w (fun _ => 1#1) false h
      = (List.finRange 16).foldl (fun g k => fun a => if (a 0).val = (v (ln k)).toNat then w (ln k) else g a) f := by
  unfold storeIdx
  show (List.finRange 16).foldl _ f = _
  congr 1
  funext g k a
  have : (∀ b : Fin 1, (a b).val = (idxAt (s := S12288) ![v] h (Shape.ofLane k) b).val) ↔ (a 0).val = (v (ln k)).toNat :=
    ⟨fun e => e 0, fun e b => by obtain rfl : b = 0 := Subsingleton.elim _ _; exact e⟩
  rw [if_pos (show (1#1 : BitVec 1) = 1 from rfl)]
  simp only [Bool.false_eq_true, if_false]
  by_cases e : (a 0).val = (v (ln k)).toNat
  · exact (if_pos (this.mpr e)).trans (if_pos e).symm
  · exact (if_neg (fun h => e (this.mp h))).trans (if_neg e).symm

/-- A store at the words `768 l + 256 c + q`: the elements of row `c` of each triple, at point `q`, are the lanes; the
    others stay. -/
theorem storeIdx_apply (f : Vec F S12288 .f32) (v : IVec S16 32) (w : Vec F S16 .f32) (h : ∀ a x, ((![v] : Fin 1 → IVec S16 32) a x).toNat < S12288.size a)
    (c q : ℕ) (hc : c < 3) (hq : q < 256) (hv : ∀ l : Fin 16, (v (ln l)).toNat = 768 * l.val + 256 * c + q) (x : S12288.Idx) :
    storeIdx f ![v] w (fun _ => 1#1) false h x
      = if (x 0).val % 256 = q ∧ (x 0).val / 256 % 3 = c then w (ln ⟨(x 0).val / 768, by have : (x 0).val < 12288 := (x 0).isLt; omega⟩) else f x := by
  rw [storeIdx_eq]
  have hx : (x 0).val < 12288 := (x 0).isLt
  split
  · rename_i hxc
    have hk : (x 0).val / 768 < 16 := by omega
    refine foldl_hit (fun (k : Fin 16) (a : S12288.Idx) => (a 0).val = (v (ln k)).toNat) (fun k => w (ln k)) x ⟨(x 0).val / 768, hk⟩ ?_ _ _ (List.mem_finRange _) ?_
    · rw [hv]; show _ = 768 * ((x 0).val / 768) + _ + _; omega
    · intro k _ e; rw [hv] at e; apply Fin.ext; show k.val = (x 0).val / 768; have := k.isLt; omega
  · rename_i hxc
    refine foldl_miss (fun (k : Fin 16) (a : S12288.Idx) => (a 0).val = (v (ln k)).toNat) (fun k => w (ln k)) x _ _ ?_
    intro k _ e; rw [hv] at e; have := k.isLt; exact hxc ⟨by omega, by omega⟩

section Trip

variable (q : Fin k0_t1_loop.trips)

theorem trips1 : k0_t1_loop.trips = 256 := by decide
theorem trips2 : k0_t2_loop.trips = 16 := by decide
theorem trips3 : k0_t3_loop.trips = 3 := by decide

theorem iv_toNat : (Scf.iv 0#32 1#32 q.val).toNat = q.val := by
  have : q.val < 256 := Nat.lt_of_lt_of_le q.isLt k0_t1_abs.2.1
  simp [Scf.iv]; omega

theorem pay9_toNat (l : Fin 16) : (k0_pay9 q (ln l)).toNat = 768 * l.val + 256 * 0 + q.val := by
  have h1 := lane0 l
  have h2 := iv_toNat q
  have : q.val < 256 := Nat.lt_of_lt_of_le q.isLt k0_t1_abs.2.1
  have := l.isLt
  show (k0_pay7 (ln l) + (0#32 + Scf.iv 0#32 1#32 q.val)).toNat = _
  rw [BitVec.toNat_add, BitVec.toNat_add, h1, h2]; simp; omega
theorem pay11_toNat (l : Fin 16) : (k0_pay11 q (ln l)).toNat = 768 * l.val + 256 * 1 + q.val := by
  have h1 := lane0 l
  have h2 := iv_toNat q
  have : q.val < 256 := Nat.lt_of_lt_of_le q.isLt k0_t1_abs.2.1
  have := l.isLt
  show (k0_pay7 (ln l) + (256#32 + Scf.iv 0#32 1#32 q.val)).toNat = _
  rw [BitVec.toNat_add, BitVec.toNat_add, h1, h2]; simp; omega
theorem pay13_toNat (l : Fin 16) : (k0_pay13 q (ln l)).toNat = 768 * l.val + 256 * 2 + q.val := by
  have h1 := lane0 l
  have h2 := iv_toNat q
  have : q.val < 256 := Nat.lt_of_lt_of_le q.isLt k0_t1_abs.2.1
  have := l.isLt
  show (k0_pay7 (ln l) + (512#32 + Scf.iv 0#32 1#32 q.val)).toNat = _
  rw [BitVec.toNat_add, BitVec.toNat_add, h1, h2]; simp; omega

theorem lane_eta (x : S16.Idx) : ∃ l : Fin 16, x = ln l :=
  ⟨⟨(x 0).val, (x 0).isLt⟩, funext fun a => by obtain rfl : a = 0 := Subsingleton.elim _ _; rfl⟩

variable (v : Vec F S16 .i32) (hv : ∀ x, (v x : BitVec 32).toNat < 8192)

include hv in
theorem pay8_toNat (x : S16.Idx) : (k0_pay8 (F := F) v x).toNat = 0 * 8192 + (v x : BitVec 32).toNat := by
  have := hv x
  show ((v x : BitVec 32) + 0#32).toNat = _
  rw [BitVec.toNat_add]; simp; omega
include hv in
theorem pay10_toNat (x : S16.Idx) : (k0_pay10 (F := F) v x).toNat = 1 * 8192 + (v x : BitVec 32).toNat := by
  have := hv x
  show ((v x : BitVec 32) + 8192#32).toNat = _
  rw [BitVec.toNat_add]; simp; omega
include hv in
theorem pay12_toNat (x : S16.Idx) : (k0_pay12 (F := F) v x).toNat = 2 * 8192 + (v x : BitVec 32).toNat := by
  have := hv x
  show ((v x : BitVec 32) + 16384#32).toNat = _
  rw [BitVec.toNat_add]; simp; omega

include hv in
theorem chk1 : k0_chk1 (k0_pay8 (F := F) v) := fun a x => by
  obtain rfl : a = 0 := Subsingleton.elim _ _
  show (k0_pay8 (F := F) v x).toNat < 24576
  rw [pay8_toNat v hv]; have := hv x; omega
include hv in
theorem chk3 : k0_chk3 (k0_pay10 (F := F) v) := fun a x => by
  obtain rfl : a = 0 := Subsingleton.elim _ _
  show (k0_pay10 (F := F) v x).toNat < 24576
  rw [pay10_toNat v hv]; have := hv x; omega
include hv in
theorem chk5 : k0_chk5 (k0_pay12 (F := F) v) := fun a x => by
  obtain rfl : a = 0 := Subsingleton.elim _ _
  show (k0_pay12 (F := F) v x).toNat < 24576
  rw [pay12_toNat v hv]; have := hv x; omega
theorem chk2 : k0_chk2 (k0_pay9 q) := fun a x => by
  obtain rfl : a = 0 := Subsingleton.elim _ _
  show (k0_pay9 q x).toNat < 12288
  have : q.val < 256 := Nat.lt_of_lt_of_le q.isLt k0_t1_abs.2.1
  obtain ⟨l, rfl⟩ := lane_eta x
  rw [pay9_toNat]; have := l.isLt; omega
theorem chk4 : k0_chk4 (k0_pay11 q) := fun a x => by
  obtain rfl : a = 0 := Subsingleton.elim _ _
  show (k0_pay11 q x).toNat < 12288
  have : q.val < 256 := Nat.lt_of_lt_of_le q.isLt k0_t1_abs.2.1
  obtain ⟨l, rfl⟩ := lane_eta x
  rw [pay11_toNat]; have := l.isLt; omega
theorem chk6 : k0_chk6 (k0_pay13 q) := fun a x => by
  obtain rfl : a = 0 := Subsingleton.elim _ _
  show (k0_pay13 q x).toNat < 12288
  have : q.val < 256 := Nat.lt_of_lt_of_le q.isLt k0_t1_abs.2.1
  obtain ⟨l, rfl⟩ := lane_eta x
  rw [pay13_toNat]; have := l.isLt; omega

/-- What a gathered lane is: the table at `c * 8192` and the lane's word. -/
theorem loadIdx_apply (tb : Vec F S24576 .f32) (u : IVec S16 32) (h : ∀ a x, ((![u] : Fin 1 → IVec S16 32) a x).toNat < S24576.size a) (x : S16.Idx) (k : ℕ)
    (hk : (u x).toNat = k) : loadIdx tb ![u] h x = tb (tabIx k) := by
  show tb _ = tb _
  congr 1
  symm
  apply lin_eq
  intro a
  obtain rfl : a = 0 := Subsingleton.elim _ _
  exact hk

include hv in
/-- One trip: point `q` of every row holds what the loop is to leave there. -/
theorem trip_value (tb : Vec F S24576 .f32) (ix : IVec S4096 32) (f : Vec F S12288 .f32)
    (hvx : ∀ l : Fin 16, (v (ln l) : BitVec 32) = ix (idxIx (q.val * 16 + l.val)))
    (hf : ∀ x : S12288.Idx, (x 0).val % 256 < q.val → f x = gathered tb ix x)
    (w1 : _) (w2 : _) (w3 : _) (w4 : _) (w5 : _) (w6 : _) (x : S12288.Idx) (hx : (x 0).val % 256 < q.val + 1) :
    storeIdx (storeIdx (storeIdx f ![k0_pay9 q] (loadIdx tb ![k0_pay8 (F := F) v] w1) (fun _ => 1#1) false w2)
        ![k0_pay11 q] (loadIdx tb ![k0_pay10 (F := F) v] w3) (fun _ => 1#1) false w4)
        ![k0_pay13 q] (loadIdx tb ![k0_pay12 (F := F) v] w5) (fun _ => 1#1) false w6 x = gathered tb ix x := by
  have hq : q.val < 256 := Nat.lt_of_lt_of_le q.isLt k0_t1_abs.2.1
  have hx0 : (x 0).val < 12288 := (x 0).isLt
  rw [storeIdx_apply _ _ _ w6 2 q.val (by omega) hq (pay13_toNat q), storeIdx_apply _ _ _ w4 1 q.val (by omega) hq (pay11_toNat q),
    storeIdx_apply _ _ _ w2 0 q.val (by omega) hq (pay9_toNat q)]
  have key : ∀ c, (x 0).val % 256 = q.val → (x 0).val / 256 % 3 = c →
      ∀ h16, tb (tabIx (c * 8192 + (v (ln ⟨(x 0).val / 768, h16⟩) : BitVec 32).toNat)) = gathered tb ix x := by
    intro c h1 h2 h16
    unfold gathered
    rw [hvx, h2, h1]
  split
  · rename_i h
    rw [loadIdx_apply tb _ w5 _ _ (pay12_toNat v hv _)]; exact key 2 h.1 h.2 _
  · rename_i n2
    split
    · rename_i h
      rw [loadIdx_apply tb _ w3 _ _ (pay10_toNat v hv _)]; exact key 1 h.1 h.2 _
    · rename_i n1
      split
      · rename_i h
        rw [loadIdx_apply tb _ w1 _ _ (pay8_toNat v hv _)]; exact key 0 h.1 h.2 _
      · rename_i n0
        refine hf x ?_
        by_contra hne
        have e : (x 0).val % 256 = q.val := by omega
        have : (x 0).val / 256 % 3 < 3 := Nat.mod_lt _ (by decide)
        have h0 : (x 0).val / 256 % 3 ≠ 0 := fun e' => n0 ⟨e, e'⟩
        have h1 : (x 0).val / 256 % 3 ≠ 1 := fun e' => n1 ⟨e, e'⟩
        have h2 : (x 0).val / 256 % 3 ≠ 2 := fun e' => n2 ⟨e, e'⟩
        omega

end Trip

end Cert.Proof.KernelIdeal

end
-- ==== Proof.Ideal.Tile.lean ====
/-
  One tile of the gather, run through the program logic at a symbolic tile: what it holds before and after, and that its
  strips of the result end at the gathered coordinates. The four batches are one lemma.
-/
module

public import proofs.«01_k».proof.Proof.Ideal.Gather
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev EP : Emb UP (MT nD τ sig (HIx 1) (Elt F) ℕ UU ℕ) :=
  ((Emb.inl : Emb UP (UP × Counters)).trans (Emb.inr : Emb (UP × Counters) UU)).trans (uEmb : UEmb UU (MT nD τ sig (HIx 1) (Elt F) ℕ UU ℕ)).toEmb

local notation "tV" => (Memref.whole Cert.KernelIdeal.main_v1_scv : Memref Cert.KernelIdeal.sig Kind.scVector Space.hbm Cert.KernelIdeal.S98304 EltTy.f32)
local notation "iV" => (Memref.whole Cert.KernelIdeal.main_v2_scv : Memref Cert.KernelIdeal.sig Kind.scVector Space.hbm Cert.KernelIdeal.S524288 EltTy.i32)
local notation "oV" => (Memref.whole Cert.KernelIdeal.main_v3_scv : Memref Cert.KernelIdeal.sig Kind.scVector Space.hbm Cert.KernelIdeal.S1572864 EltTy.f32)
local notation "sT" => (Memref.whole Cert.KernelIdeal.cc0_scratch0 : Memref Cert.KernelIdeal.sig Kind.scVector Space.vmem Cert.KernelIdeal.S24576 EltTy.f32)
local notation "sI" => (Memref.whole Cert.KernelIdeal.cc0_scratch1 : Memref Cert.KernelIdeal.sig Kind.scVector Space.vmem Cert.KernelIdeal.S4096 EltTy.i32)
local notation "sR" => (Memref.whole Cert.KernelIdeal.cc0_scratch2 : Memref Cert.KernelIdeal.sig Kind.scVector Space.vmem Cert.KernelIdeal.S12288 EltTy.f32)

/-! ## What the call computes -/

/-- Element `x` of the flat result: row `48 b + 3 j + c`, point `n` holds coordinate `c` of batch `b`'s point that index
    `(b, n, j)` names. -/
def outv (t : Vec F S98304 .f32) (ix : IVec S524288 32) (x : S1572864.Idx) : Elt F .f32 :=
  t (lin S98304 (by decide) ((x 0).val / 393216 * 24576 + (x 0).val / 8192 % 3 * 8192
    + (ix (lin S524288 (by decide) (((x 0).val / 393216 * 8192 + (x 0).val % 8192) * 16 + (x 0).val / 24576 % 16))).toNat))

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The points of a tile: 256 of every row's 8192. -/
def tileSet (w : ℕ) : Finset S1572864.Idx := Finset.univ.filter fun x => (x 0).val % 8192 / 256 = w
abbrev wid (L : grid0.Coords) : ℕ := 2 * (L 1).val + (L 0).val

theorem mem_tileSet {w : ℕ} {x : S1572864.Idx} : x ∈ tileSet w ↔ (x 0).val % 8192 / 256 = w := by simp [tileSet]

theorem wid_lt : wid L < 32 := by
  have h0 : (L 0).val < 2 := (L 0).isLt
  have h1 : (L 1).val < 16 := (L 1).isLt
  show 2 * (L 1).val + (L 0).val < 32
  omega

variable [FloatOps F]

/-! ## The gather loop -/

/-- Before trip `q`: the batch's table and indices, and the row buffer right at the points below `q`. -/
def gInv (tb : Vec F S24576 .f32) (ix : IVec S4096 32) (q : ℕ) (_ : BitVec 32) : sProp 𝕄 :=
  iprop(((sT).view.loc (thr d L) ↦{fullShare} tb) ∗ ((sI).view.loc (thr d L) ↦{fullShare} ix)
    ∗ ∃ g : Vec F S12288 .f32, ⌜∀ x : S12288.Idx, (x 0).val % 256 < q → g x = gathered tb ix x⌝ ∗ (sR).view.loc (thr d L) ↦{fullShare} g)

theorem set_access_tb : ((sT).access (.whole _)).set = Finset.univ := by
  show ((View.whole cc0_scratch0).slice (Rect.whole S24576)).set = _
  rw [View.set_slice_whole]; exact Rect.set_whole _
theorem set_access_row : ((sR).access (.whole _)).set = Finset.univ := by
  show ((View.whole cc0_scratch2).slice (Rect.whole S12288)).set = _
  rw [View.set_slice_whole]; exact Rect.set_whole _

theorem access_tb (f : Vec F S24576 .f32) :
    ((sT).view.loc (thr d L) ↦{fullShare} f : sProp 𝕄)
      = (((sT).access (.whole _)).loc (thr d L) ↦[((sT).access (.whole _)).set]{fullShare} f) := by
  rw [set_access_tb]

theorem access_row (f : Vec F S12288 .f32) :
    ((sR).view.loc (thr d L) ↦{fullShare} f : sProp 𝕄)
      = (((sR).access (.whole _)).loc (thr d L) ↦[((sR).access (.whole _)).set]{fullShare} f) := by
  rw [set_access_row]

theorem read_access_tb (f : Vec F S24576 .f32) : ((sT).access (.whole _)).read (Elt F) f = f := by
  funext x
  show _root_.cast _ (f ((Rect.whole S24576).emb x)) = f x
  rw [Rect.emb_whole_apply]; rfl
theorem read_access_row (f : Vec F S12288 .f32) : ((sR).access (.whole _)).read (Elt F) f = f := by
  funext x
  show _root_.cast _ (f ((Rect.whole S12288).emb x)) = f x
  rw [Rect.emb_whole_apply]; rfl
theorem write_access_row (f g : Vec F S12288 .f32) : ((sR).access (.whole _)).write (Elt F) f g Finset.univ = g := by
  funext x
  have e : ((sR).access (.whole _)).emb x = x := by
    show (Rect.whole S12288).emb (x : S12288.Idx) = x
    rw [Rect.emb_whole_apply S12288 (x : S12288.Idx)]
  conv_lhs => rw [← e]
  rw [View.write_emb_of_mem _ _ (Finset.mem_univ _)]; rfl

/-- Gathering off the staged table, which is kept. -/
theorem wp_gather {α} {Q : α → sProp 𝕄} (tb : Vec F S24576 .f32) {ixs : Fin 1 → IVec S16 32} {h hl} {k : Vec F S16 .f32 → Prog _ α} :
    ((sT).view.loc (thr d L) ↦{fullShare} tb : sProp 𝕄)
      ⊢ iprop((((sT).view.loc (thr d L) ↦{fullShare} tb) -∗ wp frame (wpE (defs₀ (F := F)) 𝒱₀ (thr d L) none) Set.univ (k (loadIdx tb ixs h)) Q)
        -∗ wp frame (wpE (defs₀ (F := F)) 𝒱₀ (thr d L) none) Set.univ (SparseCore.vectorLoadIdx sT ixs h hl >>= k) Q) := by
  have key := SparseCore.wp_vectorLoadIdx 𝒱₀ (thr d L) none Set.univ (defs := defs₀ (F := F)) (base := sT) (idxs := ixs) (h := h) (hl := hl) (k := k)
    (q := fullShare) (f := tb) (Q := Q) subset_rfl
  rw [read_access_tb] at key
  rw [access_tb]
  exact key

/-- Scattering into the row buffer. -/
theorem wp_scatter {α} {Q : α → sProp 𝕄} (f : Vec F S12288 .f32) {ixs : Fin 1 → IVec S16 32} {v : Vec F S16 .f32} {mask add h hs}
    {k : PUnit → Prog _ α} :
    ((sR).view.loc (thr d L) ↦{fullShare} f : sProp 𝕄)
      ⊢ iprop((((sR).view.loc (thr d L) ↦{fullShare} storeIdx f ixs v mask add h)
          -∗ wp frame (wpE (defs₀ (F := F)) 𝒱₀ (thr d L) none) Set.univ (k ⟨⟩) Q)
        -∗ wp frame (wpE (defs₀ (F := F)) 𝒱₀ (thr d L) none) Set.univ (SparseCore.vectorStoreIdx sR ixs v mask add h hs >>= k) Q) := by
  have key := SparseCore.wp_vectorStoreIdx 𝒱₀ (thr d L) none Set.univ (defs := defs₀ (F := F)) (base := sR) (idxs := ixs) (v := v) (mask := mask)
    (add := add) (h := h) (hs := hs) (k := k) (f := f) (Q := Q)
  rw [read_access_row, write_access_row] at key
  rw [access_row, access_row]
  exact key

variable (a2 : Memref sig .scVector .hbm S98304 .f32) (h2 : a2.IsWhole) (a3 : Memref sig .scVector .hbm S524288 .i32)
  (h3 : a3.IsWhole) (a4 : Memref sig .scVector .hbm S1572864 .f32) (h4 : a4.IsWhole) (h5 : (sT).IsWhole) (h6 : (sI).IsWhole) (h7 : (sR).IsWhole)
  (s0 s1 s2 s3 s4 s5 s6 s7 s8 s9 s10 s11 : DmaSems sig S_)

abbrev loopBody := k0_t1_body (F := F) L a2 h2 a3 h3 a4 h4 sT h5 sI h6 sR h7 s0 s1 s2 s3 s4 s5 s6 s7 s8 s9 s10 s11

/-- One trip of the gather loop: sixteen indices read, and for each coordinate their values gathered and scattered. -/
theorem trip (tb : Vec F S24576 .f32) (ix : IVec S4096 32) (hix : ∀ x, (ix x).toNat < 8192) (q : Fin k0_t1_loop.trips) (acc : BitVec 32) :
    gInv (F := F) d L tb ix q.val acc ⊢ wp frame (wpE (defs₀ (F := F)) 𝒱₀ (thr d L) none) Set.univ
      (loopBody (F := F) L a2 h2 a3 h3 a4 h4 h5 h6 h7 s0 s1 s2 s3 s4 s5 s6 s7 s8 s9 s10 s11 q acc) (gInv d L tb ix (q.val + 1)) := by
  unfold gInv loopBody k0_t1_body
  iintro ⟨Ht, Hi, %g, %hg, Hr⟩
  iapply (wp_load 𝒱₀ (thr d L) none Set.univ (m := sI) (S := Finset.univ) (Finset.subset_univ _)) $$ Hi
  iintro Hi
  have hw : ∀ l : Fin 16, (View.readAt (Elt F) (sI).view (Rect.unit (s := S4096) (k0_off2 q) S16.size (k0_off2_inb q)).toLoadRect ix (ln l) : BitVec 32) = ix (idxIx (q.val * 16 + l.val)) := by
    intro l
    refine congrArg ix (lin_eq (by decide) _ _ fun a => ?_).symm
    obtain rfl : a = (0 : Fin 1) := Subsingleton.elim (α := Fin 1) _ _
    show k0_off2 q 0 + 1 * (ln l 0).val = q.val * 16 + l.val
    rw [k0_off2_eq]
    show 16 * q.val + 1 * l.val = _
    omega
  have hv : ∀ x, (View.readAt (Elt F) (sI).view (Rect.unit (s := S4096) (k0_off2 q) S16.size (k0_off2_inb q)).toLoadRect ix x : BitVec 32).toNat < 8192 := by
    intro x
    obtain ⟨l, rfl⟩ := lane_eta x
    rw [hw]; exact hix _
  generalize View.readAt (Elt F) (sI).view (Rect.unit (s := S4096) (k0_off2 q) S16.size (k0_off2_inb q)).toLoadRect ix = v at hw hv
  iapply (wp_assume 𝒱₀ (thr d L) none Set.univ (chk1 (F := F) v hv))
  iapply (wp_gather d L _ (hl := View.loads_vmem h_S24576)) $$ Ht
  iintro Ht
  iapply (wp_assume 𝒱₀ (thr d L) none Set.univ (chk2 q))
  iapply (wp_scatter d L _ (hs := View.stores_vmem_bits_univ h_S12288 rfl)) $$ Hr
  iintro Hr
  iapply (wp_assume 𝒱₀ (thr d L) none Set.univ (chk3 (F := F) v hv))
  iapply (wp_gather d L _ (hl := View.loads_vmem h_S24576)) $$ Ht
  iintro Ht
  iapply (wp_assume 𝒱₀ (thr d L) none Set.univ (chk4 q))
  iapply (wp_scatter d L _ (hs := View.stores_vmem_bits_univ h_S12288 rfl)) $$ Hr
  iintro Hr
  iapply (wp_assume 𝒱₀ (thr d L) none Set.univ (chk5 (F := F) v hv))
  iapply (wp_gather d L _ (hl := View.loads_vmem h_S24576)) $$ Ht
  iintro Ht
  iapply (wp_assume 𝒱₀ (thr d L) none Set.univ (chk6 q))
  iapply (wp_scatter d L _ (hs := View.stores_vmem_bits_univ h_S12288 rfl)) $$ Hr
  iintro Hr
  simp only [wp_pure]
  imodintro
  isplitl [Ht]
  · iexact Ht
  isplitl [Hi]
  · iexact Hi
  iexists _
  isplitr [Hr]
  rotate_left
  · iexact Hr
  ipureintro
  exact trip_value q v hv tb ix g hw hg _ _ _ _ _ _

/-! ## The strips -/

/-- What one strip leaves: the 256 words of the row buffer from `o` at the 256 of the result from `o'`. -/
def pasted (g : Vec F S12288 .f32) (f : Vec F S1572864 .f32) (o o' : ℕ) (x : S1572864.Idx) : Elt F .f32 :=
  if o' ≤ (x 0).val ∧ (x 0).val < o' + 256 then g (rowIx (o + ((x 0).val - o'))) else f x

/-- The elements of a strip. -/
theorem mem_strip (o' : Fin 1 → ℕ) (ho' : ∀ a, o' a + S256.size a ≤ S1572864.size a) (x : S1572864.Idx) :
    x ∈ ((oV).slice (Rect.unit (s := S1572864) o' S256.size ho') (fun _ => rfl)).view.set ↔ o' 0 ≤ (x 0).val ∧ (x 0).val < o' 0 + 256 := by
  have e : ((oV).slice (Rect.unit (s := S1572864) o' S256.size ho') (fun _ => rfl)).view.set = (Rect.unit (s := S1572864) o' S256.size ho').set :=
    View.set_slice_whole _ _
  rw [e, Rect.mem_set_unit]
  constructor
  · intro h; exact h 0
  · intro h a; obtain rfl : a = (0 : Fin 1) := Subsingleton.elim (α := Fin 1) _ _; exact h

/-- A strip written reads back the words of the row buffer it was copied from. -/
theorem strip_value (g : Vec F S12288 .f32) (f : Vec F S1572864 .f32) (o o' : Fin 1 → ℕ) (ho : ∀ a, o a + S256.size a ≤ S12288.size a)
    (ho' : ∀ a, o' a + S256.size a ≤ S1572864.size a) (w : S256.Idx → Elt F .f32)
    (hw : w = ((sR).slice (Rect.unit (s := S12288) o S256.size ho) (fun _ => rfl)).view.read (Elt F) g)
    (x : S1572864.Idx) (hx : x ∈ ((oV).slice (Rect.unit (s := S1572864) o' S256.size ho') (fun _ => rfl)).view.set) :
    ((oV).slice (Rect.unit (s := S1572864) o' S256.size ho') (fun _ => rfl)).view.writes (Elt F) f [⟨Rect.whole _, w⟩] x = pasted g f (o 0) (o' 0) x := by
  have hm := (mem_strip o' ho' x).mp hx
  unfold pasted
  rw [if_pos hm]
  obtain ⟨y, -, rfl⟩ := Finset.mem_map.mp hx
  have hy : ((((oV).slice (Rect.unit (s := S1572864) o' S256.size ho') (fun _ => rfl)).view.emb y : S1572864.Idx) 0).val = o' 0 + 1 * (y 0).val := rfl
  refine (congrFun (View.read_writes_whole ((oV).slice (Rect.unit (s := S1572864) o' S256.size ho') (fun _ => rfl)).view f w) y).trans ?_
  rw [hw]
  refine congrArg g (lin_eq (s := S12288) (by decide) _ _ fun a => ?_).symm
  obtain rfl : a = (0 : Fin 1) := Subsingleton.elim (α := Fin 1) _ _
  show o 0 + 1 * (y 0).val = _
  rw [hy, Nat.one_mul, Nat.add_sub_cancel_left]

variable (O : CellTallies nD τ sig (HIx 1))

theorem strip_wp (g : Vec F S12288 .f32) (f : Vec F S1572864 .f32) (o o' : Fin 1 → ℕ) (ho : ∀ a, o a + S256.size a ≤ S12288.size a)
    (ho' : ∀ a, o' a + S256.size a ≤ S1572864.size a) (s : DmaSems sig S_) (W : Waits sig (HIx 1))
    (hS : ((oV).slice (Rect.unit (s := S1572864) o' S256.size ho') (fun _ => rfl)).view.set ⊆ tileSet (wid L)) :
    iprop(Transfers.MayWaits (thr d L) (none : HIx 1) O ∗ ((sR).view.loc (thr d L) ↦{fullShare} g) ∗ ((oV).view.loc (thr d L) ↦[tileSet (wid L)]{fullShare} f)
        ∗ semVal (thr d L, SemLoc.dma s.sem) 0 ∗ owes (thr d L) O W)
      ⊢ wp frame (wpE (defs₀ (F := F)) 𝒱₀ (thr d L) none) Set.univ (strip (F := F) L oV sR o o' ho ho' s)
        fun _ => (iprop(Transfers.MayWaits (thr d L) (none : HIx 1) O ∗ ((sR).view.loc (thr d L) ↦{fullShare} g) ∗ ((oV).view.loc (thr d L) ↦[tileSet (wid L)]{fullShare} pasted g f (o 0) (o' 0))
        ∗ semVal (thr d L, SemLoc.dma s.sem) 0 ∗ owes (thr d L) O (insert (SemLoc.dma s.sem, (none : HIx 1)) W)) : sProp 𝕄) := by
  unfold strip
  iintro ⟨Hmw, Hr, Ho, Hs, HO⟩
  ihave Ho := (pointsTo_split_subset (q := fullShare) (f := f) (S := tileSet (wid L)) hS).1 $$ Ho
  icases Ho with ⟨Ho, Hrest⟩
  ihave Ho := (show ((oV).view.loc (thr d L) ↦[((oV).slice (Rect.unit (s := S1572864) o' S256.size ho') (fun _ => rfl)).view.set]{fullShare} f : sProp 𝕄)
      ⊢ (((oV).slice (Rect.unit (s := S1572864) o' S256.size ho') (fun _ => rfl)).view.loc (thr d L)
          ↦[((oV).slice (Rect.unit (s := S1572864) o' S256.size ho') (fun _ => rfl)).view.set]{fullShare} f) from .rfl) $$ Ho
  sl_exec (disch := exact View.amount_pos _ _ (show 0 < S256.numel by decide))
  sl_step
  isplitl [Hmw]; · iexact Hmw
  isplitl [Hr]; · iexact Hr
  isplitl [Ho Hrest]
  · ihave Ho := (Entails.of_eq (pointsTo_congr (fun x hx => strip_value g f o o' ho ho' _ rfl x hx))) $$ Ho
    ihave Hrest := (Entails.of_eq (pointsTo_congr (g := pasted g f (o 0) (o' 0)) fun x hx => (if_neg fun h =>
      (Finset.mem_sdiff.mp hx).2 ((mem_strip o' ho' x).mpr h)).symm)) $$ Hrest
    iapply (pointsTo_split_subset (q := fullShare) (f := pasted g f (o 0) (o' 0)) (S := tileSet (wid L)) hS).2
    isplitl [Ho]; · iexact Ho
    iexact Hrest
  isplitl [Hs]; · iexact Hs
  iexact HO

/-- The staged table is batch `b`'s part of the flat table. -/
def IsTab (t : Vec F S98304 .f32) (b : ℕ) (tb : Vec F S24576 .f32) : Prop :=
  ∀ k < 24576, tb (tabIx k) = t (lin S98304 (by decide) (24576 * b + k))
/-- The staged indices are tile `w`'s part of batch `b`'s. -/
def IsIdx (ix : IVec S524288 32) (b w : ℕ) (ib : IVec S4096 32) : Prop :=
  ∀ k < 4096, ib (idxIx k) = ix (lin S524288 (by decide) (131072 * b + 4096 * w + k))

theorem place_row (w b j c p : ℕ) (hw : w < 32) (hj : j < 16) (hc : c < 3) (hp : p < 256) :
    (8192 * (48 * b + 3 * j + c) + 256 * w + p) / 393216 = b ∧ (8192 * (48 * b + 3 * j + c) + 256 * w + p) / 8192 % 3 = c
      ∧ (8192 * (48 * b + 3 * j + c) + 256 * w + p) % 8192 = 256 * w + p ∧ (8192 * (48 * b + 3 * j + c) + 256 * w + p) / 24576 % 16 = j := by
  have e : (8192 * (48 * b + 3 * j + c) + 256 * w + p) / 8192 = 48 * b + 3 * j + c := by omega
  have e1 : (8192 * (48 * b + 3 * j + c) + 256 * w + p) / 393216 = (48 * b + 3 * j + c) / 48 := by
    rw [show 393216 = 8192 * 48 from rfl, ← Nat.div_div_eq_div_mul, e]
  have e2 : (8192 * (48 * b + 3 * j + c) + 256 * w + p) / 24576 = (48 * b + 3 * j + c) / 3 := by
    rw [show 24576 = 8192 * 3 from rfl, ← Nat.div_div_eq_div_mul, e]
  rw [e1, e, e2]
  refine ⟨by omega, by omega, by omega, by omega⟩

theorem place_buf (j c p : ℕ) (hc : c < 3) (hp : p < 256) : (768 * j + 256 * c + p) / 256 % 3 = c ∧ (768 * j + 256 * c + p) % 256 = p
    ∧ (768 * j + 256 * c + p) / 768 = j := by
  refine ⟨by omega, by omega, by omega⟩

/-- A strip pasted at its place: the rows below the next one are right if those below this one were. -/
theorem pasted_out (t : Vec F S98304 .f32) (ix : IVec S524288 32) (hix : ∀ x, (ix x).toNat < 8192) (w b j c : ℕ) (hw : w < 32) (hb : b < 4) (hj : j < 16)
    (hc : c < 3) (tb : Vec F S24576 .f32) (ib : IVec S4096 32) (ht : IsTab t b tb) (hi : IsIdx ix b w ib) (g : Vec F S12288 .f32)
    (hg : ∀ x, g x = gathered tb ib x) (f : Vec F S1572864 .f32) (o o' : ℕ) (ho : o = 768 * j + 256 * c) (ho' : o' = 8192 * (48 * b + 3 * j + c) + 256 * w)
    (hf : ∀ x ∈ tileSet w, (x 0).val / 8192 < 48 * b + 3 * j + c → f x = outv t ix x)
    (x : S1572864.Idx) (hx : x ∈ tileSet w) (hk : (x 0).val / 8192 < 48 * b + 3 * j + c + 1) : pasted g f o o' x = outv t ix x := by
  have hm := mem_tileSet.mp hx
  unfold pasted
  by_cases h : (x 0).val / 8192 < 48 * b + 3 * j + c
  · rw [if_neg (by omega)]; exact hf x hx h
  · rw [if_pos (by omega), hg]
    obtain ⟨p, hp, ep⟩ : ∃ p, p < 256 ∧ (x 0).val = o' + p := ⟨(x 0).val % 256, by omega, by omega⟩
    have ez : ((rowIx (o + ((x 0).val - o'))) 0).val = 768 * j + 256 * c + p := by
      show (o + ((x 0).val - o')) % 12288 = _
      rw [ep, Nat.add_sub_cancel_left, ho, Nat.mod_eq_of_lt (by omega)]
    obtain ⟨q1, q2, q3, q4⟩ := place_row w b j c p hw hj hc hp
    rw [← ho', ← ep] at q1 q2 q3 q4
    obtain ⟨r1, r2, r3⟩ := place_buf j c p hc hp
    unfold gathered outv
    rw [ez, r1, r2, r3, q1, q2, q3, q4, show p * 16 + j = 16 * p + j by omega, hi _ (by omega),
      show (b * 8192 + (256 * w + p)) * 16 + j = 131072 * b + 4096 * w + (16 * p + j) by omega,
      ht _ (by have := hix (lin S524288 (by decide) (131072 * b + 4096 * w + (16 * p + j))); omega), Nat.mul_comm 24576 b, Nat.add_assoc (b * 24576)]

/-- Before a strip, `k` rows of the result done: the rows of the tile's part below `k` right. -/
def sInv (t : Vec F S98304 .f32) (ix : IVec S524288 32) (g : Vec F S12288 .f32) (s : DmaSems sig S_) (W : Waits sig (HIx 1)) (k : ℕ) : sProp 𝕄 :=
  iprop(Transfers.MayWaits (thr d L) (none : HIx 1) O ∗ ((sR).view.loc (thr d L) ↦{fullShare} g)
    ∗ (∃ f : Vec F S1572864 .f32, ⌜∀ x ∈ tileSet (wid L), (x 0).val / 8192 < k → f x = outv t ix x⌝ ∗ (oV).view.loc (thr d L) ↦[tileSet (wid L)]{fullShare} f)
    ∗ semVal (thr d L, SemLoc.dma s.sem) 0 ∗ ∃ W', ⌜∀ p ∈ W', p ∈ W ∨ p.2 = none⌝ ∗ owes (thr d L) O W')

section Strips

variable (t : Vec F S98304 .f32) (ix : IVec S524288 32) (hix : ∀ x, (ix x).toNat < 8192) (b : ℕ) (hb : b < 4)
  (tb : Vec F S24576 .f32) (ib : IVec S4096 32) (ht : IsTab t b tb) (hi : IsIdx ix b (wid L) ib) (g : Vec F S12288 .f32)
  (hg : ∀ x, g x = gathered tb ib x) (o o' : Fin 16 → Fin 3 → Fin 1 → ℕ) (ho : ∀ j c a, o j c a + S256.size a ≤ S12288.size a)
  (ho' : ∀ j c a, o' j c a + S256.size a ≤ S1572864.size a) (eo : ∀ j c, o j c 0 = 768 * j.val + 256 * c.val)
  (eo' : ∀ j c, o' j c 0 = 8192 * (48 * b + 3 * j.val + c.val) + 256 * wid L) (s : DmaSems sig S_) (W : Waits sig (HIx 1))

include hix hb ht hi hg eo eo' in
theorem strip_step (j : Fin k0_t2_loop.trips) (c : Fin k0_t3_loop.trips) (u : Unit) :
    sInv d L O t ix g s W (48 * b + 3 * j.val + c.val) ⊢ wp frame (wpE (defs₀ (F := F)) 𝒱₀ (thr d L) none) Set.univ
      (strip (F := F) L oV sR (o j c) (o' j c) (ho j c) (ho' j c) s) (fun _ => sInv d L O t ix g s W (48 * b + 3 * j.val + (c.val + 1))) := by
  have hj : j.val < 16 := j.isLt
  have hc : c.val < 3 := c.isLt
  have hS : ((oV).slice (Rect.unit (s := S1572864) (o' j c) S256.size (ho' j c)) (fun _ => rfl)).view.set ⊆ tileSet (wid L) := by
    intro x hx
    have := (mem_strip _ (ho' j c) x).mp hx
    have hl := wid_lt L
    rw [mem_tileSet]
    rw [eo' j c] at this
    omega
  unfold sInv
  iintro ⟨Hmw, Hr, ⟨%f, %hf, Ho⟩, Hs, %W', %hW, HO⟩
  iapply ((strip_wp d L O g f (o j c) (o' j c) (ho j c) (ho' j c) s W' hS).trans (wp_mono _ _ _ fun _ => ?_)) $$ [Hmw Hr Ho Hs HO]
  · iintro ⟨Hmw, Hr, Ho, Hs, HO⟩
    isplitl [Hmw]; · iexact Hmw
    isplitl [Hr]; · iexact Hr
    isplitl [Ho]
    · iexists _
      isplitr
      rotate_left
      · iexact Ho
      · ipureintro
        intro x hx hk
        exact pasted_out t ix hix (wid L) b j.val c.val (wid_lt L) hb hj hc tb ib ht hi g hg f _ _ (eo j c) (eo' j c) hf x hx hk
    isplitl [Hs]; · iexact Hs
    iexists _
    isplitr
    rotate_left
    · iexact HO
    · ipureintro
      intro p hp
      rcases Finset.mem_insert.mp hp with rfl | hp
      · exact .inr rfl
      · exact hW p hp
  · isplitl [Hmw]; · iexact Hmw
    isplitl [Hr]; · iexact Hr
    isplitl [Ho]; · iexact Ho
    isplitl [Hs]; · iexact Hs
    iexact HO

include hix hb ht hi hg eo eo' in
theorem strips_wp (j : Fin k0_t2_loop.trips) (u : Unit) :
    sInv d L O t ix g s W (48 * b + 3 * j.val) ⊢ wp frame (wpE (defs₀ (F := F)) 𝒱₀ (thr d L) none) Set.univ
      (strips (F := F) L oV sR o o' ho ho' s j u) (fun _ => sInv d L O t ix g s W (48 * b + 3 * (j.val + 1))) := by
  unfold strips
  iintro H
  iapply (Scf.wp_for_bind frame (wpE (defs₀ (F := F)) 𝒱₀ (thr d L) none) Set.univ k0_t3_loop.lb k0_t3_loop.ub k0_t3_loop.st k0_t3_ok _ _
    (fun c _ => sInv d L O t ix g s W (48 * b + 3 * j.val + c))
    (fun c u => strip_step d L O t ix hix b hb tb ib ht hi g hg o o' ho ho' eo eo' s W j c u)) $$ [H]
  · iexact H
  iintro %_ H
  simp only [wp_pure]
  imodintro
  iexact H

include hix hb ht hi hg eo eo' in
theorem writeOut_wp :
    sInv d L O t ix g s W (48 * b) ⊢ wp frame (wpE (defs₀ (F := F)) 𝒱₀ (thr d L) none) Set.univ
      (Scf.Loop.for k0_t2_loop k0_t2_ok ⟨⟩ (strips (F := F) L oV sR o o' ho ho' s)) (fun _ => sInv d L O t ix g s W (48 * (b + 1))) := by
  iintro H
  iapply (Scf.wp_for frame (wpE (defs₀ (F := F)) 𝒱₀ (thr d L) none) Set.univ k0_t2_loop.lb k0_t2_loop.ub k0_t2_loop.st k0_t2_ok _ _
    (fun j _ => sInv d L O t ix g s W (48 * b + 3 * j))
    (fun j u => strips_wp d L O t ix hix b hb tb ib ht hi g hg o o' ho ho' eo eo' s W j u)) $$ [H]
  isplitl [H]; · iexact H
  iintro %_ H
  iexact H

end Strips

/-! ## One batch -/

/-- What a tile holds between batches: its read shares of the table and the indices, its three buffers, and its part of
    the result with `k` rows done. -/
def bInv (q : PosShare TreeShare) (t : Vec F S98304 .f32) (ix : IVec S524288 32) (W : Waits sig (HIx 1)) (k : ℕ) : sProp 𝕄 :=
  iprop(Transfers.MayWaits (thr d L) (none : HIx 1) O ∗ ((tV).view.loc (thr d L) ↦{q} t) ∗ ((iV).view.loc (thr d L) ↦{q} ix)
    ∗ (∃ tb : Vec F S24576 .f32, (sT).view.loc (thr d L) ↦{fullShare} tb) ∗ (∃ ib : IVec S4096 32, (sI).view.loc (thr d L) ↦{fullShare} ib)
    ∗ (∃ g : Vec F S12288 .f32, (sR).view.loc (thr d L) ↦{fullShare} g)
    ∗ (∃ f : Vec F S1572864 .f32, ⌜∀ x ∈ tileSet (wid L), (x 0).val / 8192 < k → f x = outv t ix x⌝ ∗ (oV).view.loc (thr d L) ↦[tileSet (wid L)]{fullShare} f)
    ∗ ∃ W', ⌜∀ p ∈ W', p ∈ W ∨ p.2 = none⌝ ∗ owes (thr d L) O W')

theorem batch_wp (q : PosShare TreeShare) (t : Vec F S98304 .f32) (ix : IVec S524288 32) (hix : ∀ x, (ix x).toNat < 8192) (W : Waits sig (HIx 1)) (b : ℕ) (hb : b < 4)
    (ot : Fin 1 → ℕ) (hot : ∀ a, ot a + S24576.size a ≤ S98304.size a) (oi : Fin 1 → ℕ) (hoi : ∀ a, oi a + S4096.size a ≤ S524288.size a)
    (et : ot 0 = 24576 * b) (ei : oi 0 = 131072 * b + 4096 * wid L)
    (o o' : Fin 16 → Fin 3 → Fin 1 → ℕ) (ho : ∀ j c a, o j c a + S256.size a ≤ S12288.size a)
    (ho' : ∀ j c a, o' j c a + S256.size a ≤ S1572864.size a) (eo : ∀ j c, o j c 0 = 768 * j.val + 256 * c.val)
    (eo' : ∀ j c, o' j c 0 = 8192 * (48 * b + 3 * j.val + c.val) + 256 * wid L) (st si so : DmaSems sig S_) :
    iprop(bInv d L O q t ix W (48 * b) ∗ semVal (thr d L, SemLoc.dma st.sem) 0 ∗ semVal (thr d L, SemLoc.dma si.sem) 0 ∗ semVal (thr d L, SemLoc.dma so.sem) 0)
      ⊢ wp frame (wpE (defs₀ (F := F)) 𝒱₀ (thr d L) none) Set.univ
        (batch (F := F) L tV iV oV sT h5 sI h6 sR (loopBody (F := F) L a2 h2 a3 h3 a4 h4 h5 h6 h7 s0 s1 s2 s3 s4 s5 s6 s7 s8 s9 s10 s11)
          ot hot oi hoi o o' ho ho' st si so)
        fun _ => (iprop(bInv d L O q t ix W (48 * (b + 1)) ∗ semVal (thr d L, SemLoc.dma st.sem) 0 ∗ semVal (thr d L, SemLoc.dma si.sem) 0 ∗ semVal (thr d L, SemLoc.dma so.sem) 0) : sProp 𝕄) := by
  unfold bInv batch
  iintro ⟨⟨Hmw, Htv, Hiv, ⟨%tb, Ht⟩, ⟨%ib, Hi⟩, ⟨%g, Hr⟩, Ho, %W', %hW, HO⟩, Hst, Hsi, Hso⟩
  sl_exec (disch := exact View.amount_pos _ _ (by decide))
  have e1 : View.write (Elt F) (sT).view tb (batch_wp.sl.dma0 (F := F) t ot hot) Finset.univ = batch_wp.sl.dma0 (F := F) t ot hot :=
    View.write_whole_univ _ _ _
  have e2 : View.write (Elt F) (sI).view ib (batch_wp.sl.dma0_1 (F := F) ix oi hoi) Finset.univ = batch_wp.sl.dma0_1 (F := F) ix oi hoi :=
    View.write_whole_univ _ _ _
  have htb : IsTab t b (batch_wp.sl.dma0 (F := F) t ot hot) := by
    intro k hk
    refine congrArg t (lin_eq (s := S98304) (by decide) _ _ fun a => ?_).symm
    obtain rfl : a = (0 : Fin 1) := Subsingleton.elim (α := Fin 1) _ _
    show ot 0 + 1 * (k % 24576) = _
    rw [et, Nat.mod_eq_of_lt hk, Nat.one_mul]
  have hib : IsIdx ix b (wid L) (batch_wp.sl.dma0_1 (F := F) ix oi hoi) := by
    intro k hk
    refine congrArg ix (lin_eq (s := S524288) (by decide) _ _ fun a => ?_).symm
    obtain rfl : a = (0 : Fin 1) := Subsingleton.elim (α := Fin 1) _ _
    show oi 0 + 1 * (k % 4096) = _
    rw [ei, Nat.mod_eq_of_lt hk, Nat.one_mul]
  have hix' : ∀ x, ((batch_wp.sl.dma0_1 (F := F) ix oi hoi : IVec S4096 32) x).toNat < 8192 := fun x => hix _
  rw [e1, e2]
  generalize (batch_wp.sl.dma0 (F := F) t ot hot) = tb' at htb ⊢
  generalize (batch_wp.sl.dma0_1 (F := F) ix oi hoi) = ib' at hib hix' ⊢
  iapply (Scf.wp_for_bind frame (wpE (defs₀ (F := F)) 𝒱₀ (thr d L) none) Set.univ k0_t1_loop.lb k0_t1_loop.ub k0_t1_loop.st k0_t1_ok _ _
    (fun n acc => gInv d L tb' ib' n acc)
    (fun n acc => trip d L a2 h2 a3 h3 a4 h4 h5 h6 h7 s0 s1 s2 s3 s4 s5 s6 s7 s8 s9 s10 s11 tb' ib' hix' n acc)) $$ [Ht Hi Hr]
  · unfold gInv
    isplitl [Ht]; · iexact Ht
    isplitl [Hi]; · iexact Hi
    iexists g
    isplitr; · ipureintro; intro x hx; exact absurd hx (Nat.not_lt_zero _)
    iexact Hr
  iintro %acc Hg
  unfold gInv
  icases Hg with ⟨Ht, Hi, %g', %hg', Hr⟩
  have hg : ∀ x, g' x = gathered tb' ib' x := fun x => hg' x (by
    show (x 0).val % 256 < k0_t1_loop.trips
    rw [trips1]; exact Nat.mod_lt _ (by decide))
  rw [wp_bind]
  iapply (wp_wand_r frame (wpE (defs₀ (F := F)) 𝒱₀ (thr d L) none) Set.univ)
  isplitl [Hmw Hr Ho Hso HO]
  · iapply (writeOut_wp d L O t ix hix b hb tb' ib' htb hib g' hg o o' ho ho' eo eo' so W)
    unfold sInv
    isplitl [Hmw]; · iexact Hmw
    isplitl [Hr]; · iexact Hr
    isplitl [Ho]; · iexact Ho
    isplitl [Hso]; · iexact Hso
    iexists _
    isplitr
    rotate_left
    · iexact HO
    · ipureintro
      intro p hp
      rcases Finset.mem_insert.mp hp with rfl | hp
      · exact .inr rfl
      rcases Finset.mem_insert.mp hp with rfl | hp
      · exact .inr rfl
      · exact hW p hp
  iintro %_ Hs
  unfold sInv
  icases Hs with ⟨Hmw, Hr, Ho, Hso, HO⟩
  simp only [wp_pure]
  imodintro
  isplitr [Hst Hsi Hso]
  · isplitl [Hmw]; · iexact Hmw
    isplitl [Htv]; · iexact Htv
    isplitl [Hiv]; · iexact Hiv
    isplitl [Ht]; · iexists _; iexact Ht
    isplitl [Hi]; · iexists _; iexact Hi
    isplitl [Hr]; · iexists _; iexact Hr
    isplitl [Ho]; · iexact Ho
    iexact HO
  isplitl [Hst]; · iexact Hst
  isplitl [Hsi]; · iexact Hsi
  iexact Hso

/-! ## The whole tile -/

variable (q : PosShare TreeShare) (t : Vec F S98304 .f32) (ix : IVec S524288 32) (hix : ∀ x, (ix x).toNat < 8192) (W : Waits sig (HIx 1))

/-- The three counters of one batch, at zero. -/
abbrev sem3 (st si so : DmaSems sig S_) : sProp 𝕄 :=
  iprop(semVal (thr d L, SemLoc.dma st.sem) 0 ∗ semVal (thr d L, SemLoc.dma si.sem) 0 ∗ semVal (thr d L, SemLoc.dma so.sem) 0)

theorem off_tab : (![0] : Fin 1 → ℕ) 0 = 24576 * 0 ∧ (![24576] : Fin 1 → ℕ) 0 = 24576 * 1 ∧ (![49152] : Fin 1 → ℕ) 0 = 24576 * 2
    ∧ (![73728] : Fin 1 → ℕ) 0 = 24576 * 3 := by decide

omit [FloatOps F] in
theorem off_idx (r : Fin 4) (v : BitVec 32) (hv : v = BitVec.ofNat 32 (8192 * r.val)) (b : ℕ) (hb : b = r.val) :
    k0_off1 L v 0 = 131072 * b + 4096 * wid L := by
  rw [hv, k0_off1_eq, hb]
  show 131072 * r.val + 8192 * (L 1).val + 4096 * (L 0).val = 131072 * r.val + 4096 * (2 * (L 1).val + (L 0).val)
  omega

theorem off_row0 (j : Fin 16) (c : Fin 3) : k0_off3 j c 0 = 768 * j.val + 256 * c.val := congrFun (k0_off3_eq j c) 0
theorem off_out0 (j : Fin 16) (c : Fin 3) : k0_off4 L j c 0 = 8192 * (48 * 0 + 3 * j.val + c.val) + 256 * wid L := by
  refine (congrFun (k0_off4_eq L j c) 0).trans ?_
  rw [Matrix.cons_val_zero, wid]
  omega
theorem off_row1 (j : Fin 16) (c : Fin 3) : k0_off6 j c 0 = 768 * j.val + 256 * c.val := congrFun (k0_off6_eq j c) 0
theorem off_out1 (j : Fin 16) (c : Fin 3) : k0_off7 L j c 0 = 8192 * (48 * 1 + 3 * j.val + c.val) + 256 * wid L := by
  refine (congrFun (k0_off7_eq L j c) 0).trans ?_
  rw [Matrix.cons_val_zero, wid]
  omega
theorem off_row2 (j : Fin 16) (c : Fin 3) : k0_off9 j c 0 = 768 * j.val + 256 * c.val := congrFun (k0_off9_eq j c) 0
theorem off_out2 (j : Fin 16) (c : Fin 3) : k0_off10 L j c 0 = 8192 * (48 * 2 + 3 * j.val + c.val) + 256 * wid L := by
  refine (congrFun (k0_off10_eq L j c) 0).trans ?_
  rw [Matrix.cons_val_zero, wid]
  omega
theorem off_row3 (j : Fin 16) (c : Fin 3) : k0_off12 j c 0 = 768 * j.val + 256 * c.val := congrFun (k0_off12_eq j c) 0
theorem off_out3 (j : Fin 16) (c : Fin 3) : k0_off13 L j c 0 = 8192 * (48 * 3 + 3 * j.val + c.val) + 256 * wid L := by
  refine (congrFun (k0_off13_eq L j c) 0).trans ?_
  rw [Matrix.cons_val_zero, wid]
  omega

include hix in
theorem tile_wp :
    iprop(bInv d L O q t ix W 0 ∗ sem3 d L cc0_scoped0 cc0_scoped1 cc0_scoped2 ∗ sem3 d L cc0_scoped3 cc0_scoped4 cc0_scoped5 ∗ sem3 d L cc0_scoped6 cc0_scoped7 cc0_scoped8 ∗ sem3 d L cc0_scoped9 cc0_scoped10 cc0_scoped11)
      ⊢ wp frame (wpE (defs₀ (F := F)) 𝒱₀ (thr d L) none) Set.univ
        (cc0_k (F := F) L tV (Memref.isWhole_whole _) iV (Memref.isWhole_whole _) oV (Memref.isWhole_whole _) sT (Memref.isWhole_whole _) sI (Memref.isWhole_whole _)
          sR (Memref.isWhole_whole _) cc0_scoped0 cc0_scoped1 cc0_scoped2 cc0_scoped3 cc0_scoped4 cc0_scoped5 cc0_scoped6 cc0_scoped7 cc0_scoped8
          cc0_scoped9 cc0_scoped10 cc0_scoped11)
        fun _ => (iprop(bInv d L O q t ix W 192 ∗ sem3 d L cc0_scoped0 cc0_scoped1 cc0_scoped2 ∗ sem3 d L cc0_scoped3 cc0_scoped4 cc0_scoped5 ∗ sem3 d L cc0_scoped6 cc0_scoped7 cc0_scoped8 ∗ sem3 d L cc0_scoped9 cc0_scoped10 cc0_scoped11) : sProp 𝕄) := by
  have run := fun b hb ot hot oi hoi et ei o o' ho ho' eo eo' st si so =>
    batch_wp d L tV (Memref.isWhole_whole _) iV (Memref.isWhole_whole _) oV (Memref.isWhole_whole _) (Memref.isWhole_whole _) (Memref.isWhole_whole _)
      (Memref.isWhole_whole _) cc0_scoped0 cc0_scoped1 cc0_scoped2 cc0_scoped3 cc0_scoped4 cc0_scoped5 cc0_scoped6 cc0_scoped7 cc0_scoped8
      cc0_scoped9 cc0_scoped10 cc0_scoped11 O q t ix hix W b hb ot hot oi hoi et ei o o' ho ho' eo eo' st si so
  rw [k_eq]
  iintro ⟨H, H0, H1, H2, H3⟩
  simp only [wp_bind]
  iapply (wp_wand_r frame (wpE (defs₀ (F := F)) 𝒱₀ (thr d L) none) Set.univ)
  isplitl [H H0]
  · iapply (run 0 (by decide) ![0] inb_S98304_S24576_0 (k0_off1 L 0#32) (k0_off1_inb L 0) off_tab.1 (off_idx L 0 _ rfl 0 rfl) k0_off3 (k0_off4 L) k0_off3_inb
      (k0_off4_inb L) off_row0 (off_out0 L) cc0_scoped0 cc0_scoped1 cc0_scoped2)
    isplitl [H]; · iexact H
    iexact H0
  iintro %_ ⟨H, H0⟩
  iapply (wp_wand_r frame (wpE (defs₀ (F := F)) 𝒱₀ (thr d L) none) Set.univ)
  isplitl [H H1]
  · iapply (run 1 (by decide) ![24576] inb_S98304_S24576_24576 (k0_off1 L 8192#32) (k0_off1_inb L 1) off_tab.2.1 (off_idx L 1 _ rfl 1 rfl) k0_off6 (k0_off7 L) k0_off6_inb
      (k0_off7_inb L) off_row1 (off_out1 L) cc0_scoped3 cc0_scoped4 cc0_scoped5)
    isplitl [H]; · iexact H
    iexact H1
  iintro %_ ⟨H, H1⟩
  iapply (wp_wand_r frame (wpE (defs₀ (F := F)) 𝒱₀ (thr d L) none) Set.univ)
  isplitl [H H2]
  · iapply (run 2 (by decide) ![49152] inb_S98304_S24576_49152 (k0_off1 L 16384#32) (k0_off1_inb L 2) off_tab.2.2.1 (off_idx L 2 _ rfl 2 rfl) k0_off9 (k0_off10 L) k0_off9_inb
      (k0_off10_inb L) off_row2 (off_out2 L) cc0_scoped6 cc0_scoped7 cc0_scoped8)
    isplitl [H]; · iexact H
    iexact H2
  iintro %_ ⟨H, H2⟩
  iapply (wp_wand_r frame (wpE (defs₀ (F := F)) 𝒱₀ (thr d L) none) Set.univ)
  isplitl [H H3]
  · iapply (run 3 (by decide) ![73728] inb_S98304_S24576_73728 (k0_off1 L 24576#32) (k0_off1_inb L 3) off_tab.2.2.2 (off_idx L 3 _ rfl 3 rfl) k0_off12 (k0_off13 L) k0_off12_inb
      (k0_off13_inb L) off_row3 (off_out3 L) cc0_scoped9 cc0_scoped10 cc0_scoped11)
    isplitl [H]; · iexact H
    iexact H3
  iintro %_ ⟨H, H3⟩
  isplitl [H]; · iexact H
  isplitl [H0]; · iexact H0
  isplitl [H1]; · iexact H1
  isplitl [H2]; · iexact H2
  iexact H3

end Cert.Proof.KernelIdeal
-- ==== Proof.Ideal.Deal.lean ====
/-
  The gather call as the launch sees it: what each of the 32 tasks is handed and hands back, the task's run as the launch
  asks for it, and how the arrays are cut among the tasks and put together again.
-/
module

public import proofs.«01_k».proof.Proof.Ideal.Tile
public import Idealize.ShloMosaic.Lib.SparseCore.Stream

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v1_scv : Memref Cert.KernelIdeal.sig Kind.scVector Space.hbm Cert.KernelIdeal.S98304 EltTy.f32)
local notation "iV" => (Memref.whole Cert.KernelIdeal.main_v2_scv : Memref Cert.KernelIdeal.sig Kind.scVector Space.hbm Cert.KernelIdeal.S524288 EltTy.i32)
local notation "oV" => (Memref.whole Cert.KernelIdeal.main_v3_scv : Memref Cert.KernelIdeal.sig Kind.scVector Space.hbm Cert.KernelIdeal.S1572864 EltTy.f32)
local notation "sT" => (Memref.whole Cert.KernelIdeal.cc0_scratch0 : Memref Cert.KernelIdeal.sig Kind.scVector Space.vmem Cert.KernelIdeal.S24576 EltTy.f32)
local notation "sI" => (Memref.whole Cert.KernelIdeal.cc0_scratch1 : Memref Cert.KernelIdeal.sig Kind.scVector Space.vmem Cert.KernelIdeal.S4096 EltTy.i32)
local notation "sR" => (Memref.whole Cert.KernelIdeal.cc0_scratch2 : Memref Cert.KernelIdeal.sig Kind.scVector Space.vmem Cert.KernelIdeal.S12288 EltTy.f32)

/-- The three arrays of the call: the coordinates, the indices, the result. -/
abbrev tLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

/-! ## A share cut into a row of pieces -/

/-- Piece `i` of share `q` cut into `n + 1`: its left half, then the pieces of its right half. -/
def cut : ℕ → PosShare TreeShare → ℕ → PosShare TreeShare
  | 0, q, _ => q
  | _ + 1, q, 0 => q.left
  | n + 1, q, i + 1 => cut n q.right i

theorem pointsTo_pieces {ℓ : Loc nD τ sig} (f : Buf (Elt F) ℓ) : ∀ (n : ℕ) (q : PosShare TreeShare),
    (ℓ ↦{q} f : sProp 𝕄) = bigSep Finset.univ fun i : Fin (n + 1) => ℓ ↦{cut n q i.val} f
  | 0, q => (bigSep_univ_of_subsingleton (0 : Fin 1) (Φ := fun i : Fin 1 => (ℓ ↦{cut 0 q i.val} f : sProp 𝕄))).symm
  | n + 1, q => by
    rw [bigSep_univ_succ, BI.Entails.antisymm (pointsTo_share (PosShare.mem_left_op_right q)).1 (pointsTo_share (PosShare.mem_left_op_right q)).2,
      pointsTo_pieces f n q.right]
    rfl

/-! ## The result cut by tile -/

theorem tileSets_disjoint : ∀ i ∈ (Finset.univ : Finset (Fin 32)), ∀ j ∈ (Finset.univ : Finset (Fin 32)), i ≠ j → Disjoint (tileSet i.val) (tileSet j.val) :=
  fun i _ j _ h => Finset.disjoint_left.mpr fun _ hx hy => h (Fin.ext ((mem_tileSet.mp hx).symm.trans (mem_tileSet.mp hy)))

theorem tileSets_cover : (Finset.univ : Finset (Fin 32)).biUnion (fun w => tileSet w.val) = Finset.univ :=
  Finset.eq_univ_of_forall fun x => Finset.mem_biUnion.mpr
    ⟨⟨(x 0).val % 8192 / 256, by have := Nat.mod_lt (x 0).val (show 0 < 8192 by decide); omega⟩, Finset.mem_univ _, mem_tileSet.mpr rfl⟩

theorem out_tiles (d : Dev nD) (f : Buf (Elt F) (oLoc d)) :
    (oLoc d ↦{fullShare} f : sProp 𝕄) = bigSep Finset.univ fun w : Fin 32 => oLoc d ↦[tileSet w.val]{fullShare} f := by
  rw [← pointsTo_biUnion Finset.univ (ℓ := oLoc d) (fun w : Fin 32 => tileSet w.val) tileSets_disjoint, tileSets_cover]

/-! ## What the tasks carry -/

/-- What task `w` holds: a piece of the coordinates and of the indices, and its points of the result. -/
def held3 (t : Vec F S98304 .f32) (ix : IVec S524288 32) (o : Vec F S1572864 .f32) (d : Dev nD) (w : ℕ) : sProp 𝕄 :=
  iprop((tLoc d ↦{cut 31 fullShare w} t) ∗ (iLoc d ↦{cut 31 fullShare w} ix) ∗ oLoc d ↦[tileSet w]{fullShare} o)

/-- All the tasks' holdings are the three arrays. -/
theorem held3_all (t : Vec F S98304 .f32) (ix : IVec S524288 32) (o : Vec F S1572864 .f32) (d : Dev nD) :
    (bigSep Finset.univ fun w : Fin 32 => held3 t ix o d w.val : sProp 𝕄)
      = iprop((tLoc d ↦{fullShare} t) ∗ (iLoc d ↦{fullShare} ix) ∗ oLoc d ↦{fullShare} o) := by
  unfold held3
  rw [bigSep_sep', bigSep_sep', out_tiles, pointsTo_pieces (ℓ := tLoc d) t 31, pointsTo_pieces (ℓ := iLoc d) ix 31]

/-- Task `(c, i)` is the task numbered `2 i + c`. -/
theorem by_core (Φ : ℕ → sProp 𝕄) :
    (bigSep Finset.univ fun c : Fin 2 => bigSep Finset.univ fun i : Fin 16 => Φ (2 * i.val + c.val)) = bigSep Finset.univ fun w : Fin 32 => Φ w.val := by
  rw [bigSep_univ_comm, ← bigSep_univ_prod (fun p : Fin 16 × Fin 2 => Φ (2 * p.1.val + p.2.val)),
    bigSep_univ_equiv (finProdFinEquiv (m := 16) (n := 2)) (fun w : Fin 32 => Φ w.val)]
  exact bigSep_congr fun p _ => congrArg Φ (by rw [finProdFinEquiv_apply_val, Nat.add_comm])

variable [FloatOps F]
variable (t : Dev nD → Vec F S98304 .f32) (ix : Dev nD → IVec S524288 32) (o : Dev nD → Vec F S1572864 .f32)

theorem nSub_zero : (K (F := F)).nSub 0 = 16 := rfl
theorem nCore_zero : (K (F := F)).nCore 0 = 2 := rfl

/-- What task `(c, i)` is handed, and what it hands back. -/
def goP (d : Dev nD) (c i : ℕ) : sProp 𝕄 := held3 (t d) (ix d) (o d) d (2 * i + c)
def tdP (d : Dev nD) (c i : ℕ) : sProp 𝕄 := held3 (t d) (ix d) (outv (t d) (ix d)) d (2 * i + c)

instance goP_storable (d : Dev nD) (c i : ℕ) : BI.Storable (upEmb : UEmb _ 𝕄) (goP t ix o d c i) := by
  unfold goP held3; infer_instance
instance tdP_storable (d : Dev nD) (c i : ℕ) : BI.Storable (upEmb : UEmb _ 𝕄) (tdP t ix d c i) := by
  unfold tdP held3; infer_instance

/-- A SparseCore is handed what its sixteen tasks are. -/
def P : (K (F := F)).Pay (nD := nD) (Val := Elt F) (Name := ℕ) (U := UU) where
  st := fun q d c => match q with | 0 => bigSep Finset.univ fun i : Fin ((K (F := F)).nSub 0) => goP t ix o d c.val i.val
  dn := fun q d c => match q with | 0 => bigSep Finset.univ fun i : Fin ((K (F := F)).nSub 0) => tdP t ix d c.val i.val
  go := fun q d c i => match q with | 0 => goP t ix o d c.val i.val
  td := fun q d c i => match q with | 0 => tdP t ix d c.val i.val
  x := fun _ _ => iprop(emp)

instance P_storable : (P (F := F) t ix o).IsStorable where
  st q d c := match q with
    | 0 => (inferInstance : BI.Storable (upEmb : UEmb _ 𝕄) (bigSep Finset.univ fun i : Fin ((K (F := F)).nSub 0) => goP t ix o d c.val i.val))
  dn q d c := match q with
    | 0 => (inferInstance : BI.Storable (upEmb : UEmb _ 𝕄) (bigSep Finset.univ fun i : Fin ((K (F := F)).nSub 0) => tdP t ix d c.val i.val))
  go q d c i := match q with | 0 => goP_storable t ix o d c.val i.val
  td q d c i := match q with | 0 => tdP_storable t ix d c.val i.val

theorem vecSplit : (K (F := F)).VecSplit' (P t ix o) 0 := by
  intro d c
  show (bigSep Finset.univ fun i : Fin ((K (F := F)).nSub 0) => goP t ix o d c.val i.val) ⊢ |={Set.univ}=> iprop(
      (bigSep Finset.univ fun i : Fin ((K (F := F)).nSub 0) => goP t ix o d c.val i.val)
      ∗ ((bigSep Finset.univ fun i : Fin ((K (F := F)).nSub 0) => tdP t ix d c.val i.val)
          -∗ bigSep Finset.univ fun i : Fin ((K (F := F)).nSub 0) => tdP t ix d c.val i.val))
  iintro H; imodintro
  isplitl [H]; · iexact H
  iintro H; iexact H

/-- What the call takes, and what it brings back. -/
theorem st0_eq (d : Dev nD) : (bigSep Finset.univ fun c : Fin ((K (F := F)).nCore 0) => (P t ix o).st 0 d c)
    = iprop((tLoc d ↦{fullShare} t d) ∗ (iLoc d ↦{fullShare} ix d) ∗ oLoc d ↦{fullShare} o d) :=
  (by_core fun w => held3 (t d) (ix d) (o d) d w).trans (held3_all _ _ _ d)
theorem dn0_eq (d : Dev nD) : (bigSep Finset.univ fun c : Fin ((K (F := F)).nCore 0) => (P t ix o).dn 0 d c)
    = iprop((tLoc d ↦{fullShare} t d) ∗ (iLoc d ↦{fullShare} ix d) ∗ oLoc d ↦{fullShare} outv (t d) (ix d)) :=
  (by_core fun w => held3 (t d) (ix d) (outv (t d) (ix d)) d w).trans (held3_all _ _ _ d)

/-! ## The task -/

section Task

variable (d : Dev nD) (L : grid0.Coords)

/-- The twelve semaphores of the copies. -/
def copySem : Fin 12 → SemLoc sig := ![.dma cc0_scoped0.sem, .dma cc0_scoped1.sem, .dma cc0_scoped2.sem, .dma cc0_scoped3.sem, .dma cc0_scoped4.sem,
  .dma cc0_scoped5.sem, .dma cc0_scoped6.sem, .dma cc0_scoped7.sem, .dma cc0_scoped8.sem, .dma cc0_scoped9.sem, .dma cc0_scoped10.sem, .dma cc0_scoped11.sem]

omit [FloatOps F] in
theorem copySem_inj : Function.Injective copySem := by decide
omit [FloatOps F] in
theorem copySem_scoped : ∀ i, (copySem i).isScoped .scVector = true := by decide

/-- A tile's counters for them. -/
def copyCell : Fin 12 ↪ GSem nD τ sig :=
  ⟨fun i => (thr d L, copySem i), fun _ _ h => copySem_inj (Prod.ext_iff.mp h).2⟩

omit [FloatOps F] in
theorem copyCell_sub : Finset.univ.map (copyCell d L) ⊆ ownCells (thr d L) := fun g hg => by
  obtain ⟨i, -, rfl⟩ := Finset.mem_map.mp hg
  exact mem_ownCells.mpr ⟨rfl, copySem_scoped i⟩

omit [FloatOps F] in
theorem ownSems0_V :
    (ownSems0 (thr d L) : sProp 𝕄)
      = iprop((bigSep Finset.univ fun i : Fin 12 => semVal (thr d L, copySem i) 0)
          ∗ bigSep (ownCells (thr d L) \ Finset.univ.map (copyCell d L)) fun g => semVal g 0) := by
  unfold SparseCore.Cfg.ownSems0
  rw [BI.bigSep_sdiff_split (copyCell_sub d L), BI.bigSep_map]; rfl

omit [FloatOps F] in
/-- The twelve, batch by batch. -/
theorem copySems (d : Dev nD) (L : grid0.Coords) :
    (bigSep Finset.univ fun i : Fin 12 => semVal (thr d L, copySem i) 0 : sProp 𝕄)
      = iprop(sem3 d L cc0_scoped0 cc0_scoped1 cc0_scoped2 ∗ sem3 d L cc0_scoped3 cc0_scoped4 cc0_scoped5 ∗ sem3 d L cc0_scoped6 cc0_scoped7 cc0_scoped8
          ∗ sem3 d L cc0_scoped9 cc0_scoped10 cc0_scoped11) := by
  have e : ∀ a b c r : sProp 𝕄, iprop(a ∗ b ∗ c ∗ r) = iprop((a ∗ b ∗ c) ∗ r) := fun a b c r => by
    rw [show iprop(a ∗ b ∗ c ∗ r) = iprop((a ∗ b) ∗ c ∗ r) from (BI.sep_assoc.antisymm BI.sep_assoc').symm,
      show iprop((a ∗ b) ∗ c ∗ r) = iprop(((a ∗ b) ∗ c) ∗ r) from (BI.sep_assoc.antisymm BI.sep_assoc').symm,
      show iprop((a ∗ b) ∗ c) = iprop(a ∗ b ∗ c) from BI.sep_assoc.antisymm BI.sep_assoc']
  rw [bigSep_univ_succ, bigSep_univ_succ, bigSep_univ_succ, bigSep_univ_succ, bigSep_univ_succ,
    bigSep_univ_succ, bigSep_univ_succ, bigSep_univ_succ, bigSep_univ_succ, bigSep_univ_succ,
    bigSep_univ_succ, bigSep_univ_of_subsingleton (0 : Fin 1)]
  exact (e _ _ _ _).trans (congrArg (fun r : sProp 𝕄 => iprop(sem3 d L cc0_scoped0 cc0_scoped1 cc0_scoped2 ∗ r)) ((e _ _ _ _).trans
    (congrArg (fun r : sProp 𝕄 => iprop(sem3 d L cc0_scoped3 cc0_scoped4 cc0_scoped5 ∗ r)) (e _ _ _ _))))

/-- A tile's three buffers. -/
abbrev bufT (L : grid0.Coords) : DevRef τ sig := (Proc.scVector (cV L) (jV L)).devRef cc0_scratch0
abbrev bufI (L : grid0.Coords) : DevRef τ sig := (Proc.scVector (cV L) (jV L)).devRef cc0_scratch1
abbrev bufR (L : grid0.Coords) : DevRef τ sig := (Proc.scVector (cV L) (jV L)).devRef cc0_scratch2

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase (bufT L)).erase (bufI L)).erase (bufR L))
              fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  refine (SparseCore.bigSep_erase' (SparseCore.Cfg.mem_ownRefs_of_owner (p := Proc.scVector (cV L) (jV L)) (b := bufT L) rfl)).trans ?_
  rw [SparseCore.bigSep_erase' (Finset.mem_erase.mpr ⟨ne (a := cc0_scratch1) (b := cc0_scratch0) (by decide),
      SparseCore.Cfg.mem_ownRefs_of_owner (p := Proc.scVector (cV L) (jV L)) (b := bufI L) rfl⟩),
    SparseCore.bigSep_erase' (Finset.mem_erase.mpr ⟨ne (a := cc0_scratch2) (b := cc0_scratch1) (by decide),
      Finset.mem_erase.mpr ⟨ne (a := cc0_scratch2) (b := cc0_scratch0) (by decide),
        SparseCore.Cfg.mem_ownRefs_of_owner (p := Proc.scVector (cV L) (jV L)) (b := bufR L) rfl⟩⟩)]

omit [FloatOps F] in
theorem row_lt (x : S1572864.Idx) : (x 0).val / 8192 < 192 := by
  have h : (x 0).val < 1572864 := (x 0).isLt
  omega

theorem task_wp (hF : (K (F := F)).Facts) (hix : ∀ d x, (ix d x).toNat < 8192) (O : CellTallies nD τ sig (HIx 1)) (W : Waits sig (HIx 1)) (hO : ∀ g, O g none = 0) :
    iprop(levAts (K (F := F)).L (K (F := F)).lev ∗ emp ∗ goP t ix o d (L 0).val (L 1).val
        ∗ scopedBufs (thr d L) ∗ scopedSems0 (thr d L) ∗ owes (thr d L) O W)
      ⊢ wp frame (wpE (defs₀ (F := F)) 𝒱₀ (thr d L) none) Set.univ
          (cc0_k (F := F) L tV (Memref.isWhole_whole _) iV (Memref.isWhole_whole _) oV (Memref.isWhole_whole _) sT (Memref.isWhole_whole _) sI (Memref.isWhole_whole _)
            sR (Memref.isWhole_whole _) cc0_scoped0 cc0_scoped1 cc0_scoped2 cc0_scoped3 cc0_scoped4 cc0_scoped5 cc0_scoped6 cc0_scoped7 cc0_scoped8
            cc0_scoped9 cc0_scoped10 cc0_scoped11)
          fun _ => iprop(tdP t ix d (L 0).val (L 1).val ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, copySems, ownBufs_V]
  unfold goP tdP held3
  iintro ⟨#Hlv, -, ⟨Ht, Hi, Ho⟩, ⟨HbT, HbI, HbR, Hbufs⟩, ⟨⟨H0, H1, H2, H3⟩, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_wand_r frame (wpE (defs₀ (F := F)) 𝒱₀ (thr d L) none) Set.univ)
  isplitl [Hmw Ht Hi Ho HbT HbI HbR H0 H1 H2 H3 HO]
  · iapply (tile_wp d L O (cut 31 fullShare (2 * (L 1).val + (L 0).val)) (t d) (ix d) (hix d) W)
    isplitr [H0 H1 H2 H3]
    · unfold bInv
      isplitl [Hmw]; · iexact Hmw
      isplitl [Ht]; · iexact Ht
      isplitl [Hi]; · iexact Hi
      isplitl [HbT]; · iexact HbT
      isplitl [HbI]; · iexact HbI
      isplitl [HbR]; · iexact HbR
      isplitl [Ho]
      · iexists (o d); isplitr
        · ipureintro; exact fun _ _ h => absurd h (Nat.not_lt_zero _)
        · iexact Ho
      · iexists W; isplitr
        · ipureintro; exact fun _ h => .inl h
        · iexact HO
    · isplitl [H0]; · iexact H0
      isplitl [H1]; · iexact H1
      isplitl [H2]; · iexact H2
      iexact H3
  iintro %_ ⟨HB, H0, H1, H2, H3⟩
  unfold bInv
  icases HB with ⟨-, Ht, Hi, HbT, HbI, HbR, ⟨%f, %hf, Ho⟩, HO⟩
  ihave Ho' := (Entails.of_eq (pointsTo_congr (ℓ := oLoc d) (I := tileSet (wid L)) (q := fullShare) (f := f) (g := outv (t d) (ix d))
    (fun x hx => hf x hx (row_lt x)))) $$ Ho
  isplitl [Ht Hi Ho']
  · isplitl [Ht]; · iexact Ht
    isplitl [Hi]; · iexact Hi
    iexact Ho'
  isplitl [HbT HbI HbR Hbufs]
  · isplitl [HbT]; · iexact HbT
    isplitl [HbI]; · iexact HbI
    isplitl [HbR]; · iexact HbR
    iexact Hbufs
  isplitl [H0 H1 H2 H3 Hsems]
  · isplitr [Hsems]
    · isplitl [H0]; · iexact H0
      isplitl [H1]; · iexact H1
      isplitl [H2]; · iexact H2
      iexact H3
    · iexact Hsems
  iexact HO

end Task

/-! ## The launch's obligations -/

def coords (c : Fin (grid0.bound 0)) (s : Fin (grid0.bound 1)) : grid0.Coords :=
  fun | 0 => c | 1 => s | ⟨_ + 2, h⟩ => absurd h (Nat.not_lt.2 (Nat.le_add_left _ _))

theorem defs₀_task (c : Fin τ.nSC) (s : Fin τ.nSub) :
    defs₀ (F := F) (.scVector c s) 0 ()
      = SparseCore.onTile hcore0 hsub0 (fun c s => cc0_k (F := F) (coords c s) tV (Memref.isWhole_whole _) iV (Memref.isWhole_whole _) oV (Memref.isWhole_whole _)
          sT (Memref.isWhole_whole _) sI (Memref.isWhole_whole _) sR (Memref.isWhole_whole _) cc0_scoped0 cc0_scoped1 cc0_scoped2 cc0_scoped3 cc0_scoped4
          cc0_scoped5 cc0_scoped6 cc0_scoped7 cc0_scoped8 cc0_scoped9 cc0_scoped10 cc0_scoped11) ⟨⟩ c s := rfl

omit [FloatOps F] in
theorem waits_weaken {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

set_option maxRecDepth 16384 in
theorem tileObl (hF : (K (F := F)).Facts) (hix : ∀ d x, (ix d x).toNat < 8192) : (K (F := F)).TileObl (D (F := F)) 𝒱 (P t ix o) v₀ 0 := by
  intro d c i O W hO _ _
  simp only [show (P t ix o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact (task_wp t ix o d (coords ⟨_, hci.1⟩ ⟨_, hci.2⟩) hF hix O W hO).trans (wp_mono frame _ _ fun _ => waits_weaken)

end Cert.Proof.KernelIdeal

end
-- ==== Proof.Ideal.Tail.lean ====
/-
  The tail call on one block: its 4096 points' neighbour coordinates, centres and weights read, the features of the fifteen
  neighbours folded by their maximum, the layer applied, and the block of the result stored.
-/
module

public import proofs.«01_k».proof.Proof.Ideal.Deal
public import proofs.«01_k».proof.Proof.Gen.KernelIdeal.Points
public import proofs.«01_k».proof.Proof.Gen.KernelIdeal.Launch
public import Idealize.ShloMosaic.Lib.LaneScatter.Own
public import Idealize.ShloMosaic.Lib.Pipeline.Value

@[expose] public section

noncomputable section

namespace Cert.Proof.KernelIdeal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.LaneScatter (owns_raw raw_owns)

variable {F : FTy → Type} [FloatOps F] [∀ e, Nonempty (Elt F e)]

local notation "𝕄" => MT nD τ sig (HIx 1) (Elt F) ℕ UU ℕ

/-! ## What a block's result is -/

/-- Neighbour `o 0` of every point, less the point. -/
def offsetOf (o : Fin S16x3x4096.rank → ℕ) (h : S16x3x4096.Slices o S1x3x4096) (g : FVec F S16x3x4096 .f32) (c : FVec F S3x4096 .f32) :
    FVec F S3x4096 .f32 :=
  subf (shapeCast S3x4096 (extractStridedSlice S1x3x4096 o g h) shapeCasts_S1x3x4096_S3x4096) c

/-- The length of each column, and the printed small number added. -/
def lenOf (v : FVec F S3x4096 .f32) : FVec F S1x4096 .f32 :=
  addf (sqrt (addf (addf
      (mulf (extractStridedSlice S1x4096 ![0, 0] v slices_S3x4096_o0_0_S1x4096) (extractStridedSlice S1x4096 ![0, 0] v slices_S3x4096_o0_0_S1x4096))
      (mulf (extractStridedSlice S1x4096 ![1, 0] v slices_S3x4096_o1_0_S1x4096) (extractStridedSlice S1x4096 ![1, 0] v slices_S3x4096_o1_0_S1x4096)))
      (mulf (extractStridedSlice S1x4096 ![2, 0] v slices_S3x4096_o2_0_S1x4096) (extractStridedSlice S1x4096 ![2, 0] v slices_S3x4096_o2_0_S1x4096))))
    (broadcast S1x4096 (Scalar.ofBits .f32 0x322BCC77#32))

/-- The planes' products with each column, over its length. -/
def planeOf (w : Vec F S64x3 .f32) (v : FVec F S3x4096 .f32) : FVec F S64x4096 .f32 :=
  divf (matmul dot_S64x3_S3x4096_S64x4096_1_0_0_1_n_n none w v (constant S64x4096 .f32 0x00000000#32))
    (broadcastTo S64x4096 (lenOf v) broadcasts_S1x4096_S64x4096)

/-- The features of one neighbour. -/
def featOf (w : Vec F S64x3 .f32) (v : FVec F S3x4096 .f32) : FVec F S64x4096 .f32 :=
  mulf (mulf (broadcastTo S64x4096 (lenOf v) broadcasts_S1x4096_S64x4096) (planeOf w v)) (absf (planeOf w v))

/-- The largest feature of the fifteen neighbours. -/
def bestOf (g : FVec F S16x3x4096 .f32) (c : FVec F S3x4096 .f32) (w : Vec F S64x3 .f32) : FVec F S64x4096 .f32 :=
  have f (o : Fin S16x3x4096.rank → ℕ) (h : S16x3x4096.Slices o S1x3x4096) := featOf w (offsetOf o h g c)
  maximumf (maximumf (maximumf (maximumf (maximumf (maximumf (maximumf (maximumf (maximumf (maximumf (maximumf (maximumf (maximumf (maximumf
    (f ![1, 0, 0] slices_S16x3x4096_o1_0_0_S1x3x4096) (f ![2, 0, 0] slices_S16x3x4096_o2_0_0_S1x3x4096))
    (f ![3, 0, 0] slices_S16x3x4096_o3_0_0_S1x3x4096)) (f ![4, 0, 0] slices_S16x3x4096_o4_0_0_S1x3x4096))
    (f ![5, 0, 0] slices_S16x3x4096_o5_0_0_S1x3x4096)) (f ![6, 0, 0] slices_S16x3x4096_o6_0_0_S1x3x4096))
    (f ![7, 0, 0] slices_S16x3x4096_o7_0_0_S1x3x4096)) (f ![8, 0, 0] slices_S16x3x4096_o8_0_0_S1x3x4096))
    (f ![9, 0, 0] slices_S16x3x4096_o9_0_0_S1x3x4096)) (f ![10, 0, 0] slices_S16x3x4096_o10_0_0_S1x3x4096))
    (f ![11, 0, 0] slices_S16x3x4096_o11_0_0_S1x3x4096)) (f ![12, 0, 0] slices_S16x3x4096_o12_0_0_S1x3x4096))
    (f ![13, 0, 0] slices_S16x3x4096_o13_0_0_S1x3x4096)) (f ![14, 0, 0] slices_S16x3x4096_o14_0_0_S1x3x4096))
    (f ![15, 0, 0] slices_S16x3x4096_o15_0_0_S1x3x4096)

/-- The block of the result. -/
def tailv (g : Vec F S1x16x3x4096 .f32) (c : Vec F S1x3x4096 .f32) (w : Vec F S64x3 .f32) (w' : Vec F S128x64 .f32) (b : Vec F S128x1 .f32) :
    Vec F S1x128x4096 .f32 :=
  shapeCast S1x128x4096
    (maximumf
      (addf (matmul dot_S128x64_S64x4096_S128x4096_1_0_0_1_n_n none w'
          (bestOf (shapeCast S16x3x4096 g shapeCasts_S1x16x3x4096_S16x3x4096) (shapeCast S3x4096 c shapeCasts_S1x3x4096_S3x4096) w)
          (constant S128x4096 .f32 0x00000000#32))
        (broadcastTo S128x4096 (shapeCast S128x1 b shapeCasts_S128x1_S128x1) broadcasts_S128x1_S128x4096))
      (broadcast S128x4096 (Scalar.ofBits .f32 0x00000000#32)))
    shapeCasts_S128x4096_S1x128x4096

theorem zeros4 : (![0, 0, 0, 0] : Fin 4 → ℕ) = fun _ => 0 := funext fun a => by fin_cases a <;> rfl
theorem zeros3 : (![0, 0, 0] : Fin 3 → ℕ) = fun _ => 0 := funext fun a => by fin_cases a <;> rfl
theorem zeros2 : (![0, 0] : Fin 2 → ℕ) = fun _ => 0 := funext fun a => by fin_cases a <;> rfl

/-- A load through the whole of a block reads the block; a store through it leaves what it stored. -/
theorem readAt_zero {sp : Space} {S : Shape} {e : EltTy} (M : Memref sig .tc sp S e) {o : Fin S.rank → ℕ} (ho : o = fun _ => 0)
    (inb : ∀ a, o a + S.size a ≤ S.size a) {f : M.view.ty.Contents (Elt F)} {x : S.Idx → Elt F e} (hf : View.read (Elt F) M.view f = x) :
    View.readAt (Elt F) M.view (Rect.unit o S.size inb).toLoadRect f = x :=
  hf ▸ View.ld_unit_zero ho inb (View.read (Elt F) M.view f)

theorem read_store {sp : Space} {S : Shape} {e : EltTy} (M : Memref sig .tc sp S e) {o : Fin S.rank → ℕ} (ho : o = fun _ => 0)
    (inb : ∀ a, o a + S.size a ≤ S.size a) (f : M.view.ty.Contents (Elt F)) (w : S.Idx → Elt F e) :
    View.read (Elt F) M.view (M.view.writes (Elt F) f [⟨Rect.unit o S.size inb, w⟩]) = w := by
  rw [View.read_writes_eq_canon _ _ _ fun y => ⟨_, List.mem_singleton_self _, View.mem_set_unit_zero ho inb y⟩, View.canon_unit_zero ho]

/-! ## The run of the body -/

set_option maxRecDepth 65536 in
theorem tail_run (c : Dev nD) (i : grid1.Coords)
    (a2 : Memref sig .tc .vmem S1x16x3x4096 .f32) (h2 : a2.IsWhole) (a3 : Memref sig .tc .vmem S1x3x4096 .f32) (h3 : a3.IsWhole)
    (a4 : Memref sig .tc .vmem S64x3 .f32) (h4 : a4.IsWhole) (a5 : Memref sig .tc .vmem S128x64 .f32) (h5 : a5.IsWhole)
    (a6 : Memref sig .tc .vmem S128x1 .f32) (h6 : a6.IsWhole) (a7 : Memref sig .tc .vmem S1x128x4096 .f32) (h7 : a7.IsWhole)
    (x2 : Vec F S1x16x3x4096 .f32) (x3 : Vec F S1x3x4096 .f32) (x4 : Vec F S64x3 .f32) (x5 : Vec F S128x64 .f32) (x6 : Vec F S128x1 .f32)
    (x7 : Vec F S1x128x4096 .f32) (Q : PUnit → sProp 𝕄) :
    owns (c : Thread nD τ) a2 fullShare x2 ⊢ owns (c : Thread nD τ) a3 fullShare x3 -∗ owns (c : Thread nD τ) a4 fullShare x4
      -∗ owns (c : Thread nD τ) a5 fullShare x5 -∗ owns (c : Thread nD τ) a6 fullShare x6 -∗ owns (c : Thread nD τ) a7 fullShare x7
      -∗ ((owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare (tailv x2 x3 x4 x5 x6)) -∗ Q ⟨⟩)
      -∗ wp frame (wpE defs₀ Variants.none (c : Thread nD τ) none) Set.univ
          (cc1__tail_kernel (F := F) i a2 h2 a3 h3 a4 h4 a5 h5 a6 h6 a7 h7) Q := by
  simp only [cc1__tail_kernel_eq_skeleton]
  unfold cc1__tail_kernel_skel
  simp only [k1_part1_eq_skeleton, k1_part2_eq_skeleton, k1_part3_eq_skeleton, k1_part4_eq_skeleton, k1_part5_eq_skeleton,
    k1_part6_eq_skeleton, k1_part7_eq_skeleton]
  unfold k1_part1_skel k1_part2_skel k1_part3_skel k1_part4_skel k1_part5_skel k1_part6_skel k1_part7_skel owns
  iintro ⟨%f2, %e2, H2⟩ ⟨%f3, %e3, H3⟩ ⟨%f4, %e4, H4⟩ ⟨%f5, %e5, H5⟩ ⟨%f6, %e6, H6⟩ ⟨%f7, %e7, H7⟩ HQ
  sl_exec
  rw [wp_ret]
  imodintro
  iapply HQ
  have r2 := readAt_zero a2 zeros4 inb_S1x16x3x4096_S1x16x3x4096_0_0_0_0 e2
  have r3 := readAt_zero a3 zeros3 inb_S1x3x4096_S1x3x4096_0_0_0 e3
  have r4 := readAt_zero a4 zeros2 inb_S64x3_S64x3_0_0 e4
  have r5 := readAt_zero a5 zeros2 inb_S128x64_S128x64_0_0 e5
  have r6 := readAt_zero a6 zeros2 inb_S128x1_S128x1_0_0 e6
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  iexists _; isplitr; swap
  · iexact H7
  ipureintro
  refine (read_store a7 zeros3 _ _ _).trans ?_
  simp only [r2, r3, r4, r5, r6]
  rfl

end Cert.Proof.KernelIdeal
-- ==== Proof.Ideal.Region.lean ====
/-
  The tail call's pipeline: what its arrays and its staging buffers hold at each of the eight points, the body's obligation,
  and the whole call as one step of the program on the TensorCore, from the buffers at given contents to the result array
  written block by block.
-/
module

public import proofs.«01_k».proof.Proof.Ideal.Tail
public import Idealize.ShloMosaic.Lib.Pipeline.RegionArraysS

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)
open Idealize.ShloMosaic.StableHlo (held)

variable {F : FTy → Type} [FloatOps F] [∀ e, Nonempty (Elt F e)]

local notation "𝕄" => MT nD τ sig (HIx 1) (Elt F) ℕ UU ℕ

variable (W : Dev nD → Valuation τ sig (Elt F))

/-- The blocks of the five inputs at point `t`, read off the arrays at the call's entry. -/
def b0 (c : Dev nD) (t : Fin cfg1.N) : Vec F S1x16x3x4096 .f32 :=
  ((cfg1.win 0).blk t).view.read (Elt F) (W c (Proc.devRef .tc (Pipeline.arrRef spec1 0)))
def b1 (c : Dev nD) (t : Fin cfg1.N) : Vec F S1x3x4096 .f32 :=
  ((cfg1.win 1).blk t).view.read (Elt F) (W c (Proc.devRef .tc (Pipeline.arrRef spec1 1)))
def b2 (c : Dev nD) (t : Fin cfg1.N) : Vec F S64x3 .f32 :=
  ((cfg1.win 2).blk t).view.read (Elt F) (W c (Proc.devRef .tc (Pipeline.arrRef spec1 2)))
def b3 (c : Dev nD) (t : Fin cfg1.N) : Vec F S128x64 .f32 :=
  ((cfg1.win 3).blk t).view.read (Elt F) (W c (Proc.devRef .tc (Pipeline.arrRef spec1 3)))
def b4 (c : Dev nD) (t : Fin cfg1.N) : Vec F S128x1 .f32 :=
  ((cfg1.win 4).blk t).view.read (Elt F) (W c (Proc.devRef .tc (Pipeline.arrRef spec1 4)))

/-- The pairs a wait of the TensorCore may have recorded by then. -/
def early (c : Dev nD) : Set (SemLoc sig × HIx 1) := {p | (K (F := F)).lev (T c, p.1) p.2 ≤ 8 * SparseCore.Cfg.Blocks.fst (Q := 1) (N := 1) 1}

def dats (_ : Fin 1) (c : Dev nD) : Dat τ (Elt F) (HIx 1) ℕ UU ℕ cfg1 c where
  A w := W c (Proc.devRef .tc (Pipeline.arrRef spec1 w))
  after w t := match w with
    | ⟨0, _⟩ => b0 W c t
    | ⟨1, _⟩ => b1 W c t
    | ⟨2, _⟩ => b2 W c t
    | ⟨3, _⟩ => b3 W c t
    | ⟨4, _⟩ => b4 W c t
    | ⟨5, _⟩ => tailv (b0 W c t) (b1 W c t) (b2 W c t) (b3 W c t) (b4 W c t)
  Φ _ := BI.emp
  q _ := fullShare
  owed _ := 0
  recorded _ := early (F := F) c

theorem A_eq (c : Dev nD) (w : Fin cfg1.W) : (dats W 0 c).A w = W c (Proc.devRef .tc (Pipeline.arrRef spec1 w)) := by
  dsimp only [dats]

theorem before_0 (c : Dev nD) (t : Fin cfg1.N) (d : Vec F S1x16x3x4096 .f32) : (dats W 0 c).before 0 t d = b0 W c t :=
  (dats W 0 c).before_in_eq_fetched 0 rfl (fun _ => rfl) (fun _ _ _ => rfl) (fun t => by dsimp only [dats]; rfl) t d
theorem before_1 (c : Dev nD) (t : Fin cfg1.N) (d : Vec F S1x3x4096 .f32) : (dats W 0 c).before 1 t d = b1 W c t :=
  (dats W 0 c).before_in_eq_fetched 1 rfl (fun _ => rfl) (fun _ _ _ => rfl) (fun t => by dsimp only [dats]; rfl) t d
theorem before_2 (c : Dev nD) (t : Fin cfg1.N) (d : Vec F S64x3 .f32) : (dats W 0 c).before 2 t d = b2 W c t :=
  (dats W 0 c).before_in_eq_fetched 2 rfl (fun _ => rfl) (fun _ _ _ => rfl) (fun t => by dsimp only [dats]; rfl) t d
theorem before_3 (c : Dev nD) (t : Fin cfg1.N) (d : Vec F S128x64 .f32) : (dats W 0 c).before 3 t d = b3 W c t :=
  (dats W 0 c).before_in_eq_fetched 3 rfl (fun _ => rfl) (fun _ _ _ => rfl) (fun t => by dsimp only [dats]; rfl) t d
theorem before_4 (c : Dev nD) (t : Fin cfg1.N) (d : Vec F S128x1 .f32) : (dats W 0 c).before 4 t d = b4 W c t :=
  (dats W 0 c).before_in_eq_fetched 4 rfl (fun _ => rfl) (fun _ _ _ => rfl) (fun t => by dsimp only [dats]; rfl) t d

theorem body_obligation (c : Dev nD) : BodyObligation (dats W 0 c) (defs₀ (F := F)) 𝒱₀ none Set.univ := fun t => by
  rw [bigSep_W1, bigSep_W1]
  rw [show (dats W 0 c).Φ t.castSucc = BI.emp from rfl, show (dats W 0 c).Φ t.succ = BI.emp from rfl]
  unfold Dat.owesAt Pipeline.owesWithin
  rw [show (dats W 0 c).owed t.castSucc = 0 from rfl, show (dats W 0 c).owed t.succ = 0 from rfl,
    show (dats W 0 c).bound none t.castSucc = (dats W 0 c).bound none t.succ from rfl]
  iintro ⟨-, ⟨%Wd, %hW, HO⟩, ⟨%d0, H0⟩, ⟨%d1, H1⟩, ⟨%d2, H2⟩, ⟨%d3, H3⟩, ⟨%d4, H4⟩, ⟨%d5, H5⟩⟩
  simp only [before_0, before_1, before_2, before_3, before_4]
  iapply (tail_run c (grid1.coords t) _ _ _ _ _ _ _ _ _ _ _ _ (b0 W c t) (b1 W c t) (b2 W c t) (b3 W c t) (b4 W c t)
    ((dats W 0 c).before 5 t d5)) $$ H0 H1 H2 H3 H4 H5
  iintro ⟨H0, H1, H2, H3, H4, H5⟩
  isplitr; · iempintro
  isplitl [HO]
  · iexists Wd; isplitr
    · ipureintro; exact hW
    iexact HO
  isplitl [H0]; · iexact H0
  isplitl [H1]; · iexact H1
  isplitl [H2]; · iexact H2
  isplitl [H3]; · iexact H3
  isplitl [H4]; · iexact H4
  iexact H5

/-! ## The call as a step -/

abbrev adm : (p : Fin 1) → (pcfgs (F := F) p).Adm := fun p => (cfgs p).toPCfg_adm

/-- What the core owes after the gather: nothing, its recorded waits early. -/
def owesB (c : Dev nD) : sProp 𝕄 :=
  iprop(∃ Wd, ⌜(K (F := F)).WBelow (T c) Wd (8 * SparseCore.Cfg.Blocks.fst (Q := 1) (N := 1) 1)⌝ ∗ owes (T c) (0 : CellTallies nD τ sig (HIx 1)) Wd)

theorem bound_early (c : Dev nD) (t : Fin (cfg1.N + 1)) : (dats W 0 c).bound none t ⊆ early (F := F) c := by
  rintro p (h | ⟨w, s, rfl⟩)
  · exact h
  · exact Nat.zero_le _

set_option backward.isDefEq.respectTransparency.types false in
def reg : Pipeline.RegionSeg (pcfgs (F := F)) adm (dats W) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ _ _ 0 fun _ _ => rfl
  pre c := iprop(held (c.tc : Thread nD τ) (Pipeline.arrRefs spec1) (W c) ∗ owesB c)
  post c := iprop(held (c.tc : Thread nD τ) (Pipeline.arrRefs spec1) (Pipeline.afterRegion (dats W 0 c) (W c)) ∗ owesB c)
  X _ := BI.emp
  Y _ := BI.emp
  Z _ := BI.emp
  hentry c := by
    rw [Pipeline.ownSems0_none, Pipeline.prefHeld_of_none _ rfl,
      Pipeline.arrays_held (pcfgs (F := F)) adm (dats W) 0 launch1.toP c ((dats W 0 c).share_full fun _ => rfl) ((dats W 0 c).arrAt · 0) (W c)
        (A_eq W c)]
    unfold owesB Dat.owesAt Pipeline.owesWithin
    iintro ⟨⟨Ha, ⟨%Wd, %hW, HO⟩⟩, -, -⟩
    imodintro
    isplitl [Ha]; · iexact Ha
    isplitr; · iempintro
    isplitl [HO]
    · iexists Wd; isplitr
      · ipureintro; exact fun p hp => Or.inl (hW p hp)
      iexact HO
    isplitr; · iempintro
    iempintro
  hin c := by
    iintro -
    iempintro
  hout c := by
    rw [Pipeline.ownSems0_none, scopedRest1_eq]
    iintro -
    isplitr; · iempintro
    isplitr; · iempintro
    iempintro
  hexit c := by
    have e := Pipeline.arrays_held (pcfgs (F := F)) adm (dats W) 0 launch1.toP c ((dats W 0 c).share_full fun _ => rfl) _
      (Pipeline.afterRegion (dats W 0 c) (W c)) (fun w => (Pipeline.afterRegion_arr (dats W 0 c) (W c) launch1.win.arr_inj w).symm)
    refine (sep_mono (Entails.of_eq e) .rfl).trans ?_
    unfold owesB Dat.owesAt Pipeline.owesWithin
    iintro ⟨Ha, ⟨%Wd, %hW, HO⟩, -, -⟩
    imodintro
    isplitl [Ha]; · iexact Ha
    iexists Wd; isplitr
    · ipureintro; exact fun p hp => bound_early W c _ (hW hp)
    iexact HO

instance : (EP (F := F)).LandsIn (upEmb : UEmb _ 𝕄) := by unfold EP; infer_instance

theorem arr_uc : Pipeline.arrRefs (τ := τ) spec1 ⊆ Pipeline.ucRefs τ sig := Pipeline.arrRefs_sub_ucRefs spec1 (by decide)

/-- The call: from the TensorCore's buffers at `W d` to the same after the region. -/
theorem region_wp (d : Dev nD) (Φ : PUnit → sProp 𝕄) :
    iprop((iprop(boundary (T d) ∗ held (T d) (Pipeline.ucRefs τ sig) (Pipeline.afterRegion (dats W 0 d) (W d)) ∗ owesB (F := F) d) -∗ Φ ⟨⟩)
        ∗ boundary (T d) ∗ held (T d) (Pipeline.ucRefs τ sig) (W d) ∗ owesB (F := F) d ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (T d) none) Set.univ
          (Prog.lift (.customCall (SparseCore.inner (Pipeline.entry 0)) ())) Φ := by
  have h := Pipeline.RegionSeg.wp (pcfgs (F := F)) adm (dats W) none cellOf_inj (EP (F := F)) defs₀ 𝒱₀ (K (F := F)).L (K (F := F)).lev
    (reg W) d none (fun _ h => nomatch h) (fun _ => .ret ⟨⟩) Φ
  have h2 := (K (F := F)).wp_liftProg (D (F := F)) 𝒱 (T d) Set.univ none (Prog.lift (.customCall (Pipeline.entry 0) ())) Φ
  have h3 := h.trans h2
  clear h h2
  rw [show (reg W).post d = iprop(held (T d) (Pipeline.arrRefs spec1) (Pipeline.afterRegion (dats W 0 d) (W d)) ∗ owesB (F := F) d) from rfl,
    show (reg W).pre d = iprop(held (T d) (Pipeline.arrRefs spec1) (W d) ∗ owesB (F := F) d) from rfl] at h3
  refine BIBase.Entails.trans ?_ h3
  rw [StableHlo.held_sub_split (T d) arr_uc (W d),
    StableHlo.held_sub_split (T d) arr_uc (Pipeline.afterRegion (dats W 0 d) (W d)),
    StableHlo.held_congr (T d) (S := Pipeline.ucRefs τ sig \ Pipeline.arrRefs spec1) (Pipeline.afterRegion_off (dats W 0 d) (W d) _)]
  iintro ⟨HΦ, Hb, ⟨Ha, Hr⟩, HO, HL, HC, HT⟩
  isplitl [HΦ Hr]
  · iintro ⟨Hb, Ha, HO⟩
    rw [wp_ret]; imodintro
    iapply HΦ
    isplitl [Hb]; · iexact Hb
    isplitl [Ha Hr]
    · isplitl [Ha]; · iexact Ha
      iexact Hr
    iexact HO
  isplitl [Hb]; · iexact Hb
  isplitl [Ha HO]
  · isplitl [Ha]; · iexact Ha
    iexact HO
  isplitl [HL]; · iexact HL
  isplitl [HC]; · iexact HC
  iexact HT

end Cert.Proof.KernelIdeal
-- ==== Proof.Ideal.Run.lean ====
/-
  The launch: what every buffer of the TensorCore holds after each step of the program, the program's run from the launch
  to the end, and the frame.
-/
module

public import proofs.«01_k».proof.Proof.Ideal.Deal
public import proofs.«01_k».proof.Proof.Ideal.Region

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The host operations and the buffers after each step -/

abbrev opT : HloOp τ sig (Elt F) := StableHlo.unary main_arg0 main_v0
  ((transpose S4x3x8192 [0, 2, 1] · transposes_S4x8192x3_S4x3x8192_0_2_1) : (⟨S4x8192x3, .f32⟩ : BufTy).Contents (Elt F) → (⟨S4x3x8192, .f32⟩ : BufTy).Contents (Elt F))
abbrev opX : HloOp τ sig (Elt F) := StableHlo.reshape main_v0 main_v1 (rfl : (.f32 : EltTy) = .f32) shapeCasts_S4x3x8192_S98304
abbrev opI : HloOp τ sig (Elt F) := StableHlo.reshape main_arg1 main_v2 (rfl : (.i32 : EltTy) = .i32) shapeCasts_S4x8192x16_S524288
abbrev opG : HloOp τ sig (Elt F) := StableHlo.reshape main_v3 main_v4 (rfl : (.f32 : EltTy) = .f32) shapeCasts_S1572864_S4x16x3x8192
abbrev opB : HloOp τ sig (Elt F) := StableHlo.reshape main_arg4 main_v5 (rfl : (.f32 : EltTy) = .f32) shapeCasts_S128_S128x1

theorem opT_uc : (opT (F := F)).bufs ⊆ Pipeline.ucRefs τ sig := Pipeline.sub_ucRefs _ (StableHlo.unary_bufs_sub _ _ _ _ _)
theorem opX_uc : (opX (F := F)).bufs ⊆ Pipeline.ucRefs τ sig := Pipeline.sub_ucRefs _ (StableHlo.reshape_bufs_sub _ _ _ _ _ _)
theorem opI_uc : (opI (F := F)).bufs ⊆ Pipeline.ucRefs τ sig := Pipeline.sub_ucRefs _ (StableHlo.reshape_bufs_sub _ _ _ _ _ _)
theorem opG_uc : (opG (F := F)).bufs ⊆ Pipeline.ucRefs τ sig := Pipeline.sub_ucRefs _ (StableHlo.reshape_bufs_sub _ _ _ _ _ _)
theorem opB_uc : (opB (F := F)).bufs ⊆ Pipeline.ucRefs τ sig := Pipeline.sub_ucRefs _ (StableHlo.reshape_bufs_sub _ _ _ _ _ _)

/-- At the launch. -/
def VA (d : Dev nD) : Valuation τ sig (Elt F) := fun b => m (d, b)
/-- Before the SparseCore call. -/
def VB (d : Dev nD) : Valuation τ sig (Elt F) := opI.result (opX.result (opT.result (VA m d)))
/-- The call's operands. -/
def tab (d : Dev nD) : Vec F S98304 .f32 := VB m d (Proc.devRef .tc main_v1)
def ids (d : Dev nD) : IVec S524288 32 := VB m d (Proc.devRef .tc main_v2)
def old (d : Dev nD) : Vec F S1572864 .f32 := VB m d (Proc.devRef .tc main_v3)
/-- After the SparseCore call. -/
def VC (d : Dev nD) : Valuation τ sig (Elt F) := Function.update (VB m d) (Proc.devRef .tc main_v3) (outv (tab m d) (ids m d))
/-- Before the tail call. -/
def VD (d : Dev nD) : Valuation τ sig (Elt F) := opB.result (opG.result (VC m d))
/-- At the end. -/
def VE (d : Dev nD) : Valuation τ sig (Elt F) := Pipeline.afterRegion (dats (VD m) 0 d) (VD m d)

/-- The three arrays of the SparseCore call. -/
def arr3 : Finset (DevRef τ sig) := {Proc.devRef .tc main_v1, Proc.devRef .tc main_v2, Proc.devRef .tc main_v3}

theorem arr3_uc : arr3 ⊆ Pipeline.ucRefs τ sig := by decide

theorem held_arr3 (d : Dev nD) (W : Valuation τ sig (Elt F)) :
    (held (T d) arr3 W : sProp 𝕄) = iprop((tLoc d ↦{fullShare} W (Proc.devRef .tc main_v1)) ∗ (iLoc d ↦{fullShare} W (Proc.devRef .tc main_v2))
      ∗ oLoc d ↦{fullShare} W (Proc.devRef .tc main_v3)) := by
  unfold StableHlo.held arr3
  rw [SparseCore.bigSep_insert' (by decide), SparseCore.bigSep_insert' (by decide), bigSep_singleton]

theorem held_VB (d : Dev nD) : (held (T d) (Pipeline.ucRefs τ sig) (VB m d) : sProp 𝕄)
    = iprop(((tLoc d ↦{fullShare} tab m d) ∗ (iLoc d ↦{fullShare} ids m d) ∗ oLoc d ↦{fullShare} old m d) ∗ held (T d) (Pipeline.ucRefs τ sig \ arr3) (VB m d)) := by
  rw [StableHlo.held_sub_split (T d) arr3_uc, held_arr3]; rfl

theorem held_VC (d : Dev nD) : (held (T d) (Pipeline.ucRefs τ sig) (VC m d) : sProp 𝕄)
    = iprop(((tLoc d ↦{fullShare} tab m d) ∗ (iLoc d ↦{fullShare} ids m d) ∗ oLoc d ↦{fullShare} outv (tab m d) (ids m d))
      ∗ held (T d) (Pipeline.ucRefs τ sig \ arr3) (VB m d)) := by
  rw [StableHlo.held_sub_split (T d) arr3_uc, held_arr3,
    StableHlo.held_congr (T d) (S := Pipeline.ucRefs τ sig \ arr3) (V := VC m d) (V' := VB m d) fun b hb => by
      refine Function.update_of_ne ?_ _ _
      rintro rfl
      exact (Finset.mem_sdiff.mp hb).2 (by decide)]
  unfold VC
  rw [Function.update_self, Function.update_of_ne (by decide), Function.update_of_ne (by decide)]
  rfl

/-! ## The ghost state at the launch -/

def u₀ : UU := (initOf (K (F := F)).hsCells (K (F := F)).hsToks, (initOf (Pipeline.cells cfgs cellOf_inj) (Pipeline.launchToks cfgs cellOf_inj), 1))

/-- What the tail call takes of it. -/
abbrev G (d : Dev nD) : sProp 𝕄 := iprop(Pipeline.cellsGhost cfgs (EP (F := F)) 0 d ∗ Pipeline.toksInit cfgs (EP (F := F)) 0 d)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (tab m) (ids m) (old m)).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave HR' := (show (BI.own ((embR : Emb (UP × Counters) 𝕄) (initOf (Pipeline.cells cfgs cellOf_inj) (Pipeline.launchToks cfgs cellOf_inj), 1)) : sProp 𝕄)
      ⊢ BI.own ((EP (F := F)) (initOf (Pipeline.cells cfgs cellOf_inj) (Pipeline.launchToks cfgs cellOf_inj))) from .rfl) $$ HR
  imod (Pipeline.fund_ghost cfgs (EP (F := F)) cellOf_inj) $$ HR' with ⟨Hc, Ht⟩
  imodintro
  isplitl [HH]; · iexact HH
  isplitl [Hc Ht]
  · rw [bigSep_sep']
    isplitl [Hc]
    · iapply (Entails.of_eq (show (bigSep Finset.univ fun c : Dev nD => bigSep Finset.univ fun p : Fin 1 => Pipeline.cellsGhost cfgs (EP (F := F)) p c : sProp 𝕄)
        = bigSep Finset.univ fun c : Dev nD => Pipeline.cellsGhost cfgs (EP (F := F)) 0 c from bigSep_congr fun _ _ => bigSep_univ_of_subsingleton (0 : Fin 1))) $$ Hc
    · iapply (Entails.of_eq (show (bigSep Finset.univ fun c : Dev nD => bigSep Finset.univ fun p : Fin 1 => Pipeline.toksInit cfgs (EP (F := F)) p c : sProp 𝕄)
        = bigSep Finset.univ fun c : Dev nD => Pipeline.toksInit cfgs (EP (F := F)) 0 c from bigSep_congr fun _ _ => bigSep_univ_of_subsingleton (0 : Fin 1))) $$ Ht
  rw [show (bigSep Finset.univ fun thr : Thread nD τ => bigSep Finset.univ fun q : Fin 1 => (P (F := F) (tab m) (ids m) (old m)).x q thr) = bigSep Finset.univ fun _ => iprop(emp) from
    bigSep_congr fun _ _ => bigSep_univ_of_subsingleton (0 : Fin 1), emp_all]
  iempintro

/-! ## The program on the TensorCore -/

/-- After the last SparseCore call the TensorCore owes nothing: its state is that fact and a remainder. -/
theorem tcSt_one (d : Dev nD) : ∃ R : sProp 𝕄, (K (F := F)).tcSt EH d 1 = iprop(owesB (F := F) d ∗ R) := by
  unfold SparseCore.Cfg.tcSt owesB
  rw [SparseCore.Cfg.Otc_end (K (F := F)) d le_rfl]
  exact ⟨_, rfl⟩

theorem launch_held (d : Dev nD) :
    (unscopedBufs d fun b => m ((d.tc : Thread nD τ).loc b) : sProp 𝕄) = held (T d) (Pipeline.ucRefs τ sig) (VA m d) := by
  rw [← Pipeline.unscopedBufs_held]; rfl

abbrev FIN (d : Dev nD) : sProp 𝕄 := held (T d) (Pipeline.ucRefs τ sig) (VE m d)

theorem hmain (κ : GSem nD τ sig → ℕ) (d : Dev nD) :
    iprop((K (F := F)).ctx EH (P (tab m) (ids m) (old m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [launch_held]
  simp only [main, wp_bind]
  iintro ⟨#Hctx, Hst, ⟨Hb, Hh, Hts, -⟩, Hc, Ht⟩
  iapply (StableHlo.wp_hlo_within 𝒱 (T d) none Set.univ (op := opT) (V := VA m d) (opT_uc (F := F))) $$ [Hb Hh]
  · isplitl [Hb] <;> iassumption
  iintro ⟨Hb, Hh⟩
  rw [wp_ret]; imodintro
  iapply (StableHlo.wp_hlo_within 𝒱 (T d) none Set.univ (op := opX) (V := opT.result (VA m d)) (opX_uc (F := F))) $$ [Hb Hh]
  · isplitl [Hb] <;> iassumption
  iintro ⟨Hb, Hh⟩
  rw [wp_ret]; imodintro
  iapply (StableHlo.wp_hlo_within 𝒱 (T d) none Set.univ (op := opI) (V := opX.result (opT.result (VA m d))) (opI_uc (F := F))) $$ [Hb Hh]
  · isplitl [Hb] <;> iassumption
  iintro ⟨Hb, Hh⟩
  rw [wp_ret]; imodintro
  rw [show opI.result (opX.result (opT.result (VA m d))) = VB m d from rfl]
  ihave Hh' := (Entails.of_eq (held_VB m d)) $$ Hh
  icases Hh' with ⟨H3, Hr⟩
  iapply ((K (F := F)).wp_run (D (F := F)) 𝒱 (EH := EH) (P := P (tab m) (ids m) (old m)) κ d 0)
  isplitr; · iexact Hctx
  isplitl [Hst]; · iexact Hst
  isplitl [H3]; · rw [st0_eq]; iexact H3
  iintro ⟨Hst, Hdn⟩
  ihave H3 := (Entails.of_eq (dn0_eq (tab m) (ids m) (old m) d)) $$ Hdn
  iapply (StableHlo.wp_hlo_within 𝒱 (T d) none Set.univ (op := opG) (V := VC m d) (opG_uc (F := F))) $$ [Hb H3 Hr]
  · isplitl [Hb]; · iexact Hb
    rw [held_VC]
    isplitl [H3] <;> iassumption
  iintro ⟨Hb, Hh⟩
  rw [wp_ret]; imodintro
  iapply (StableHlo.wp_hlo_within 𝒱 (T d) none Set.univ (op := opB) (V := opG.result (VC m d)) (opB_uc (F := F))) $$ [Hb Hh]
  · isplitl [Hb] <;> iassumption
  iintro ⟨Hb, Hh⟩
  rw [wp_ret]; imodintro
  rw [show opB.result (opG.result (VC m d)) = VD m d from rfl]
  ihave Hst' := (show ((K (F := F)).tcSt EH d ((0 : Fin 1).val + 1) : sProp 𝕄) ⊢ iprop(owesB (F := F) d ∗ R) from Entails.of_eq hR) $$ Hst
  icases Hst' with ⟨Ho, HR⟩
  iapply (region_wp (VD m) d)
  isplitl [HR Hts]
  · iintro ⟨Hb, Hh, Ho⟩
    rw [wp_pure]; imodintro
    isplitl [Ho HR]
    · rw [hR]; isplitl [Ho] <;> iassumption
    isplitl [Hh]; · iexact Hh
    isplitl [Hb] <;> iassumption
  isplitl [Hb]; · iexact Hb
  isplitl [Hh]; · iexact Hh
  isplitl [Ho]; · iexact Ho
  isplitr
  · iapply (SparseCore.Cfg.ctx_levAts κ); iexact Hctx
  isplitl [Hc] <;> iassumption

def fq (d : Dev nD) (s' : Phys nD τ sig (Elt F)) : Prop := ∀ b ∈ Pipeline.ucRefs τ sig, s'.mem.mem (d, b) = VE m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave %h := (SI_pointsTo_bufs_agree (qs := fun _ => fullShare) (Pipeline.ucRefs τ sig)) $$ [HSI Hh]
  · isplitl [HSI]; · iexact HSI
    iexact Hh
  ipureintro; exact h

def QC : PUnit × MemSt nD τ sig (Elt F) → Prop := fun r =>
  (∀ d : Dev nD, ∀ b ∈ Pipeline.ucRefs τ sig, r.2.mem (d, b) = VE m d b) ∧ r.2.sem = fun _ => 0

theorem run_main (hix : ∀ d x, (ids m d x).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tab m) (ids m) (old m)) (A := ∅) facts v₀
    (fun q hq => match q with | 0 => nomatch hq)
    (fun q _ => match q with | 0 => tileObl (tab m) (ids m) (old m) facts hix)
    (fun q _ => match q with | 0 => SparseCore.Cfg.VecSplit.of_plain (vecSplit (tab m) (ids m) (old m)))
    m ρ main G (FIN m) (u₀ (F := F)) (sep_elim_left.trans (hu₀ m)) (hmain m ρ) (fq m) (hfin m) (QC m) (fun _ h hz => ⟨h, hz⟩)

/-! ## The arguments are kept -/

/-- An array that is no output of the tail call holds at the end what it held before the call. -/
theorem VE_keeps (d : Dev nD) (r : Ref sig .tc) (h : ∀ w, Pipeline.arrRef spec1 w = r → (cfg1.win w).isOut = false) :
    VE m d (Proc.devRef .tc r) = VD m d (Proc.devRef .tc r) :=
  Pipeline.afterRegion_keeps (dats (VD m) 0 d) (VD m d) launch1.win.arr_inj (A_eq (VD m) d) r h

/-- A buffer none of the host operations and no call writes keeps its contents. -/
theorem VD_keeps (d : Dev nD) (r : Ref sig .tc) (h : r ∉ ({main_v0, main_v1, main_v2, main_v3, main_v4, main_v5} : Finset (Ref sig .tc))) :
    VD m d (Proc.devRef .tc r) = m ((d.tc : Thread nD τ).loc r) := by
  simp only [Finset.mem_insert, Finset.mem_singleton, not_or] at h
  obtain ⟨h0, h1, h2, h3, h4, h5⟩ := h
  unfold VD VC
  rw [StableHlo.reshape_result_ne _ _ _ _ _ _ _ h5, StableHlo.reshape_result_ne _ _ _ _ _ _ _ h4,
    Function.update_of_ne (StableHlo.devRef_ne_of_ne h3)]
  unfold VB
  rw [StableHlo.reshape_result_ne _ _ _ _ _ _ _ h2, StableHlo.reshape_result_ne _ _ _ _ _ _ _ h1, StableHlo.unary_result_ne _ _ _ _ _ _ h0]
  rfl

theorem arg_kept (d : Dev nD) (r : Ref sig .tc) (h : ∀ w, Pipeline.arrRef spec1 w = r → (cfg1.win w).isOut = false)
    (h' : r ∉ ({main_v0, main_v1, main_v2, main_v3, main_v4, main_v5} : Finset (Ref sig .tc))) :
    VE m d (Proc.devRef .tc r) = m ((d.tc : Thread nD τ).loc r) := (VE_keeps m d r h).trans (VD_keeps m d r h')

/-- The arguments at the end of a run. -/
theorem args_kept {r : PUnit × MemSt nD τ sig (Elt F)} (hr : QC m r) (d : Dev nD) :
    r.2.mem ((d.tc : Thread nD τ).loc main_arg0) = m ((d.tc : Thread nD τ).loc main_arg0) ∧ r.2.mem ((d.tc : Thread nD τ).loc main_arg1) = m ((d.tc : Thread nD τ).loc main_arg1)
      ∧ r.2.mem ((d.tc : Thread nD τ).loc main_arg2) = m ((d.tc : Thread nD τ).loc main_arg2) ∧ r.2.mem ((d.tc : Thread nD τ).loc main_arg3) = m ((d.tc : Thread nD τ).loc main_arg3)
      ∧ r.2.mem ((d.tc : Thread nD τ).loc main_arg4) = m ((d.tc : Thread nD τ).loc main_arg4) :=
  ⟨(hr.1 d (Proc.devRef .tc main_arg0) (by decide)).trans (arg_kept m d main_arg0 (by decide) (by decide)),
    (hr.1 d (Proc.devRef .tc main_arg1) (by decide)).trans (arg_kept m d main_arg1 (by decide) (by decide)),
    (hr.1 d (Proc.devRef .tc main_arg2) (by decide)).trans (arg_kept m d main_arg2 (by decide) (by decide)),
    (hr.1 d (Proc.devRef .tc main_arg3) (by decide)).trans (arg_kept m d main_arg3 (by decide) (by decide)),
    (hr.1 d (Proc.devRef .tc main_arg4) (by decide)).trans (arg_kept m d main_arg4 (by decide) (by decide))⟩

/-- The call's indices are the argument's, flat. -/
theorem ids_eq (d : Dev nD) : ids m d = shapeCast S524288 (m ((d.tc : Thread nD τ).loc main_arg1)) shapeCasts_S4x8192x16_S524288 := by
  unfold ids VB
  rw [StableHlo.reshape_result, StableHlo.reshape_result_ne _ _ _ _ _ _ _ (by decide), StableHlo.unary_result_ne _ _ _ _ _ _ (by decide)]
  rfl

/-- The call's table is the argument's transpose, flat. -/
theorem tab_eq (d : Dev nD) : tab m d = shapeCast S98304 (transpose S4x3x8192 [0, 2, 1] (m ((d.tc : Thread nD τ).loc main_arg0)) transposes_S4x8192x3_S4x3x8192_0_2_1)
    shapeCasts_S4x3x8192_S98304 := by
  unfold tab VB
  rw [StableHlo.reshape_result_ne _ _ _ _ _ _ _ (by decide), StableHlo.reshape_result, StableHlo.unary_result]
  rfl

end Cert.Proof.KernelIdeal

end
-- ==== Proof.Spec.lean ====
/-
  One element of the result, at the extended reals, from the fifteen offsets of a point's neighbours: what the kernel's
  block and the reference both come to.
-/
module

public import Idealize.ShloMosaic.PureOps.Ideal.Laws
public import Idealize.ShloMosaic.Lib.ValueIdx

@[expose] public section

noncomputable section

namespace Cert.Proof.Spec

open Idealize.ShloMosaic

/-- The length of an offset, and the small number that the division needs. -/
def len (v : Fin 3 → EReal) : EReal := Ideal.sqrt (v 0 * v 0 + v 1 * v 1 + v 2 * v 2) + Ideal.ofBits .f32 0x322BCC77#32

/-- The product of a plane with an offset, over its length. -/
def plane (w v : Fin 3 → EReal) : EReal := Ideal.div (v 0 * w 0 + v 1 * w 1 + v 2 * w 2) (len v)

def feat (w v : Fin 3 → EReal) : EReal := len v * plane w v * max (plane w v) (-plane w v)

/-- The largest feature of the fifteen neighbours; the fold starts at the least number. -/
def best (w : Fin 3 → EReal) (v : Fin 15 → Fin 3 → EReal) : EReal :=
  (Finset.univ : Finset (Fin 15)).fold max (Ideal.ofBits .f32 0xFF800000#32) fun j => feat w (v j)

def point (w : Fin 64 → Fin 3 → EReal) (w' : Fin 64 → EReal) (b : EReal) (v : Fin 15 → Fin 3 → EReal) : EReal :=
  max ((∑ p : Fin 64, best (w p) v * w' p) + b) (Ideal.ofBits .f32 0x00000000#32)

theorem ofBits_bot : Ideal.ofBits .f32 0xFF800000#32 = ⊥ := by simp [Ideal.ofBits, Ideal.ieee]

/-- The fold, written out from the left. -/
theorem best_eq (w : Fin 3 → EReal) (v : Fin 15 → Fin 3 → EReal) : best w v
    = max (max (max (max (max (max (max (max (max (max (max (max (max (max (feat w (v 0)) (feat w (v 1))) (feat w (v 2)))
      (feat w (v 3))) (feat w (v 4))) (feat w (v 5))) (feat w (v 6))) (feat w (v 7))) (feat w (v 8))) (feat w (v 9))) (feat w (v 10)))
      (feat w (v 11))) (feat w (v 12))) (feat w (v 13))) (feat w (v 14)) := by
  refine eq_of_forall_ge_iff fun c => ?_
  unfold best
  rw [ofBits_bot, Finset.fold_max_le]
  have e (p : Fin 15 → Prop) : (∀ j ∈ (Finset.univ : Finset (Fin 15)), p j) ↔ p 0 ∧ p 1 ∧ p 2 ∧ p 3 ∧ p 4 ∧ p 5 ∧ p 6 ∧ p 7 ∧ p 8 ∧ p 9
      ∧ p 10 ∧ p 11 ∧ p 12 ∧ p 13 ∧ p 14 := by
    refine ⟨fun h => ⟨h _ (Finset.mem_univ _), h _ (Finset.mem_univ _), h _ (Finset.mem_univ _), h _ (Finset.mem_univ _), h _ (Finset.mem_univ _),
      h _ (Finset.mem_univ _), h _ (Finset.mem_univ _), h _ (Finset.mem_univ _), h _ (Finset.mem_univ _), h _ (Finset.mem_univ _),
      h _ (Finset.mem_univ _), h _ (Finset.mem_univ _), h _ (Finset.mem_univ _), h _ (Finset.mem_univ _), h _ (Finset.mem_univ _)⟩, ?_⟩
    rintro ⟨h0, h1, h2, h3, h4, h5, h6, h7, h8, h9, h10, h11, h12, h13, h14⟩ j -
    fin_cases j <;> assumption
  rw [e]
  simp only [max_le_iff, bot_le, true_and, and_assoc]

end Cert.Proof.Spec
-- ==== Proof.Ideal.Block.lean ====
/-
  The tail's block, element by element, at the extended reals.
-/
module

public import proofs.«01_k».proof.Proof.Ideal.Tail
public import proofs.«01_k».proof.Proof.Spec
public import Idealize.ShloMosaic.Lib.MatmulPlain
public import Idealize.ShloMosaic.Lib.ValueLayout

@[expose] public section

noncomputable section

namespace Cert.Proof.KernelIdeal

open Idealize.ShloMosaic Idealize.ShloMosaic.ValueIdx Cert.KernelIdeal Cert.KernelIdeal.Gen

variable (g : FVec Ideal S16x3x4096 .f32) (c v : FVec Ideal S3x4096 .f32) (w : FVec Ideal S64x3 .f32)

theorem offsetOf_apply (j : ℕ) (hj : j < 16) (h : S16x3x4096.Slices ![j, 0, 0] S1x3x4096) (k : Fin 3) (q : Fin 4096) :
    offsetOf ![j, 0, 0] h g c (ix2 k q) = g (ix3 ⟨j, hj⟩ k q) - c (ix2 k q) := by
  unfold offsetOf
  rw [subf_apply, shapeCast_1ab_ab_apply,
    extractStridedSlice_apply ![j, 0, 0] g h (ix3 (0 : Fin 1) k q) (ix3 ⟨j, hj⟩ k q) fun a => match a with
      | ⟨0, _⟩ => rfl
      | ⟨1, _⟩ => (Nat.zero_add _).symm
      | ⟨2, _⟩ => (Nat.zero_add _).symm]

theorem row_apply (r : ℕ) (hr : r < 3) (h : S3x4096.Slices ![r, 0] S1x4096) (q : Fin 4096) :
    extractStridedSlice S1x4096 ![r, 0] v h (ix2 (0 : Fin 1) q) = v (ix2 ⟨r, hr⟩ q) :=
  extractStridedSlice_apply ![r, 0] v h _ _ fun a => match a with
    | ⟨0, _⟩ => rfl
    | ⟨1, _⟩ => (Nat.zero_add _).symm

theorem lenOf_apply (q : Fin 4096) : lenOf v (ix2 (0 : Fin 1) q) = Spec.len fun k => v (ix2 k q) := by
  unfold lenOf
  rw [addf_apply]
  show Ideal.sqrt (_ * _ + _ * _ + _ * _) + _ = _
  rw [row_apply v 0 (by decide), row_apply v 1 (by decide), row_apply v 2 (by decide)]
  rfl

theorem planeOf_apply (p : Fin 64) (q : Fin 4096) :
    planeOf w v (ix2 p q) = Spec.plane (fun k => w (ix2 p k)) fun k => v (ix2 k q) := by
  unfold planeOf
  rw [divf_apply, broadcastTo_1b_ab_apply, lenOf_apply]
  refine congrArg (Ideal.div · _) ((Ideal.matmul_plain_apply none w v (constant S64x4096 .f32 0x00000000#32) p q).trans ?_)
  rw [constant_apply, Ideal.ofBits_zero_f32, zero_add, Fin.sum_univ_three, mul_comm (w _) (v _), mul_comm (w (ix2 p 1)) (v _),
    mul_comm (w (ix2 p 2)) (v _)]

theorem featOf_apply (p : Fin 64) (q : Fin 4096) :
    featOf w v (ix2 p q) = Spec.feat (fun k => w (ix2 p k)) fun k => v (ix2 k q) := by
  unfold featOf
  rw [mulf_apply, mulf_apply, broadcastTo_1b_ab_apply, lenOf_apply, planeOf_apply]
  show _ * max (planeOf w v (ix2 p q)) (-planeOf w v (ix2 p q)) = _
  rw [planeOf_apply]
  rfl

theorem bestOf_apply (p : Fin 64) (q : Fin 4096) :
    bestOf g c w (ix2 p q) = Spec.best (fun k => w (ix2 p k)) fun j k => g (ix3 ⟨1 + j.val, by omega⟩ k q) - c (ix2 k q) := by
  have e (j : ℕ) (hj : j < 16) (h : S16x3x4096.Slices ![j, 0, 0] S1x3x4096) : featOf w (offsetOf ![j, 0, 0] h g c) (ix2 p q)
      = Spec.feat (fun k => w (ix2 p k)) fun k => g (ix3 ⟨j, hj⟩ k q) - c (ix2 k q) := by
    rw [featOf_apply]
    simp only [offsetOf_apply g c j hj]
  rw [Spec.best_eq]
  unfold bestOf
  dsimp only
  simp only [maximumf_apply]
  rw [e 1 (by decide), e 2 (by decide), e 3 (by decide), e 4 (by decide), e 5 (by decide), e 6 (by decide), e 7 (by decide), e 8 (by decide),
    e 9 (by decide), e 10 (by decide), e 11 (by decide), e 12 (by decide), e 13 (by decide), e 14 (by decide), e 15 (by decide)]
  rfl

theorem column_apply (b : FVec Ideal S128x1 .f32) (s : Fin 128) (q : Fin 4096) :
    broadcastTo S128x4096 (shapeCast S128x1 b shapeCasts_S128x1_S128x1) broadcasts_S128x1_S128x4096 (ix2 s q) = b (ix2 s 0) := by
  rw [broadcastTo_apply _ _ (ix2 s q) (ix2 s (0 : Fin 1)) fun a => match a with | ⟨0, _⟩ => rfl | ⟨1, _⟩ => rfl]
  exact shapeCast_apply b _ _ _ rfl

theorem tailv_apply (g : Vec Ideal S1x16x3x4096 .f32) (c : Vec Ideal S1x3x4096 .f32) (w : Vec Ideal S64x3 .f32) (w' : Vec Ideal S128x64 .f32)
    (b : Vec Ideal S128x1 .f32) (u : Fin 1) (s : Fin 128) (q : Fin 4096) :
    tailv (F := Ideal) g c w w' b (ix3 u s q)
      = Spec.point (fun p k => w (ix2 p k)) (fun p => w' (ix2 s p)) (b (ix2 s 0))
          fun j k => g (ix4 0 ⟨1 + j.val, by omega⟩ k q) - c (ix3 0 k q) := by
  unfold tailv
  rw [shapeCast_ab_1ab_apply, maximumf_apply, addf_apply, column_apply]
  refine (congrArg (fun z => max (z + _) _) (Ideal.matmul_plain_apply none w'
    (bestOf (shapeCast S16x3x4096 g shapeCasts_S1x16x3x4096_S16x3x4096) (shapeCast S3x4096 c shapeCasts_S1x3x4096_S3x4096) w)
    (constant S128x4096 .f32 0x00000000#32) s q)).trans ?_
  rw [constant_apply, Ideal.ofBits_zero_f32, zero_add]
  unfold Spec.point
  refine congrArg (fun z => max (z + _) _) (Finset.sum_congr rfl fun p _ => ?_)
  rw [mul_comm, bestOf_apply]
  simp only [shapeCast_1ab_ab_apply, shapeCast_1abc_abc_apply]

end Cert.Proof.KernelIdeal
-- ==== Proof.Ideal.Whole.lean ====
/-
  The whole array that the tail's blocks make up.
-/
module

public import proofs.«01_k».proof.Proof.Ideal.Run
public import proofs.«01_k».proof.Proof.Ideal.Block

@[expose] public section

noncomputable section

namespace Cert.Proof.KernelIdeal

open Idealize.ShloMosaic Idealize.ShloMosaic.ValueIdx Idealize.ShloMosaic.TcCoe Idealize.SL.Sem Cert.KernelIdeal Cert.KernelIdeal.Gen
open Idealize.ShloMosaic.Pipeline (Dat)

theorem points (t : Fin cfg1.N) : t.val < 8 := t.isLt

/-- Where each window's block lies: batch and half of the point. -/
theorem idx0 (t : Fin cfg1.N) : win1_0.index t = ![t.val / 2, 0, 0, t.val % 2] :=
  (by decide +kernel : ∀ t : Fin grid1.N, win1_0.index t = ![t.val / 2, 0, 0, t.val % 2]) t
theorem idx1 (t : Fin cfg1.N) : win1_1.index t = ![t.val / 2, 0, t.val % 2] :=
  (by decide +kernel : ∀ t : Fin grid1.N, win1_1.index t = ![t.val / 2, 0, t.val % 2]) t
theorem idx2 (t : Fin cfg1.N) : win1_2.index t = ![0, 0] := (by decide +kernel : ∀ t : Fin grid1.N, win1_2.index t = ![0, 0]) t
theorem idx3 (t : Fin cfg1.N) : win1_3.index t = ![0, 0] := (by decide +kernel : ∀ t : Fin grid1.N, win1_3.index t = ![0, 0]) t
theorem idx4 (t : Fin cfg1.N) : win1_4.index t = ![0, 0] := (by decide +kernel : ∀ t : Fin grid1.N, win1_4.index t = ![0, 0]) t
theorem idx5 (t : Fin cfg1.N) : win1_5.index t = ![t.val / 2, 0, t.val % 2] :=
  (by decide +kernel : ∀ t : Fin grid1.N, win1_5.index t = ![t.val / 2, 0, t.val % 2]) t

def bat (t : Fin cfg1.N) : Fin 4 := ⟨t.val / 2, by have := points t; omega⟩
def place (t : Fin cfg1.N) (q : Fin 4096) : Fin 8192 := ⟨t.val % 2 * 4096 + q.val, by omega⟩

variable {F : FTy → Type} [FloatOps F] [∀ e, Nonempty (Elt F e)] (W : Dev nD → Valuation τ sig (Elt F)) (d : Dev nD) (t : Fin cfg1.N)

/-- The call's arrays at its entry. -/
def offs : Vec F S4x16x3x8192 .f32 := W d (Proc.devRef .tc main_v4)
def ctrs : Vec F S4x3x8192 .f32 := W d (Proc.devRef .tc main_v0)
def wpl : Vec F S64x3 .f32 := W d (Proc.devRef .tc main_arg2)
def wsh : Vec F S128x64 .f32 := W d (Proc.devRef .tc main_arg3)
def bias : Vec F S128x1 .f32 := W d (Proc.devRef .tc main_v5)

theorem b0_apply (j : Fin 16) (k : Fin 3) (q : Fin 4096) :
    b0 W d t (ix4 0 j k q) = offs W d (ix4 (bat t) j k (place t q)) := by
  show offs W d ((win1_0.rect t).emb (ix4 (0 : Fin 1) j k q)) = _
  refine congrArg _ (funext fun a => Fin.ext ?_)
  rw [Pipeline.Window.rect_emb_val win1_0, idx0]
  match a with
  | ⟨0, _⟩ => exact Nat.mul_one _
  | ⟨1, _⟩ => exact Nat.zero_add _
  | ⟨2, _⟩ => exact Nat.zero_add _
  | ⟨3, _⟩ => rfl

theorem b1_apply (k : Fin 3) (q : Fin 4096) :
    b1 W d t (ix3 0 k q) = ctrs W d (ix3 (bat t) k (place t q)) := by
  show ctrs W d ((win1_1.rect t).emb (ix3 (0 : Fin 1) k q)) = _
  refine congrArg _ (funext fun a => Fin.ext ?_)
  rw [Pipeline.Window.rect_emb_val win1_1, idx1]
  match a with
  | ⟨0, _⟩ => exact Nat.mul_one _
  | ⟨1, _⟩ => exact Nat.zero_add _
  | ⟨2, _⟩ => rfl

theorem b2_apply (p : Fin 64) (k : Fin 3) : b2 W d t (ix2 p k) = wpl W d (ix2 p k) := by
  show wpl W d ((win1_2.rect t).emb (ix2 p k)) = _
  refine congrArg _ (funext fun a => Fin.ext ?_)
  rw [Pipeline.Window.rect_emb_val win1_2, idx2]
  match a with
  | ⟨0, _⟩ => exact Nat.zero_add _
  | ⟨1, _⟩ => exact Nat.zero_add _

theorem b3_apply (s : Fin 128) (p : Fin 64) : b3 W d t (ix2 s p) = wsh W d (ix2 s p) := by
  show wsh W d ((win1_3.rect t).emb (ix2 s p)) = _
  refine congrArg _ (funext fun a => Fin.ext ?_)
  rw [Pipeline.Window.rect_emb_val win1_3, idx3]
  match a with
  | ⟨0, _⟩ => exact Nat.zero_add _
  | ⟨1, _⟩ => exact Nat.zero_add _

theorem b4_apply (s : Fin 128) : b4 W d t (ix2 s 0) = bias W d (ix2 s 0) := by
  show bias W d ((win1_4.rect t).emb (ix2 s (0 : Fin 1))) = _
  refine congrArg _ (funext fun a => Fin.ext ?_)
  rw [Pipeline.Window.rect_emb_val win1_4, idx4]
  match a with
  | ⟨0, _⟩ => exact Nat.zero_add _
  | ⟨1, _⟩ => exact Nat.zero_add _

/-- The whole result, from the arrays at the call's entry. -/
def whole (W : Dev nD → Valuation τ sig (Elt Ideal)) (d : Dev nD) : Vec Ideal S4x128x8192 .f32 := fun i =>
  Spec.point (fun p k => wpl W d (ix2 p k))
    (fun p => wsh W d (ix2 (i 1) p))
    (bias W d (ix2 (i 1) 0))
    fun j k => offs W d (ix4 (i 0) ⟨1 + j.val, by omega⟩ k (i 2))
      - ctrs W d (ix3 (i 0) k (i 2))

variable (W : Dev nD → Valuation τ sig (Elt Ideal))

theorem flushed_eq : (dats W 0 d).flushed 5 t = (win1_5.blk t).view.read (Elt Ideal) (whole W d) := by
  show (cfg1.win 5).cut (grid1.coords t) ((dats W 0 d).after 5 t) = _
  funext y
  obtain ⟨u, s, q, rfl⟩ : ∃ (u : Fin 1) (s : Fin 128) (q : Fin 4096), y = ix3 u s q := ⟨_, _, _, eq_ix3 y⟩
  show tailv (b0 W d t) (b1 W d t) (b2 W d t) (b3 W d t) (b4 W d t) (ix3 u s q) = whole W d ((win1_5.rect t).emb (ix3 u s q))
  have e : (win1_5.rect t).emb (ix3 u s q) = ix3 (bat t) s (place t q) := funext fun a => Fin.ext (by
    rw [Pipeline.Window.rect_emb_val win1_5, idx5]
    match a with
    | ⟨0, _⟩ => show t.val / 2 * 1 + u.val = t.val / 2; omega
    | ⟨1, _⟩ => exact Nat.zero_add _
    | ⟨2, _⟩ => rfl)
  rw [e, tailv_apply]
  simp only [b0_apply, b1_apply, b2_apply, b3_apply, b4_apply]
  rfl

theorem mem_blk (i : S4x128x8192.Idx) : i ∈ ((cfg1.win 5).blk t).view.set ↔ (i 0).val = t.val / 2 ∧ (i 2).val / 4096 = t.val % 2 := by
  show i ∈ ((View.whole main_v6).slice (win1_5.rect t)).set ↔ _
  rw [View.set_slice_whole, Rect.mem_set_unit]
  have h1 : (i 1).val < 128 := (i 1).isLt
  have e : win1_5.index t 0 * win1_5.size 0 = t.val / 2 ∧ win1_5.index t 1 * win1_5.size 1 = 0 ∧ win1_5.index t 2 * win1_5.size 2 = t.val % 2 * 4096 := by
    rw [idx5]; exact ⟨Nat.mul_one _, Nat.zero_mul _, rfl⟩
  have x : win1_5.xsize (grid1.coords t) 0 = 1 ∧ win1_5.xsize (grid1.coords t) 1 = 128 ∧ win1_5.xsize (grid1.coords t) 2 = 4096 :=
    (by decide +kernel : ∀ t : Fin grid1.N, win1_5.xsize (grid1.coords t) 0 = 1 ∧ win1_5.xsize (grid1.coords t) 1 = 128
      ∧ win1_5.xsize (grid1.coords t) 2 = 4096) t
  constructor
  · intro h
    have a0 : win1_5.index t 0 * win1_5.size 0 ≤ (i 0).val ∧ (i 0).val < win1_5.index t 0 * win1_5.size 0 + win1_5.xsize (grid1.coords t) 0 := h 0
    have a2 : win1_5.index t 2 * win1_5.size 2 ≤ (i 2).val ∧ (i 2).val < win1_5.index t 2 * win1_5.size 2 + win1_5.xsize (grid1.coords t) 2 := h 2
    rw [e.1, x.1] at a0; rw [e.2.2, x.2.2] at a2
    omega
  · intro h a
    match a with
    | ⟨0, _⟩ =>
      show win1_5.index t 0 * win1_5.size 0 ≤ (i 0).val ∧ (i 0).val < win1_5.index t 0 * win1_5.size 0 + win1_5.xsize (grid1.coords t) 0
      rw [e.1, x.1]; omega
    | ⟨1, _⟩ =>
      show win1_5.index t 1 * win1_5.size 1 ≤ (i 1).val ∧ (i 1).val < win1_5.index t 1 * win1_5.size 1 + win1_5.xsize (grid1.coords t) 1
      rw [e.2.1, x.2.1]; omega
    | ⟨2, _⟩ =>
      show win1_5.index t 2 * win1_5.size 2 ≤ (i 2).val ∧ (i 2).val < win1_5.index t 2 * win1_5.size 2 + win1_5.xsize (grid1.coords t) 2
      rw [e.2.2, x.2.2]; omega

theorem cover (i : S4x128x8192.Idx) : ∃ t : Fin cfg1.N, (cfg1.win 5).flush t = true ∧ i ∈ ((cfg1.win 5).blk t).view.set := by
  have h0 : (i 0).val < 4 := (i 0).isLt
  have h2 : (i 2).val < 8192 := (i 2).isLt
  refine ⟨⟨2 * (i 0).val + (i 2).val / 4096, show _ < 8 by omega⟩, flush1_5 _, ?_⟩
  rw [mem_blk]
  dsimp only
  omega

theorem final : (dats W 0 d).arrAt 5 cfg1.N = whole W d :=
  (dats W 0 d).arrAt_eq_of_cover 5 (whole W d) (fun t _ => flushed_eq d t W) cover

end Cert.Proof.KernelIdeal
-- ==== Proof.Pre.lean ====
/-
  What the precondition says of the index array: every word of it, read as a natural number, is below 8192.
-/
module

public import proofs.«01_k».proof.Defs
public import proofs.«01_k».proof.Proof.Gen.Pre_in_range
public import Idealize.ShloMosaic.Lib.ReduceAll

@[expose] public section

noncomputable section

namespace Cert.Proof

open Idealize.ShloMosaic Idealize.SL.Sem Cert.Pre_in_range

theorem andi_bool (p q : Bool) : IntOp.andi (BitVec.ofBool p) (BitVec.ofBool q) = BitVec.ofBool (p && q) := by
  cases p <;> cases q <;> decide

theorem ofBool_one (p : Bool) : (BitVec.ofBool p = 1#1) ↔ p = true := by cases p <;> decide

theorem word_lt (v : BitVec 32) (e : IntOp.andi (IntOp.cmpi .sge v 0#32) (IntOp.cmpi .slt v 8192#32) = 1#1) : v.toNat < 8192 := by
  simp only [IntOp.cmpi, andi_bool, ofBool_one, Bool.and_eq_true, BitVec.sle_eq_decide, BitVec.slt_eq_decide,
    decide_eq_true_eq, BitVec.toInt_eq_toNat_cond, BitVec.toNat_ofNat, Nat.reducePow, Nat.reduceMod] at e
  omega

instance : Subsingleton S_.Idx := ⟨fun a b => funext fun i => i.elim0⟩

variable {F : FTy → Type} [FloatOps F]

theorem in_range_lt (a : FVec F S4x8192x3 .f32) (ix : IVec S4x8192x16 32) (b : FVec F S64x3 .f32) (c : FVec F S128x64 .f32) (e : FVec F S128 .f32)
    (h : fn (F := F) a ix b c e = fun _ => 1#1) (i : S4x8192x16.Idx) : (ix i).toNat < 8192 := by
  have h0 := congrFun h (fun a => a.elim0)
  exact word_lt _ (Host.reduce_andi_all _ _ _ _ _ h0 i)

end Cert.Proof

end
-- ==== Proof.Frames.lean ====
/-
  The frames of the three programs.
-/
module

public import proofs.«01_k».proof.Proof.Run
public import proofs.«01_k».proof.Proof.Ideal.Run
public import proofs.«01_k».proof.Proof.Pre
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- Every index of the kernel's call is below 8192. -/
theorem Kernel.ids_lt (m : (ℓ : Loc Cert.Kernel.nD Cert.Kernel.τ Cert.Kernel.sig) → Buf (Elt Bits) ℓ) (h : Cert.Pre_Kernel m) (d : Dev Cert.Kernel.nD)
    (x : Cert.Kernel.S524288.Idx) : (Kernel.ids m d x).toNat < 8192 := by
  rw [Kernel.ids_eq]; exact in_range_lt _ _ _ _ _ (h d) _

theorem KernelIdeal.ids_lt (m : (ℓ : Loc Cert.KernelIdeal.nD Cert.KernelIdeal.τ Cert.KernelIdeal.sig) → Buf (Elt Ideal) ℓ) (h : Cert.Pre_KernelIdeal m)
    (d : Dev Cert.KernelIdeal.nD) (x : Cert.KernelIdeal.S524288.Idx) : (KernelIdeal.ids m d x).toNat < 8192 := by
  rw [KernelIdeal.ids_eq]; exact in_range_lt _ _ _ _ _ (h d) _

theorem frame_kernel : Cert.quiescent_Kernel := fun m ρ h =>
  (θ_run Cert.Kernel.defs _ _).mono (fun _ hr => ⟨fun c => Kernel.args_kept m hr c, hr.2⟩) (Kernel.run_main (F := Bits) m ρ (Kernel.ids_lt m h))

theorem frame_kernelIdeal : Cert.quiescent_KernelIdeal := fun m ρ h =>
  (θ_run Cert.KernelIdeal.defs _ _).mono (fun _ hr => ⟨fun c => KernelIdeal.args_kept m hr c, hr.2⟩)
    (KernelIdeal.run_main (F := Ideal) m ρ (KernelIdeal.ids_lt m h))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_pre : Cert.quiescent_ReferenceIdeal_pre_in_range := fun m ρ _ => frame_reference m ρ trivial

end Cert.Proof

end
-- ==== Proof.Reference.lean ====
/-
  The reference's result, element by element, at the extended reals.
-/
module

public import proofs.«01_k».proof.Proof.Gen.ReferenceIdeal.Read
public import proofs.«01_k».proof.Proof.Spec
public import Idealize.ShloMosaic.Lib.ReduceAll

@[expose] public section

noncomputable section

namespace Cert.Proof.Reference

open Idealize.ShloMosaic Idealize.ShloMosaic.ValueIdx Cert.ReferenceIdeal Cert.ReferenceIdeal.Gen Cert.ReferenceIdeal.Read

section Taken
variable {F : FTy → Type} [FloatOps F]
variable (x0 : FVec F S4x8192x3 .f32) (x1 : IVec S4x8192x16 32)

/-- A word below 8192 isn't negative. -/
theorem slt_zero (w : BitVec 32) (h : w.toNat < 8192) : IntOp.cmpi .slt w 0#32 = 0#1 := by
  simp only [IntOp.cmpi, BitVec.slt_eq_decide, BitVec.toInt_eq_toNat_cond, BitVec.toNat_ofNat, Nat.reducePow, Nat.reduceMod]
  rw [decide_eq_false (by omega)]; rfl

theorem sge_zero (w : BitVec 32) (h : w.toNat < 8192) : IntOp.cmpi .sge w 0#32 = 1#1 := by
  simp only [IntOp.cmpi, BitVec.sle_eq_decide, BitVec.toInt_eq_toNat_cond, BitVec.toNat_ofNat, Nat.reducePow, Nat.reduceMod]
  rw [decide_eq_true (by omega)]; rfl

theorem sle_last (w : BitVec 32) (h : w.toNat < 8192) : IntOp.cmpi .sle w 8191#32 = 1#1 := by
  simp only [IntOp.cmpi, BitVec.sle_eq_decide, BitVec.toInt_eq_toNat_cond, BitVec.toNat_ofNat, Nat.reducePow, Nat.reduceMod]
  rw [decide_eq_true (by omega)]; rfl

theorem toInt_small (w : BitVec 32) (h : w.toNat < 8192) : w.toInt.toNat = w.toNat := by
  rw [BitVec.toInt_eq_toNat_cond, if_pos (by omega)]; exact Int.toNat_natCast _

/-- The word that the take reads: the neighbour's index itself, since it isn't negative. -/
theorem word_eq (hx : ∀ x, (x1 x).toNat < 8192) (i : S4x8192x15x1.Idx) :
    val_main_call0_v5 (F := F) x1 i
      = x1 (ix3 ⟨(i 0).val, (i 0).isLt⟩ ⟨(i 1).val, (i 1).isLt⟩ ⟨1 + (i 2).val, by have : (i 2).val < 15 := (i 2).isLt; omega⟩) := by
  rw [val_main_call0_v5_apply, val_main_call0_v4_apply, val_main_call0_v1_apply, val_main_call0_v0_apply, val_main_call0_c_apply,
    val_main_v3_apply, val_main_v1_apply, slt_zero _ (hx _)]
  refine (if_neg (by decide)).trans ?_
  refine congrArg x1 (funext fun a => Fin.ext ?_)
  have h0 : (i 0).val < 4 := (i 0).isLt
  have h1 : (i 1).val < 8192 := (i 1).isLt
  have h2 : (i 2).val < 15 := (i 2).isLt
  have h3 : (i 3).val < 1 := (i 3).isLt
  match a with
  | ⟨0, _⟩ => show ((((i 0).val * 8192 + (i 1).val) * 15 + (i 2).val) * 1 + (i 3).val) / 122880 = (i 0).val; omega
  | ⟨1, _⟩ => show ((((i 0).val * 8192 + (i 1).val) * 15 + (i 2).val) * 1 + (i 3).val) / 15 % 8192 = (i 1).val; omega
  | ⟨2, _⟩ => show 1 + ((((i 0).val * 8192 + (i 1).val) * 15 + (i 2).val) * 1 + (i 3).val) % 15 = 1 + (i 2).val; omega

/-- The mask lets every entry through. -/
theorem mask_eq (hx : ∀ x, (x1 x).toNat < 8192) (i : S4x3x8192x15.Idx) : val_main_call0_v15 (F := F) x1 i = 1#1 := by
  rw [val_main_call0_v15_apply]
  unfold val_main_call0_v13
  refine Host.reduce_andi_one _ _ _ _ _ rfl fun k => ?_
  rw [val_main_call0_v12_apply, val_main_call0_v8_apply, val_main_call0_v11_apply, word_eq x1 hx, val_main_call0_v7_apply,
    val_main_call0_c_2_apply, val_main_call0_v10_apply, val_main_call0_v9_apply, val_main_call0_c_1_apply, sge_zero _ (hx _), sle_last _ (hx _)]
  decide

abbrev dims : GatherDims S4x3x8192 S4x8192x15x1 S4x3x8192x15 := gather_S4x3x8192_S4x8192x15x1_S4x3x8192x15_1_2_0_0_2_3_131

/-- The gather's own reading: batch and coordinate of the result, the row that the start index names. -/
theorem gather_eq (y : FVec F S4x3x8192 .f32) (w : IVec S4x8192x15x1 32) (i : S4x3x8192x15.Idx) (v : Fin 8192)
    (h : (w (ix4 ⟨(i 0).val, (i 0).isLt⟩ ⟨(i 2).val, (i 2).isLt⟩ ⟨(i 3).val, (i 3).isLt⟩ 0)).toNat = v.val) :
    Host.gather gather_S4x3x8192_S4x8192x15x1_S4x3x8192x15_1_2_0_0_2_3_131 y w i
      = y (ix3 ⟨(i 0).val, (i 0).isLt⟩ ⟨(i 1).val, (i 1).isLt⟩ v) := by
  unfold Host.gather
  refine congrArg y (funext fun a => Fin.ext ?_)
  show dims.start i w a + dims.batchCoord i a + dims.offCoord i a = _
  match a with
  | ⟨0, _⟩ =>
    show dims.start i w (0 : Fin 3) + dims.batchCoord i (0 : Fin 3) + dims.offCoord i (0 : Fin 3) = _
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show dims.start i w (1 : Fin 3) + dims.batchCoord i (1 : Fin 3) + dims.offCoord i (1 : Fin 3) = _
    rw [GatherDims.batchCoord_eq_zero _ _ _ (by decide)]
    unfold GatherDims.start GatherDims.offCoord
    rw [dif_neg (by decide), dif_pos (by decide)]
    simp only [Nat.zero_add, Nat.add_zero]
    rfl
  | ⟨2, _⟩ =>
    show dims.start i w (2 : Fin 3) + dims.batchCoord i (2 : Fin 3) + dims.offCoord i (2 : Fin 3) = v.val
    rw [GatherDims.batchCoord_eq_zero _ _ _ (by decide), GatherDims.offCoord_eq_zero _ _ _ (by decide)]
    unfold GatherDims.start
    rw [dif_pos (by decide)]
    have hs : dims.siIdx i ⟨0, by decide⟩
        = ix4 ⟨(i 0).val, (i 0).isLt⟩ ⟨(i 2).val, (i 2).isLt⟩ ⟨(i 3).val, (i 3).isLt⟩ 0 := by
      funext b; refine Fin.ext ?_
      match b with
      | ⟨0, _⟩ => rfl
      | ⟨1, _⟩ => rfl
      | ⟨2, _⟩ => rfl
      | ⟨3, _⟩ => rfl
    have hu : (w (dims.siIdx i ⟨0, by decide⟩)).toNat = v.val := (congrArg (fun x => (w x).toNat) hs).trans h
    have hv := v.isLt
    have hw := toInt_small (w (dims.siIdx i ⟨0, by decide⟩)) (by omega)
    refine (show _ = min (w (dims.siIdx i ⟨0, by decide⟩)).toInt.toNat 8191 from rfl).trans ?_
    rw [hw, hu]
    omega

/-- A neighbour's coordinate, taken. -/
theorem taken_eq (hx : ∀ x, (x1 x).toNat < 8192) (i : S4x3x8192x15.Idx) :
    val_main_v4 (F := F) x0 x1 i = x0 (ix3 ⟨(i 0).val, (i 0).isLt⟩
      ⟨(x1 (ix3 ⟨(i 0).val, (i 0).isLt⟩ ⟨(i 2).val, (i 2).isLt⟩ ⟨1 + (i 3).val, by have : (i 3).val < 15 := (i 3).isLt; omega⟩)).toNat, hx _⟩
      ⟨(i 1).val, (i 1).isLt⟩) := by
  rw [val_main_v4_apply, mask_eq x1 hx]
  refine (if_pos rfl).trans ?_
  unfold val_main_call0_v14
  obtain ⟨v, hv⟩ : ∃ v : Fin 8192, v.val
      = (x1 (ix3 ⟨(i 0).val, (i 0).isLt⟩ ⟨(i 2).val, (i 2).isLt⟩ ⟨1 + (i 3).val, by have : (i 3).val < 15 := (i 3).isLt; omega⟩)).toNat :=
    ⟨⟨_, hx _⟩, rfl⟩
  rw [gather_eq _ _ _ v ((congrArg BitVec.toNat (word_eq (F := F) x1 hx _)).trans hv.symm), val_main_call0_v6_apply, val_main_v2_apply, val_main_v0_apply]
  refine (congrArg x0 (funext fun a => Fin.ext ?_)).trans (congrArg (fun v => x0 (ix3 _ v _)) (Fin.ext hv : v = ⟨_, hx _⟩))
  have h0 : (i 0).val < 4 := (i 0).isLt
  have h1 : (i 1).val < 3 := (i 1).isLt
  have h2 := v.isLt
  match a with
  | ⟨0, _⟩ =>
    show (((i 0).val * 3 + (i 1).val) * 8192 + v.val) / 24576 = (i 0).val; omega
  | ⟨1, _⟩ =>
    show (((i 0).val * 3 + (i 1).val) * 8192 + v.val) % 8192 = v.val; omega
  | ⟨2, _⟩ =>
    show (((i 0).val * 3 + (i 1).val) * 8192 + v.val) / 8192 % 3 = (i 1).val; omega

/-- A neighbour's offset from the point. -/
def off (hx : ∀ x, (x1 x).toNat < 8192) (b : Fin 4) (n : Fin 8192) (j : Fin 15) (k : Fin 3) : F .f32 :=
  FloatOps.subf (x0 (ix3 b ⟨(x1 (ix3 b n ⟨1 + j.val, by omega⟩)).toNat, hx _⟩ k)) (x0 (ix3 b n k))

theorem off_eq (hx : ∀ x, (x1 x).toNat < 8192) (i : S4x3x8192x15.Idx) (b : Fin 4) (n : Fin 8192) (j : Fin 15) (k : Fin 3)
    (e : i = ix4 b k n j) : val_main_v8 (F := F) x0 x1 i = off x0 x1 hx b n j k := by
  subst e
  rw [val_main_v8_apply, taken_eq x0 x1 hx, val_main_v7_apply, val_main_v6_apply, val_main_v5_apply]
  exact congrArg (FloatOps.subf _) (congrArg x0 (funext fun a => match a with | ⟨0, _⟩ => rfl | ⟨1, _⟩ => rfl | ⟨2, _⟩ => rfl))

end Taken

variable (x0 : FVec Ideal S4x8192x3 .f32) (x1 : IVec S4x8192x16 32) (x2 : FVec Ideal S64x3 .f32) (x3 : FVec Ideal S128x64 .f32)
  (x4 : FVec Ideal S128 .f32) (hx : ∀ x, (x1 x).toNat < 8192)

theorem len_eq (i : S4x1x8192x15.Idx) (b : Fin 4) (n : Fin 8192) (j : Fin 15) (e : i = ix4 b 0 n j) :
    val_main_v11 (F := Ideal) x0 x1 i = Spec.len (off x0 x1 hx b n j) := by
  subst e
  rw [val_main_v11_apply, val_main_v9_apply, val_main_call1_v2_apply, val_main_call1_v1_apply, val_main_call1_cst_apply, val_main_v10_apply,
    val_main_cst_apply]
  have h (k : Fin 3) : val_main_call1_v0 (F := Ideal) x0 x1 (idx_main_call1_v1 (idx_main_call1_v2 (ix4 b 0 n j)) k)
      = off x0 x1 hx b n j k * off x0 x1 hx b n j k := by
    rw [val_main_call1_v0_apply, off_eq x0 x1 hx (idx_main_call1_v1 (idx_main_call1_v2 (ix4 b 0 n j)) k) b n j k (funext fun a => match a with | ⟨0, _⟩ => rfl | ⟨1, _⟩ => rfl | ⟨2, _⟩ => rfl | ⟨3, _⟩ => rfl)]
    rfl
  simp only [h, Fin.sum_univ_three]
  show Ideal.sqrt (Ideal.ofBits .f32 0x00000000#32 + _) + _ = _
  rw [Ideal.ofBits_zero_f32, zero_add]
  rfl

theorem plane_eq (i : S4x64x8192x15.Idx) (b : Fin 4) (p : Fin 64) (n : Fin 8192) (j : Fin 15) (e : i = ix4 b p n j) :
    val_main_v15 (F := Ideal) x0 x1 x2 i = Spec.plane (fun k => x2 (ix2 p k)) (off x0 x1 hx b n j) := by
  subst e
  rw [val_main_v15_apply, val_main_v13_apply, val_main_v12_apply, val_main_v14_apply,
    len_eq x0 x1 hx (idx_main_v14 (ix4 b p n j)) b n j (funext fun a => match a with | ⟨0, _⟩ => rfl | ⟨1, _⟩ => rfl | ⟨2, _⟩ => rfl | ⟨3, _⟩ => rfl)]
  have h (k : Fin 3) : val_main_v8 (F := Ideal) x0 x1 (lidx_main_v12 (idx_main_v13 (ix4 b p n j)) k) * x2 (ridx_main_v12 (idx_main_v13 (ix4 b p n j)) k)
      = off x0 x1 hx b n j k * x2 (ix2 p k) := by
    rw [off_eq x0 x1 hx (lidx_main_v12 (idx_main_v13 (ix4 b p n j)) k) b n j k (funext fun a => match a with | ⟨0, _⟩ => rfl | ⟨1, _⟩ => rfl | ⟨2, _⟩ => rfl | ⟨3, _⟩ => rfl)]
    exact congrArg (_ * x2 ·) (funext fun a => match a with | ⟨0, _⟩ => rfl | ⟨1, _⟩ => rfl)
  simp only [h, Fin.sum_univ_three]
  rfl

theorem feat_eq (i : S4x64x8192x15.Idx) (b : Fin 4) (p : Fin 64) (n : Fin 8192) (j : Fin 15) (e : i = ix4 b p n j) :
    val_main_v19 (F := Ideal) x0 x1 x2 i = Spec.feat (fun k => x2 (ix2 p k)) (off x0 x1 hx b n j) := by
  subst e
  rw [val_main_v19_apply, val_main_v17_apply, val_main_v18_apply, plane_eq x0 x1 x2 hx _ b p n j rfl, val_main_v16_apply,
    len_eq x0 x1 hx (idx_main_v16 (ix4 b p n j)) b n j (funext fun a => match a with | ⟨0, _⟩ => rfl | ⟨1, _⟩ => rfl | ⟨2, _⟩ => rfl | ⟨3, _⟩ => rfl)]
  rfl

theorem reduces_last : S4x64x8192x15.Reduces [3] S4x64x8192 := by decide

theorem best_eq (i : S4x64x8192.Idx) (b : Fin 4) (p : Fin 64) (n : Fin 8192) (e : i = ix3 b p n) :
    val_main_v20 (F := Ideal) x0 x1 x2 i = Spec.best (fun k => x2 (ix2 p k)) (off x0 x1 hx b n) := by
  subst e
  unfold val_main_v20
  rw [Host.reduce_eq_fold_single _ _ _ _ reduces_last]
  refine Finset.fold_congr fun j _ => ?_
  exact feat_eq x0 x1 x2 hx _ b p n j (funext fun a => match a with | ⟨0, _⟩ => rfl | ⟨1, _⟩ => rfl | ⟨2, _⟩ => rfl | ⟨3, _⟩ => rfl)

theorem result_eq (b : Fin 4) (s : Fin 128) (n : Fin 8192) :
    val_main_v26 (F := Ideal) x0 x1 x2 x3 x4 (ix3 b s n)
      = Spec.point (fun p k => x2 (ix2 p k)) (fun p => x3 (ix2 s p)) (x4 (ix1 s)) (off x0 x1 hx b n) := by
  rw [val_main_v26_apply, val_main_v25_apply, val_main_v22_apply, val_main_v21_apply, val_main_v24_apply, val_main_v23_apply,
    val_main_call2_v0_apply, val_main_call2_cst_apply]
  have h (p : Fin 64) : val_main_v20 (F := Ideal) x0 x1 x2 (lidx_main_v21 (idx_main_v22 (ix3 b s n)) p) * x3 (ridx_main_v21 (idx_main_v22 (ix3 b s n)) p)
      = Spec.best (fun k => x2 (ix2 p k)) (off x0 x1 hx b n) * x3 (ix2 s p) := by
    rw [best_eq x0 x1 x2 hx (lidx_main_v21 (idx_main_v22 (ix3 b s n)) p) b p n (funext fun a => match a with | ⟨0, _⟩ => rfl | ⟨1, _⟩ => rfl | ⟨2, _⟩ => rfl)]
    exact congrArg (_ * x3 ·) (funext fun a => match a with | ⟨0, _⟩ => rfl | ⟨1, _⟩ => rfl)
  simp only [h]
  rw [show idx_main_v23 (idx_main_v24 (ix3 b s n)) = ix1 s from funext fun a => match a with | ⟨0, _⟩ => rfl]
  rfl

end Cert.Proof.Reference
-- ==== Proof.Value.lean ====
/-
  The kernel's result and the reference's are one function of the arguments, at the extended reals.
-/
module

public import proofs.«01_k».proof.Proof.Ideal.Whole
public import proofs.«01_k».proof.Proof.Frames
public import proofs.«01_k».proof.Proof.Reference

@[expose] public section

noncomputable section

namespace Cert.Proof.KernelIdeal

open Idealize.ShloMosaic Idealize.ShloMosaic.ValueIdx Idealize.ShloMosaic.TcCoe Idealize.SL.Sem Cert.KernelIdeal Cert.KernelIdeal.Gen

section Entry
variable {F : FTy → Type} [FloatOps F] [∀ e, Nonempty (Elt F e)]
variable (m : (ℓ : Loc nD τ sig) → Buf (Elt F) ℓ) (d : Dev nD)

/-- The arguments. -/
def pts : Vec F S4x8192x3 .f32 := m ((d.tc : Thread nD τ).loc main_arg0)
def nbr : IVec S4x8192x16 32 := m ((d.tc : Thread nD τ).loc main_arg1)

theorem tab_at (b : Fin 4) (k : Fin 3) (n : Fin 8192) (z : ℕ) (hz : z = b.val * 24576 + k.val * 8192 + n.val) :
    tab m d (lin S98304 (by decide) z) = pts m d (ix3 b n k) := by
  rw [tab_eq, shapeCast_apply (t := S98304) _ shapeCasts_S4x3x8192_S98304 _ (ix3 b k n)]
  · exact transpose_apply [0, 2, 1] (m ((d.tc : Thread nD τ).loc main_arg0) : Vec F S4x8192x3 .f32) transposes_S4x8192x3_S4x3x8192_0_2_1 (ix3 b k n) (ix3 b n k)
      fun a => match a with | ⟨0, _⟩ => rfl | ⟨1, _⟩ => rfl | ⟨2, _⟩ => rfl
  · rw [Shape.rowMajor_val_three, Shape.rowMajor_val_one]
    show (b.val * 3 + k.val) * 8192 + n.val = z % 98304
    omega

theorem ids_at (b : Fin 4) (n : Fin 8192) (j : Fin 16) (z : ℕ) (hz : z = (b.val * 8192 + n.val) * 16 + j.val) :
    ids m d (lin S524288 (by decide) z) = nbr m d (ix3 b n j) := by
  rw [ids_eq, shapeCast_apply (t := S524288) _ shapeCasts_S4x8192x16_S524288 _ (ix3 b n j)]
  · rfl
  · rw [Shape.rowMajor_val_three, Shape.rowMajor_val_one]
    show (b.val * 8192 + n.val) * 16 + j.val = z % 524288
    omega

theorem outv_at (hx : ∀ x, (nbr m d x).toNat < 8192) (b : Fin 4) (j : Fin 16) (k : Fin 3) (n : Fin 8192) (z : Fin 1572864)
    (hz : z.val = ((b.val * 16 + j.val) * 3 + k.val) * 8192 + n.val) :
    outv (tab m d) (ids m d) (ix1 z) = pts m d (ix3 b ⟨(nbr m d (ix3 b n j)).toNat, hx _⟩ k) := by
  have q1 : z.val / 393216 = b.val := by omega
  have q2 : z.val / 8192 = (b.val * 16 + j.val) * 3 + k.val := by omega
  have q3 : z.val / 24576 = b.val * 16 + j.val := by omega
  have q4 : z.val % 8192 = n.val := by omega
  unfold outv
  dsimp only
  rw [ids_at m d b n j _ (by rw [q1, q3, q4]; omega)]
  refine tab_at m d b k ⟨_, hx _⟩ _ ?_
  rw [q1, q2]
  dsimp only
  omega

/-- The gathered coordinate: that of the neighbour which the index names. -/
theorem offs_at (hx : ∀ x, (nbr m d x).toNat < 8192) (b : Fin 4) (j : Fin 16) (k : Fin 3) (n : Fin 8192) :
    offs (VD m) d (ix4 b j k n) = pts m d (ix3 b ⟨(nbr m d (ix3 b n j)).toNat, hx _⟩ k) := by
  have e : offs (VD m) d = shapeCast S4x16x3x8192 (outv (tab m d) (ids m d)) shapeCasts_S1572864_S4x16x3x8192 := by
    unfold offs VD VC
    rw [StableHlo.reshape_result_ne _ _ _ _ _ _ _ (by decide), StableHlo.reshape_result, Function.update_self]
    rfl
  obtain ⟨z, hz⟩ : ∃ z : Fin 1572864, z.val = ((b.val * 16 + j.val) * 3 + k.val) * 8192 + n.val := ⟨⟨_, by omega⟩, rfl⟩
  rw [e, shapeCast_apply (t := S4x16x3x8192) _ shapeCasts_S1572864_S4x16x3x8192 _ (ix1 z)]
  · exact outv_at m d hx b j k n z hz
  · rw [Shape.rowMajor_val_one, Shape.rowMajor_val_four]
    exact hz

theorem centre (b : Fin 4) (k : Fin 3) (n : Fin 8192) : ctrs (VD m) d (ix3 b k n) = pts m d (ix3 b n k) := by
  have e : ctrs (VD m) d = transpose S4x3x8192 [0, 2, 1] (pts m d) transposes_S4x8192x3_S4x3x8192_0_2_1 := by
    unfold ctrs VD VC
    rw [StableHlo.reshape_result_ne _ _ _ _ _ _ _ (by decide), StableHlo.reshape_result_ne _ _ _ _ _ _ _ (by decide),
      Function.update_of_ne (StableHlo.devRef_ne_of_ne (by decide))]
    unfold VB
    rw [StableHlo.reshape_result_ne _ _ _ _ _ _ _ (by decide), StableHlo.reshape_result_ne _ _ _ _ _ _ _ (by decide), StableHlo.unary_result]
    rfl
  rw [e]
  exact transpose_apply [0, 2, 1] (pts m d) transposes_S4x8192x3_S4x3x8192_0_2_1 (ix3 b k n) (ix3 b n k)
    fun a => match a with | ⟨0, _⟩ => rfl | ⟨1, _⟩ => rfl | ⟨2, _⟩ => rfl

theorem bias_at (s : Fin 128) : bias (VD m) d (ix2 s 0) = (m ((d.tc : Thread nD τ).loc main_arg4) : Vec F S128 .f32) (ix1 s) := by
  have e : bias (VD m) d = shapeCast S128x1 (m ((d.tc : Thread nD τ).loc main_arg4) : Vec F S128 .f32) shapeCasts_S128_S128x1 := by
    unfold bias VD VC
    rw [StableHlo.reshape_result, StableHlo.reshape_result_ne _ _ _ _ _ _ _ (by decide),
      Function.update_of_ne (StableHlo.devRef_ne_of_ne (by decide))]
    unfold VB
    rw [StableHlo.reshape_result_ne _ _ _ _ _ _ _ (by decide), StableHlo.reshape_result_ne _ _ _ _ _ _ _ (by decide),
      StableHlo.unary_result_ne _ _ _ _ _ _ (by decide)]
    rfl
  rw [e, shapeCast_apply (t := S128x1) _ shapeCasts_S128_S128x1 _ (ix1 s)]
  rw [Shape.rowMajor_val_one, Shape.rowMajor_val_two]
  exact (Nat.mul_one _).symm

end Entry

variable (m : (ℓ : Loc nD τ sig) → Buf (Elt Ideal) ℓ) (d : Dev nD)

theorem whole_at (hx : ∀ x, (nbr m d x).toNat < 8192) (b : Fin 4) (s : Fin 128) (n : Fin 8192) : whole (VD m) d (ix3 b s n)
    = Spec.point (fun p k => (m ((d.tc : Thread nD τ).loc main_arg2) : Vec Ideal S64x3 .f32) (ix2 p k))
        (fun p => (m ((d.tc : Thread nD τ).loc main_arg3) : Vec Ideal S128x64 .f32) (ix2 s p))
        ((m ((d.tc : Thread nD τ).loc main_arg4) : Vec Ideal S128 .f32) (ix1 s)) (Reference.off (pts m d) (nbr m d) hx b n) := by
  show Spec.point (fun p k => wpl (VD m) d (ix2 p k)) (fun p => wsh (VD m) d (ix2 s p)) (bias (VD m) d (ix2 s 0))
    (fun j k => offs (VD m) d (ix4 b ⟨1 + j.val, by omega⟩ k n) - ctrs (VD m) d (ix3 b k n)) = _
  have e2 : wpl (VD m) d = m ((d.tc : Thread nD τ).loc main_arg2) := VD_keeps m d main_arg2 (by decide)
  have e3 : wsh (VD m) d = m ((d.tc : Thread nD τ).loc main_arg3) := VD_keeps m d main_arg3 (by decide)
  have e : (fun (j : Fin 15) k => offs (VD m) d (ix4 b ⟨1 + j.val, by omega⟩ k n) - ctrs (VD m) d (ix3 b k n))
      = Reference.off (pts m d) (nbr m d) hx b n := by
    funext j k
    rw [offs_at m d hx, centre]
    rfl
  rw [e, bias_at, e2, e3]

/-- What the kernel leaves in its result is the reference's function of its arguments. -/
theorem result_eq (hx : ∀ x, (nbr m d x).toNat < 8192) : VE m d (Proc.devRef .tc main_v6)
    = Cert.ReferenceIdeal.Read.val_main_v26 (F := Ideal) (m ((d.tc : Thread nD τ).loc main_arg0)) (m ((d.tc : Thread nD τ).loc main_arg1))
        (m ((d.tc : Thread nD τ).loc main_arg2)) (m ((d.tc : Thread nD τ).loc main_arg3)) (m ((d.tc : Thread nD τ).loc main_arg4)) := by
  refine ((Pipeline.afterRegion_arr (dats (VD m) 0 d) (VD m d) launch1.win.arr_inj 5).trans (final d (VD m))).trans ?_
  refine funext fun (i : S4x128x8192.Idx) => ?_
  rw [eq_ix3 i]
  exact (whole_at m d hx _ _ _).trans (Reference.result_eq _ _ _ _ _ hx _ _ _).symm

end Cert.Proof.KernelIdeal

namespace Cert.Proof

open Idealize.ShloMosaic Idealize.ShloMosaic.TcCoe Idealize.SL.Sem

theorem algebraic : Cert.algebraic_KernelIdeal_ReferenceIdeal := fun m g m' g' hpre hag =>
  ⟨fun c => KernelIdeal.VE m c (Proc.devRef .tc Cert.KernelIdeal.main_v6), fun c => KernelIdeal.pts m c,
    (θ_run Cert.KernelIdeal.defs _ _).mono
      (fun _ hr c => ⟨hr.1 c (Proc.devRef .tc Cert.KernelIdeal.main_v6) (by decide), (KernelIdeal.args_kept m hr c).1, KernelIdeal.args_kept m hr c⟩)
      (KernelIdeal.run_main (F := Ideal) m g (KernelIdeal.ids_lt m hpre)),
    (θ_run Cert.ReferenceIdeal.defs _ _).mono
      (fun _ hr c => ⟨(hr c).1.trans ((Cert.ReferenceIdeal.Read.val_main_v26_eq m' c).trans (by
          rw [(hag c).1, (hag c).2.1, (hag c).2.2.1, (hag c).2.2.2.1, (hag c).2.2.2.2]
          exact (KernelIdeal.result_eq m c (in_range_lt _ _ _ _ _ (hpre c))).symm)), (hr c).2.1.trans (hag c).1, (hr c).2.2⟩)
      (Cert.ReferenceIdeal.Value.run (F := Ideal) m' g')⟩

end Cert.Proof

end
-- ==== Proof.SearchIdeal.Steps.lean ====
/-
  Rules for reading the body of the search as a plain step relation: it runs on two blocks it only reads, the block of the result
  and the scratch array, so a run is described by what it makes of the last two and by the value it returns.
-/
module

public import proofs.«01_k».proof.Proof.Gen.SearchIdeal
public import proofs.«01_k».proof.Proof.Gen.SearchIdeal.Points
public import proofs.«01_k».proof.Proof.Gen.SearchIdeal.Launch
public import proofs.«01_k».proof.Proof.Gen.SearchIdeal.Skeleton
public import Idealize.ShloMosaic.Lib.LaneScatter.Own
public import Idealize.ShloMosaic.Lib.Pipeline.Kit
public import Idealize.ShloMosaic.Lib.Tactic
public import Idealize.ShloMosaic.Lib.Pipeline.Value

@[expose] public section

noncomputable section

namespace Cert.Proof.SearchIdeal

open Cert.SearchIdeal Cert.SearchIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

abbrev UU : Type := UR sig nD τ

local notation "𝕄" => MT nD τ sig Unit (Elt F) ℕ UU ℕ

/-- The body's operands on a core, and what the two blocks it reads hold. -/
structure Env (F : FTy → Type) where
  c : Dev nD
  i : grid0.Coords
  a2 : Memref sig .tc .vmem S1x256x3 .f32
  h2 : a2.IsWhole
  a3 : Memref sig .tc .vmem S1x3x8192 .f32
  h3 : a3.IsWhole
  a4 : Memref sig .tc .vmem S1x256x16 .i32
  h4 : a4.IsWhole
  a5 : Memref sig .tc .vmem S256x8192 .f32
  h5 : a5.IsWhole
  x2 : Vec F S1x256x3 .f32
  x3 : Vec F S1x3x8192 .f32

/-- What the result's block and the scratch array hold. -/
abbrev St (F : FTy → Type) : Type := Vec F S1x256x16 .i32 × Vec F S256x8192 .f32

/-- The four operands held, the last two at `s`. -/
def held (V : Env F) (s : St F) : sProp 𝕄 :=
  iprop(owns (V.c : Thread nD τ) V.a2 fullShare V.x2 ∗ owns (V.c : Thread nD τ) V.a3 fullShare V.x3
    ∗ owns (V.c : Thread nD τ) V.a4 fullShare s.1 ∗ owns (V.c : Thread nD τ) V.a5 fullShare s.2)

/-- From `s`, the program runs and returns a value and leaves contents of which `P` holds. -/
def Runs (V : Env F) (s : St F) {α : Type} (p : Prog (TpuEff nD τ sig (Elt F) Λ₀ .tc) α) (P : α → St F → Prop) : Prop :=
  ∀ Q : α → sProp 𝕄, held V s ⊢ iprop((∀ a s', ⌜P a s'⌝ -∗ held V s' -∗ Q a)
    -∗ wp frame (wpE (defs₀ (F := F)) Variants.none (V.c : Thread nD τ) none) Set.univ p Q)

variable {V : Env F} {s : St F} {α β : Type}

theorem runs_pure {a : α} {P : α → St F → Prop} (h : P a s) : Runs V s (pure a) P := fun Q => by
  iintro H HQ
  rw [wp_pure]
  imodintro
  iapply HQ $$ %a %s %h H

theorem runs_bind {p : Prog (TpuEff nD τ sig (Elt F) Λ₀ .tc) α} {k : α → Prog (TpuEff nD τ sig (Elt F) Λ₀ .tc) β} {P : α → St F → Prop}
    {P' : β → St F → Prop} (h : Runs V s p P) (h' : ∀ a s', P a s' → Runs V s' (k a) P') : Runs V s (p >>= k) P' := fun Q => by
  rw [wp_bind]
  iintro H HQ
  iapply (h _) $$ H
  iintro %a %s' %e H
  iapply (h' a s' e Q) $$ H HQ

theorem runs_mono {p : Prog (TpuEff nD τ sig (Elt F) Λ₀ .tc) α} {P P' : α → St F → Prop} (h : Runs V s p P)
    (hP : ∀ a s', P a s' → P' a s') : Runs V s p P' := fun Q => by
  iintro H HQ
  iapply (h _) $$ H
  iintro %a %s' %e H
  iapply HQ $$ %a %s' %(hP a s' e) H

/-- A load of an operand reads it. -/
theorem load_runs {S : Shape} {e : EltTy} (c : Dev nD) (M : Memref sig .tc .vmem S e) (x : S.Idx → Elt F e) (r : Rect S)
    (hl : M.view.LoadsAt r.toLoadRect) (Q : (r.shape.Idx → Elt F e) → sProp 𝕄) :
    owns (c : Thread nD τ) M fullShare x ⊢ iprop((owns (c : Thread nD τ) M fullShare x -∗ Q (View.ld x r))
      -∗ wp frame (wpE (defs₀ (F := F)) Variants.none (c : Thread nD τ) none) Set.univ (Prog.lift (.load M r.toLoadRect hl)) Q) := by
  unfold owns Prog.lift
  iintro ⟨%f, %hf, H⟩ HQ
  iapply (wp_load Variants.none (c : Thread nD τ) none Set.univ (S := M.view.set) (View.setOn_subset_set _ _)) $$ H
  iintro H
  rw [wp_ret]
  imodintro
  subst hf
  rw [show View.readAt (Elt F) M.view r.toLoadRect f = View.ld (View.read (Elt F) M.view f) r from rfl]
  iapply HQ
  iexists f; isplitr
  · ipureintro; rfl
  iexact H

/-- A store through the whole of an operand leaves what it stored. -/
theorem store_runs {S : Shape} {e : EltTy} (c : Dev nD) (M : Memref sig .tc .vmem S e) (hM : M.IsWhole) (x : S.Idx → Elt F e)
    {o : Fin S.rank → ℕ} (ho : o = fun _ => 0) (inb : ∀ a, o a + S.size a ≤ S.size a) (w : S.Idx → Elt F e)
    (hx : (M.access (Rect.unit o S.size inb)).Stores Finset.univ) (hm) (Q : PUnit → sProp 𝕄) :
    owns (c : Thread nD τ) M fullShare x ⊢ iprop((owns (c : Thread nD τ) M fullShare w -∗ Q ⟨⟩)
      -∗ wp frame (wpE (defs₀ (F := F)) Variants.none (c : Thread nD τ) none) Set.univ
          (Prog.lift (.store M (Rect.unit o S.size inb) w Finset.univ hx hm)) Q) := by
  unfold owns Prog.lift
  iintro ⟨%f, %hf, H⟩ HQ
  iapply (wp_store_writes₀ Variants.none (c : Thread nD τ) none Set.univ (S := M.view.set) (View.set_slice_subset _ _)) $$ H
  iintro H
  rw [wp_ret]
  imodintro
  iapply HQ
  iexists _; isplitr; swap
  · iexact H
  ipureintro
  rw [View.read_writes_eq_canon _ _ _ fun y => ⟨_, List.mem_singleton_self _, View.mem_set_unit_zero ho inb y⟩, View.canon_unit_zero ho]

theorem runs_load2 (r : Rect S1x256x3) (hl : V.a2.view.LoadsAt r.toLoadRect) {P : (r.shape.Idx → Elt F .f32) → St F → Prop}
    (h : P (View.ld V.x2 r) s) : Runs V s (Prog.lift (.load V.a2 r.toLoadRect hl)) P := fun Q => by
  unfold held
  iintro ⟨H2, H3, H4, H5⟩ HQ
  iapply (load_runs V.c V.a2 V.x2 r hl Q) $$ H2
  iintro H2
  iapply HQ $$ %_ %s %h
  isplitl [H2]; · iexact H2
  isplitl [H3]; · iexact H3
  isplitl [H4]; · iexact H4
  iexact H5

theorem runs_load3 (r : Rect S1x3x8192) (hl : V.a3.view.LoadsAt r.toLoadRect) {P : (r.shape.Idx → Elt F .f32) → St F → Prop}
    (h : P (View.ld V.x3 r) s) : Runs V s (Prog.lift (.load V.a3 r.toLoadRect hl)) P := fun Q => by
  unfold held
  iintro ⟨H2, H3, H4, H5⟩ HQ
  iapply (load_runs V.c V.a3 V.x3 r hl Q) $$ H3
  iintro H3
  iapply HQ $$ %_ %s %h
  isplitl [H2]; · iexact H2
  isplitl [H3]; · iexact H3
  isplitl [H4]; · iexact H4
  iexact H5

theorem runs_load4 (r : Rect S1x256x16) (hl : V.a4.view.LoadsAt r.toLoadRect) {P : (r.shape.Idx → Elt F .i32) → St F → Prop}
    (h : P (View.ld s.1 r) s) : Runs V s (Prog.lift (.load V.a4 r.toLoadRect hl)) P := fun Q => by
  unfold held
  iintro ⟨H2, H3, H4, H5⟩ HQ
  iapply (load_runs V.c V.a4 s.1 r hl Q) $$ H4
  iintro H4
  iapply HQ $$ %_ %s %h
  isplitl [H2]; · iexact H2
  isplitl [H3]; · iexact H3
  isplitl [H4]; · iexact H4
  iexact H5

theorem runs_load5 (r : Rect S256x8192) (hl : V.a5.view.LoadsAt r.toLoadRect) {P : (r.shape.Idx → Elt F .f32) → St F → Prop}
    (h : P (View.ld s.2 r) s) : Runs V s (Prog.lift (.load V.a5 r.toLoadRect hl)) P := fun Q => by
  unfold held
  iintro ⟨H2, H3, H4, H5⟩ HQ
  iapply (load_runs V.c V.a5 s.2 r hl Q) $$ H5
  iintro H5
  iapply HQ $$ %_ %s %h
  isplitl [H2]; · iexact H2
  isplitl [H3]; · iexact H3
  isplitl [H4]; · iexact H4
  iexact H5

theorem runs_store4 {inb : ∀ a, (![0, 0, 0] : Fin 3 → ℕ) a + S1x256x16.size a ≤ S1x256x16.size a} {w : Vec F S1x256x16 .i32} {hx} {hm}
    {P : PUnit → St F → Prop} (h : P ⟨⟩ (w, s.2)) :
    Runs V s (Prog.lift (.store V.a4 (Rect.unit (s := S1x256x16) ![0, 0, 0] S1x256x16.size inb) w Finset.univ hx hm)) P := fun Q => by
  unfold held
  iintro ⟨H2, H3, H4, H5⟩ HQ
  iapply (store_runs V.c V.a4 V.h4 s.1 (funext fun a => by fin_cases a <;> rfl) inb w hx hm Q) $$ H4
  iintro H4
  iapply HQ $$ %_ %(w, s.2) %h
  isplitl [H2]; · iexact H2
  isplitl [H3]; · iexact H3
  isplitl [H4]; · iexact H4
  iexact H5

theorem runs_store5 {inb : ∀ a, (![0, 0] : Fin 2 → ℕ) a + S256x8192.size a ≤ S256x8192.size a} {w : Vec F S256x8192 .f32} {hx} {hm}
    {P : PUnit → St F → Prop} (h : P ⟨⟩ (s.1, w)) :
    Runs V s (Prog.lift (.store V.a5 (Rect.unit (s := S256x8192) ![0, 0] S256x8192.size inb) w Finset.univ hx hm)) P := fun Q => by
  unfold held
  iintro ⟨H2, H3, H4, H5⟩ HQ
  iapply (store_runs V.c V.a5 V.h5 s.2 (funext fun a => by fin_cases a <;> rfl) inb w hx hm Q) $$ H5
  iintro H5
  iapply HQ $$ %_ %(s.1, w) %h
  isplitl [H2]; · iexact H2
  isplitl [H3]; · iexact H3
  isplitl [H4]; · iexact H4
  iexact H5

/-- The program runs from any contents. -/
def Any (V : Env F) {α : Type} (p : Prog (TpuEff nD τ sig (Elt F) Λ₀ .tc) α) : Prop := ∀ s, Runs V s p fun _ _ => True

theorem any_pure {a : α} : Any V (pure a) := fun _ => runs_pure trivial
theorem any_bind {p : Prog (TpuEff nD τ sig (Elt F) Λ₀ .tc) α} {k : α → Prog (TpuEff nD τ sig (Elt F) Λ₀ .tc) β} (h : Any V p)
    (h' : ∀ a, Any V (k a)) : Any V (p >>= k) := fun s => runs_bind (h s) fun a s' _ => h' a s'
theorem any_load2 {r : Rect S1x256x3} {hl : V.a2.view.LoadsAt r.toLoadRect} : Any V (Prog.lift (.load V.a2 r.toLoadRect hl)) :=
  fun _ => runs_load2 r hl trivial
theorem any_load3 {r : Rect S1x3x8192} {hl : V.a3.view.LoadsAt r.toLoadRect} : Any V (Prog.lift (.load V.a3 r.toLoadRect hl)) :=
  fun _ => runs_load3 r hl trivial
theorem any_load4 {r : Rect S1x256x16} {hl : V.a4.view.LoadsAt r.toLoadRect} : Any V (Prog.lift (.load V.a4 r.toLoadRect hl)) :=
  fun _ => runs_load4 r hl trivial
theorem any_load5 {r : Rect S256x8192} {hl : V.a5.view.LoadsAt r.toLoadRect} : Any V (Prog.lift (.load V.a5 r.toLoadRect hl)) :=
  fun _ => runs_load5 r hl trivial
theorem any_store4 {inb : ∀ a, (![0, 0, 0] : Fin 3 → ℕ) a + S1x256x16.size a ≤ S1x256x16.size a} {w : Vec F S1x256x16 .i32} {hx} {hm} :
    Any V (Prog.lift (.store V.a4 (Rect.unit (s := S1x256x16) ![0, 0, 0] S1x256x16.size inb) w Finset.univ hx hm)) :=
  fun _ => runs_store4 trivial
theorem any_store5 {inb : ∀ a, (![0, 0] : Fin 2 → ℕ) a + S256x8192.size a ≤ S256x8192.size a} {w : Vec F S256x8192 .f32} {hx} {hm} :
    Any V (Prog.lift (.store V.a5 (Rect.unit (s := S256x8192) ![0, 0] S256x8192.size inb) w Finset.univ hx hm)) :=
  fun _ => runs_store5 trivial

end Cert.Proof.SearchIdeal

end
-- ==== Proof.SearchIdeal.Parts.lean ====
/-
  The body of the search runs from any contents, part by part.
-/
module

public import proofs.«01_k».proof.Proof.SearchIdeal.Steps

@[expose] public section

noncomputable section

namespace Cert.Proof.SearchIdeal

open Cert.SearchIdeal Cert.SearchIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [∀ e, Nonempty (Elt F e)]

variable {V : Env F}

set_option maxHeartbeats 4000000 in
/-- The body runs from any contents: each part is a line of loads, stores and pure operations, and so is the end of either branch. -/
theorem any_body : Any V (cc0__knn_kernel V.i V.a2 V.h2 V.a3 V.h3 V.a4 V.h4 V.a5 V.h5) := by
  unfold cc0__knn_kernel
  iterate 17
    with_reducible refine any_bind ?_ ?_
    rotate_left
    repeat refine PSigma.rec fun _ => ?_
    intro _
  · dsimp only
    split
    · iterate 7
        with_reducible refine any_bind ?_ ?_
        rotate_left
        repeat refine PSigma.rec fun _ => ?_
        intro _
      · repeat
          with_reducible refine any_bind ?_ fun _ => ?_
          with_reducible first | exact any_load5 | exact any_store5 | exact any_load4 | exact any_store4
        exact any_pure (V := V)
      all_goals
        first
          | (rw [k0_part1_eq_skeleton]; unfold k0_part1_skel)
          | (rw [k0_part2_eq_skeleton]; unfold k0_part2_skel)
          | (rw [k0_part3_eq_skeleton]; unfold k0_part3_skel)
          | (rw [k0_part4_eq_skeleton]; unfold k0_part4_skel)
          | (rw [k0_part5_eq_skeleton]; unfold k0_part5_skel)
          | (rw [k0_part6_eq_skeleton]; unfold k0_part6_skel)
          | (rw [k0_part7_eq_skeleton]; unfold k0_part7_skel)
        repeat
          with_reducible refine any_bind ?_ fun _ => ?_
          with_reducible first | exact any_load5 | exact any_store5
        exact any_pure (V := V)
    · exact any_pure (V := V)
  all_goals
    first
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
    repeat
      with_reducible refine any_bind ?_ fun _ => ?_
      with_reducible first | exact any_load5 | exact any_store5 | exact any_load4 | exact any_store4 | exact any_load3 | exact any_load2
    exact any_pure (V := V)

end Cert.Proof.SearchIdeal

end
-- ==== Proof.SearchIdeal.Launch.lean ====
/-
  The launch of the search: what its arrays and staging buffers hold at each of the 128 points, the body's obligation, and the run of
  the whole program, of whose result it is said only what the body leaves in each block.
-/
module

public import proofs.«01_k».proof.Proof.SearchIdeal.Parts
public import Idealize.ShloMosaic.Lib.Pipeline.DatRel
public import Idealize.ShloMosaic.Lib.Pipeline.ArrRel
public import Idealize.ShloMosaic.Lib.Pipeline.Frame

@[expose] public section

noncomputable section

namespace Cert.Proof.SearchIdeal

open Cert.SearchIdeal Cert.SearchIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat RDat)

variable {F : FTy → Type} [FloatOps F] [∀ e, Nonempty (Elt F e)]

local notation "𝕄" => MT nD τ sig Unit (Elt F) ℕ UU ℕ

variable (m : (ℓ : Loc nD τ sig) → Buf (Elt F) ℓ)

/-- A buffer at the call's entry: after the transposition. -/
def ent (c : Dev nD) (b : Ref sig .tc) : Buf (Elt F) ((c.tc : Thread nD τ).loc b) := StableHlo.after hostOps0 (fun b => m (c, b)) b

/-- The blocks of the two inputs at a point. -/
def q0 (c : Dev nD) (t : Fin cfg0.N) : Vec F S1x256x3 .f32 := ((cfg0.win 0).blk t).view.read (Elt F) (ent m c (Pipeline.arrRef spec0 0))
def q1 (c : Dev nD) (t : Fin cfg0.N) : Vec F S1x3x8192 .f32 := ((cfg0.win 1).blk t).view.read (Elt F) (ent m c (Pipeline.arrRef spec0 1))

def dat (c : Dev nD) : Dat τ (Elt F) Unit ℕ UU ℕ cfg0 c where
  A w := ent m c (Pipeline.arrRef spec0 w)
  after w t := match w with
    | ⟨0, _⟩ => q0 m c t
    | ⟨1, _⟩ => q1 m c t
    | ⟨2, _⟩ => fun _ => 0#32
  Φ _ := Pipeline.ΦA spec0 c
  q _ := fullShare
  owed _ := 0

theorem before_0 (c : Dev nD) (t : Fin cfg0.N) (d : Vec F S1x256x3 .f32) : (dat m c).before 0 t d = q0 m c t :=
  (dat m c).before_in_eq_fetched 0 rfl (fun _ => rfl) (fun _ _ _ => rfl) (fun t => by dsimp only [dat]; rfl) t d
theorem before_1 (c : Dev nD) (t : Fin cfg0.N) (d : Vec F S1x3x8192 .f32) : (dat m c).before 1 t d = q1 m c t :=
  (dat m c).before_in_eq_fetched 1 rfl (fun _ => rfl) (fun _ _ _ => rfl) (fun t => by dsimp only [dat]; rfl) t d

/-- The result's window is the one held to a relation. -/
def mark : Fin cfg0.W → Bool := ![false, false, true]

variable (G : Vec F S1x256x3 .f32 → Vec F S1x3x8192 .f32 → Vec F S1x256x16 .i32 → Prop)

def rel (c : Dev nD) (w : Fin cfg0.W) (t : Fin cfg0.N) (X : (cfg0.win w).block.Idx → Elt F (cfg0.win w).elt) : Prop :=
  match w, X with
  | ⟨0, _⟩, _ => True
  | ⟨1, _⟩, _ => True
  | ⟨2, _⟩, X => G (q0 m c t) (q1 m c t) X

/-- The body's operands at a point. -/
abbrev envAt (c : Dev nD) (t : Fin cfg0.N) : Env F :=
  { c := c, i := grid0.coords t, a2 := win0_0.stage (cfg0.slots t 0), h2 := hstage0_0 ((cfg0.slots t 0).cast nbuf0_0),
    a3 := win0_1.stage (cfg0.slots t 1), h3 := hstage0_1 ((cfg0.slots t 1).cast nbuf0_1), a4 := win0_2.stage (cfg0.slots t 2),
    h4 := hstage0_2 ((cfg0.slots t 2).cast nbuf0_2), a5 := Memref.whole cc0_scratch0, h5 := Memref.isWhole_whole _,
    x2 := q0 m c t, x3 := q1 m c t }

variable {G} (hG : ∀ (V : Env F) s, Runs V s (cc0__knn_kernel V.i V.a2 V.h2 V.a3 V.h3 V.a4 V.h4 V.a5 V.h5) fun _ s' => G V.x2 V.x3 s'.1)

include hG in
theorem body_obligation (c : Dev nD) :
    Pipeline.BodyObligationRel (dat m c) (defs₀ (F := F)) Variants.none () Set.univ mark (rel m G c) := fun t => by
  rw [bigSep_W0, bigSep_W0]
  rw [show (dat m c).Φ t.castSucc = Pipeline.ΦA spec0 c from rfl, show (dat m c).Φ t.succ = Pipeline.ΦA spec0 c from rfl]
  unfold Dat.owesAt Pipeline.owesWithin Pipeline.ΦA
  rw [show (dat m c).owed t.castSucc = 0 from rfl, show (dat m c).owed t.succ = 0 from rfl,
    show (dat m c).bound () t.castSucc = (dat m c).bound () t.succ from rfl, scopedRest0_eq]
  dsimp only [mark, Matrix.cons_val]
  iintro ⟨⟨⟨%f, H5⟩, HP⟩, ⟨%Wd, %hW, HO⟩, ⟨%d0, H0⟩, ⟨%d1, H1⟩, ⟨%y, -, H4⟩⟩
  simp only [before_0, before_1]
  iapply (hG (envAt m c t) (y, f) _) $$ [H0 H1 H4 H5]
  · unfold held
    isplitl [H0]; · iexact H0
    isplitl [H1]; · iexact H1
    isplitl [H4]; · iexact H4
    iapply (Entails.of_eq (owns_whole (c : Thread nD τ) cc0_scratch0 fullShare f).symm) $$ H5
  iintro %_ %s' %hs H
  unfold held
  icases H with ⟨H0, H1, H4, H5⟩
  isplitl [H5 HP]
  · isplitl [H5]
    · iexists s'.2
      rw [← owns_whole (c : Thread nD τ) cc0_scratch0 fullShare s'.2]
      iexact H5
    iexact HP
  isplitl [HO]
  · iexists Wd; isplitr
    · ipureintro; exact hW
    iexact HO
  isplitl [H0]; · iexact H0
  isplitl [H1]; · iexact H1
  iexists s'.1; isplitr
  · ipureintro; exact hs
  iexact H4

/-- Two points of the grid write blocks that do not meet. -/
theorem idx_out (t : Fin cfg0.N) : win0_2.index t = ![t.val / 32, t.val % 32, 0] :=
  (by decide +kernel : ∀ t : Fin grid0.N, win0_2.index t = ![t.val / 32, t.val % 32, 0]) t

include hG in
theorem run (g : Dev nD → PrngReg) :
    θ_run (defs (F := F)) (onTc (τ := τ) (main (F := F))) ⟨m, fun _ => 0, g⟩ fun r =>
      RDat.FramePost cfg0 (fun c => (dat m c).toRRel mark (rel m G c)) (ent m) r ∧ r.2.sem = fun _ => 0 :=
  RDat.θ_run_frame cfgs 0 launch0 defs₀ Variants.none (fun c => (dat m c).toRRel mark (rel m G c)) m g main
    (fun c => (body_obligation m hG c).toRRel) (fun c => RDat.share_full _ fun _ => rfl) (fun _ _ => rfl) (ent m)
    (Pipeline.hmain_prefix cfgs 0 defs₀ Variants.none m main hostOps0 hostOps0_sub rfl main_chain) (fun _ _ => rfl) (fun _ _ => rfl) _ (fun _ h => h)

theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => by
    have e := h.1.arr_in c 0 rfl
    exact e, h.2⟩) (run m (G := fun _ _ _ => True) (fun _ s => any_body s) g)

end Cert.Proof.SearchIdeal

end
-- ==== Proof.SearchIdeal.Pairs.lean ====
/-
  Pairs of a value and an index as the search carries them: each is a distance of the row at the index it is carried with, or the
  pair of positive infinity and 8192. Selections, slices, broadcasts and the choice of the least keep this.
-/
module

public import proofs.«01_k».proof.Proof.SearchIdeal.Steps
public import Idealize.ShloMosaic.Lib.Pointwise.Reduce
public import Idealize.ShloMosaic.Lib.Pointwise.SelectCore
public import Idealize.ShloMosaic.Lib.Pointwise.ElementwiseCore
public import Idealize.ShloMosaic.Lib.Pointwise.ShapeOpsCore
public import Idealize.ShloMosaic.Lib.ValueLayout
public import Idealize.ShloMosaic.Lib.ValueLayoutCasts
public import Idealize.ShloMosaic.Lib.ValueIdx
public import Idealize.ShloMosaic.Lib.Pipeline.ValueKit.Tiles
public import Idealize.ShloMosaic.Lib.SortNet.Extract

@[expose] public section

noncomputable section

namespace Cert.Proof.SearchIdeal

open Cert.SearchIdeal Cert.SearchIdeal.Gen

open Idealize.ShloMosaic
open Idealize.ShloMosaic.TcCoe
open Idealize.ShloMosaic.ValueIdx hiding ix0 ix1 ix2 ix3 ix4 eq_ix1 eq_ix2 eq_ix3 eq_ix4

/-- 256 rows of `n`. -/
abbrev Rows (n : ℕ) : Shape := ⟨2, ![256, n]⟩

/-- The distances of a tile of queries from every point. -/
abbrev Dist : Type := FVec Ideal (Rows 8192) .f32

/-- A value and an index of a row: a distance at its index, or infinity and 8192. -/
def Cand (D : Dist) (r : Fin 256) (x : Ideal .f32) (k : BitVec 32) : Prop :=
  (∃ j : Fin 8192, k = BitVec.ofNat 32 j.val ∧ x = D (ix2 r j)) ∨ (k = 8192#32 ∧ x = Scalar.ofBits .f32 0x7F800000#32)

/-- Such pairs throughout a block. -/
def Pair {n : ℕ} (D : Dist) (v : FVec Ideal (Rows n) .f32) (i : IVec (Rows n) 32) : Prop := ∀ y, Cand D (y 0) (v y) (i y)

/-- Such pairs where a mask is set. -/
def PairOn {n : ℕ} (D : Dist) (c : IVec (Rows n) 1) (v : FVec Ideal (Rows n) .f32) (i : IVec (Rows n) 32) : Prop :=
  ∀ y, c y = 1 → Cand D (y 0) (v y) (i y)

/-- Such pairs where a mask is not set. -/
def PairOff {n : ℕ} (D : Dist) (c : IVec (Rows n) 1) (v : FVec Ideal (Rows n) .f32) (i : IVec (Rows n) 32) : Prop :=
  ∀ y, c y ≠ 1 → Cand D (y 0) (v y) (i y)

variable {n : ℕ} {D : Dist} {v w : FVec Ideal (Rows n) .f32} {i j : IVec (Rows n) 32} {c : IVec (Rows n) 1}

theorem pair_sel (h : Pair D v i) (h' : Pair D w j) : Pair D (select c v w) (select c i j) := fun y => by
  show Cand D _ (if c y = 1 then _ else _) (if c y = 1 then _ else _)
  by_cases e : c y = 1
  · rw [if_pos e, if_pos e]; exact h y
  · rw [if_neg e, if_neg e]; exact h' y

theorem pairOn_sel (h : Pair D v i) : PairOn D c (select c v w) i := fun y e => by
  rw [show select c v w y = v y from if_pos e]; exact h y

theorem pairOff_sel (h : Pair D w j) : PairOff D c (select c v w) j := fun y e => by
  rw [show select c v w y = w y from if_neg e]; exact h y

theorem pair_join (h : PairOn D c v i) (h' : PairOff D c v j) : Pair D v (select c i j) := fun y => by
  show Cand D _ _ (if c y = 1 then _ else _)
  by_cases e : c y = 1
  · rw [if_pos e]; exact h y e
  · rw [if_neg e]; exact h' y e

/-- The candidates of a stretch of 512 points, from point `o`. -/
abbrev points (o : ℕ) : IVec S256x512 32 :=
  broadcastTo S256x512 (shapeCast S1x512 (addi (iota .tc S1x512 32 [1] iota_S1x512_d1_w32) (broadcast S1x512 (BitVec.ofNat 32 o)))
    shapeCasts_S1x512_S1x512) broadcasts_S1x512_S256x512

theorem points_apply {x : IVec S1x512 32} (y : S256x512.Idx) :
    broadcastTo S256x512 (shapeCast S1x512 x shapeCasts_S1x512_S1x512) broadcasts_S1x512_S256x512 y = x (ix2 0 (y 1)) := by
  rw [shapeCast_self, eq_ix2 y]
  exact broadcastTo_1b_ab_apply x _ (y 0) (y 1)

theorem pair_load (o : ℕ) (ho : o + 512 ≤ 8192) {inb} :
    Pair D (View.ld (Val := Elt Ideal) (e' := .f32) D (Rect.unit (s := S256x8192) ![0, o] S256x512.size inb)) (points o) := fun y => by
  refine .inl ⟨⟨o + (y 1).val, by have : (y 1).val < 512 := (y 1).isLt; omega⟩, ?_, ?_⟩
  · rw [points, points_apply]
    show iota .tc S1x512 32 [1] iota_S1x512_d1_w32 (ix2 0 (y 1)) + BitVec.ofNat 32 o = _
    rw [iota_single_apply]
    show BitVec.ofNat 32 (y 1).val + BitVec.ofNat 32 o = _
    rw [← BitVec.ofNat_add, add_comm]
  · refine congrArg D (funext fun a => Fin.ext ?_)
    fin_cases a
    · show 0 + 1 * (y 0).val = (y 0).val; omega
    · show o + 1 * (y 1).val = o + (y 1).val; omega

theorem pair_load_zero {inb} :
    Pair D (View.ld (Val := Elt Ideal) (e' := .f32) D (Rect.unit (s := S256x8192) ![0, 0] S256x512.size inb))
      (broadcastTo S256x512 (shapeCast S1x512 (iota .tc S1x512 32 [1] iota_S1x512_d1_w32) shapeCasts_S1x512_S1x512)
        broadcasts_S1x512_S256x512) := fun y => by
  have h := pair_load (D := D) 0 (by omega) (inb := inb) y
  rw [points, points_apply] at h
  rw [points_apply]
  rwa [show addi (iota .tc S1x512 32 [1] iota_S1x512_d1_w32) (broadcast S1x512 (BitVec.ofNat 32 0)) (ix2 0 (y 1))
    = iota .tc S1x512 32 [1] iota_S1x512_d1_w32 (ix2 0 (y 1)) from BitVec.add_zero _] at h

theorem pair_none {n : ℕ} {D : Dist} : Pair (n := n) D (broadcast (Rows n) (Scalar.ofBits .f32 0x7F800000#32)) (broadcast (Rows n) 8192#32) :=
  fun _ => .inr ⟨rfl, rfl⟩

theorem pair_none_row : Pair D (broadcastTo S256x512 (shapeCast S1x512 (broadcast S1x512 (Scalar.ofBits .f32 0x7F800000#32))
      shapeCasts_S1x512_S1x512) broadcasts_S1x512_S256x512)
    (broadcastTo S256x512 (shapeCast S1x512 (broadcast S1x512 8192#32) shapeCasts_S1x512_S1x512) broadcasts_S1x512_S256x512) :=
  fun _ => .inr ⟨rfl, rfl⟩

theorem pair_slice {v : FVec Ideal S256x512 .f32} {i : IVec S256x512 32} {o : ℕ} (h : S256x512.Slices ![0, o] S256x128) (hp : Pair D v i) :
    Pair D (extractStridedSlice S256x128 ![0, o] v h) (extractStridedSlice S256x128 ![0, o] i h) := fun y => by
  have ho : o + (y 1).val < 512 := by have : o + 128 ≤ 512 := h.2 1; have : (y 1).val < 128 := (y 1).isLt; omega
  have hk : ∀ a : Fin S256x512.rank, ((ix2 (y 0) ⟨o + (y 1).val, ho⟩ : S256x512.Idx) a).val
      = (![0, o] : Fin 2 → ℕ) a + (y (a.cast h.1.symm)).val := fun a => by
    fin_cases a
    · exact (Nat.zero_add _).symm
    · rfl
  rw [extractStridedSlice_apply _ v h y _ hk, extractStridedSlice_apply _ i h y _ hk]
  exact hp (ix2 (y 0) ⟨o + (y 1).val, ho⟩)

/-! ### The least of a row -/

/-- The least of each row. -/
abbrev least (v : FVec Ideal (Rows n) .f32) (h : (Rows n).Reduces [1] S256) : FVec Ideal S256x1 .f32 :=
  shapeCast S256x1 (multiReduction .minimumf [1] S256 v 0x7F800000#32 h (.inl rfl) rfl) shapeCasts_S256_S256x1

/-- The least index at which the least of each row lies, of the indices carried with the row. -/
abbrev where_ (v : FVec Ideal (Rows n) .f32) (i : IVec (Rows n) 32) (h : (Rows n).Reduces [1] S256) (hb : S256x1.Broadcasts (Rows n)) :
    IVec S256x1 32 :=
  shapeCast S256x1 (multiReductionI .minsi [1] S256 (select (cmpf .oeq v (broadcastTo (Rows n) (least v h) hb)) i (broadcast (Rows n) 8192#32))
    2147483647#32 h rfl) shapeCasts_S256_S256x1

theorem inf_eq : (Scalar.ofBits .f32 0x7F800000#32 : Ideal .f32) = (⊤ : EReal) := by
  show Ideal.ofBits .f32 0x7F800000#32 = _
  simp [Ideal.ofBits, Ideal.ieee]

theorem column_cast {α : Type} (x : S256.Idx → α) (h : S256.ShapeCasts S256x1) (r : Fin 256) (u : Fin 1) :
    shapeCast S256x1 x h (ix2 r u) = x (ix1 r) := shapeCast_a_a1_apply x h r u

theorem column_apply {α : Type} (x : S256x1.Idx → α) (hb : S256x1.Broadcasts (Rows n)) (r : Fin 256) (k : Fin n) :
    broadcastTo (Rows n) x hb (ix2 r k) = x (ix2 r 0) := by
  refine broadcastTo_apply x hb (ix2 r k) (ix2 r 0) fun a => ?_
  match a with
  | ⟨0, _⟩ => rfl
  | ⟨1, _⟩ => rfl

theorem least_fold (h : (Rows n).Reduces [1] S256) (r : Fin 256) (u : Fin 1) :
    least v h (ix2 r u) = (Finset.univ : Finset (Fin n)).fold min (⊤ : EReal) fun k => v (ix2 r k) := by
  unfold least
  rw [column_cast, ← inf_eq]
  refine (multiReduction_minimumf_eq_fold v _ h _ _ _).trans ((h.fold_fiber_r2_a1 (ix1 r) FloatOps.minimumf _ _).trans ?_)
  rfl

theorem least_le (h : (Rows n).Reduces [1] S256) (r : Fin 256) (u : Fin 1) (k : Fin n) : least v h (ix2 r u) ≤ v (ix2 r k) := by
  rw [least_fold, Finset.fold_min_le]
  exact .inr ⟨k, Finset.mem_univ _, le_rfl⟩

theorem least_mem (hn : 0 < n) (h : (Rows n).Reduces [1] S256) (r : Fin 256) (u : Fin 1) : ∃ k, least v h (ix2 r u) = v (ix2 r k) := by
  have e := (Finset.fold_min_le (s := (Finset.univ : Finset (Fin n))) (f := fun k => v (ix2 r k)) (b := (⊤ : EReal))
    (least v h (ix2 r u))).1 (by rw [← least_fold h r u])
  rcases e with e | ⟨k, -, e⟩
  · exact ⟨⟨0, hn⟩, le_antisymm (least_le h r u _) (le_trans le_top e)⟩
  · exact ⟨k, le_antisymm (least_le h r u k) e⟩

/-- A least of words is one of them, or the word the fold begins with, and at most all of them. -/
theorem fold_minsi {ι : Type} [DecidableEq ι] (s : Finset ι) (f : ι → BitVec 32) (a : BitVec 32) :
    (s.fold IntOp.minsi a f = a ∨ ∃ k ∈ s, s.fold IntOp.minsi a f = f k) ∧ (s.fold IntOp.minsi a f).toInt ≤ a.toInt
      ∧ ∀ k ∈ s, (s.fold IntOp.minsi a f).toInt ≤ (f k).toInt := by
  induction s using Finset.induction_on with
  | empty => exact ⟨.inl rfl, le_rfl, fun k hk => absurd hk (Finset.notMem_empty k)⟩
  | insert x s hx ih =>
    rw [Finset.fold_insert hx]
    generalize s.fold IntOp.minsi a f = b at ih ⊢
    have hm : (IntOp.minsi (f x) b).toInt = min (f x).toInt b.toInt := SortNet.toInt_minsi _ _
    obtain ⟨h1, h2, h3⟩ := ih
    refine ⟨?_, ?_, fun k hk => ?_⟩
    · rcases min_choice (f x).toInt b.toInt with e | e
      · exact .inr ⟨x, Finset.mem_insert_self _ _, BitVec.eq_of_toInt_eq (hm.trans e)⟩
      · have e' : IntOp.minsi (f x) b = b := BitVec.eq_of_toInt_eq (hm.trans e)
        rw [e']
        rcases h1 with h1 | ⟨k, hk, h1⟩
        · exact .inl h1
        · exact .inr ⟨k, Finset.mem_insert_of_mem hk, h1⟩
    · rw [hm]; exact le_trans (min_le_right _ _) h2
    · rw [hm]
      rcases Finset.mem_insert.1 hk with rfl | hk
      · exact min_le_left _ _
      · exact le_trans (min_le_right _ _) (h3 k hk)

theorem where_fold (h : (Rows n).Reduces [1] S256) (hb : S256x1.Broadcasts (Rows n)) (r : Fin 256) (u : Fin 1) :
    where_ v i h hb (ix2 r u) = (Finset.univ : Finset (Fin n)).fold IntOp.minsi 2147483647#32
      fun k => if v (ix2 r k) = least v h (ix2 r 0) then i (ix2 r k) else 8192#32 := by
  unfold where_
  rw [column_cast]
  refine (multiReductionI_eq_fold .minsi _ _ h _ _).trans ((h.fold_fiber_r2_a1 (ix1 r) IKind.minsi.op _ _).trans ?_)
  refine Finset.fold_congr (op := IntOp.minsi) fun k _ => ?_
  show Scalar.select (Ideal.cmp .oeq (v (ix2 r k)) (broadcastTo (Rows n) (least v h) hb (ix2 r k))) (i (ix2 r k)) 8192#32 = _
  rw [column_apply]
  show (if BitVec.ofBool (decide (v (ix2 r k) = least v h (ix2 r 0))) = 1 then _ else _) = _
  by_cases e : v (ix2 r k) = least v h (ix2 r 0)
  · rw [if_pos e, decide_eq_true e]; rfl
  · rw [if_neg e, decide_eq_false e]; rfl

/-- The place chosen: the least value of the row lies there, and no carried index of a like value is less. -/
theorem where_spec (hn : 0 < n) (hi : ∀ y, (i y).toInt ≤ 8192) (h : (Rows n).Reduces [1] S256) (hb : S256x1.Broadcasts (Rows n))
    (r : Fin 256) (u : Fin 1) :
    ∃ k : Fin n, least v h (ix2 r u) = v (ix2 r k) ∧ where_ v i h hb (ix2 r u) = i (ix2 r k) ∧ (∀ k', v (ix2 r k) ≤ v (ix2 r k'))
      ∧ ∀ k', v (ix2 r k') = v (ix2 r k) → (i (ix2 r k)).toInt ≤ (i (ix2 r k')).toInt := by
  obtain rfl : u = 0 := Subsingleton.elim _ _
  obtain ⟨k0, e0⟩ := least_mem (v := v) hn h r 0
  obtain ⟨h1, -, h3⟩ := fold_minsi (Finset.univ : Finset (Fin n))
    (fun k => if v (ix2 r k) = least v h (ix2 r 0) then i (ix2 r k) else 8192#32) 2147483647#32
  rw [← where_fold h hb r 0] at h1 h3
  have h3' : ∀ k, v (ix2 r k) = least v h (ix2 r 0) → (where_ v i h hb (ix2 r 0)).toInt ≤ (i (ix2 r k)).toInt := fun k e => by
    have := h3 k (Finset.mem_univ _); rwa [if_pos e] at this
  have hk0 := h3' k0 e0.symm
  have hle := hi (ix2 r k0)
  have key : ∃ k, v (ix2 r k) = least v h (ix2 r 0) ∧ where_ v i h hb (ix2 r 0) = i (ix2 r k) := by
    rcases h1 with h1 | ⟨k, -, h1⟩
    · rw [h1] at hk0
      have : (2147483647#32 : BitVec 32).toInt = 2147483647 := by decide
      omega
    · by_cases e : v (ix2 r k) = least v h (ix2 r 0)
      · rw [if_pos e] at h1; exact ⟨k, e, h1⟩
      · rw [if_neg e] at h1
        refine ⟨k0, e0.symm, ?_⟩
        rw [h1] at hk0 ⊢
        refine BitVec.eq_of_toInt_eq (le_antisymm hk0 ?_)
        have : (8192#32 : BitVec 32).toInt = 8192 := by decide
        omega
  obtain ⟨k, e, e'⟩ := key
  refine ⟨k, e.symm, e', fun k' => e ▸ least_le h r 0 k', fun k' ek => ?_⟩
  rw [← e']
  exact h3' k' (ek.trans e)

theorem Cand.toInt_le {r : Fin 256} {x : Ideal .f32} {k : BitVec 32} (h : Cand D r x k) : k.toInt ≤ 8192 := by
  rcases h with ⟨j, rfl, -⟩ | ⟨rfl, -⟩
  · have := j.isLt
    rw [BitVec.toInt_eq_toNat_of_lt (by rw [BitVec.toNat_ofNat]; omega), BitVec.toNat_ofNat]
    omega
  · decide

theorem pair_least (hn : 0 < n) {h : (Rows n).Reduces [1] S256} {hb : S256x1.Broadcasts (Rows n)} (hp : Pair D v i) :
    Pair (n := 1) D (least v h) (where_ v i h hb) := fun y => by
  obtain ⟨k, e, e', -⟩ := where_spec hn (fun y => (hp y).toInt_le) h hb (y 0) (y 1)
  rw [eq_ix2 y, e, e']
  exact hp (ix2 (y 0) k)

theorem Pair.get (h : Pair D v i) (y : (Rows n).Idx) : Cand D (y 0) (v y) (i y) := h y

attribute [irreducible] Pair PairOn PairOff

end Cert.Proof.SearchIdeal

end
-- ==== Proof.SearchIdeal.Merge.lean ====
/-
  The three least distances of every class of points, as the search merges them: what each part returns are pairs.
-/
module

public import proofs.«01_k».proof.Proof.SearchIdeal.Pairs

@[expose] public section

noncomputable section

namespace Cert.Proof.SearchIdeal

open Cert.SearchIdeal Cert.SearchIdeal.Gen

open Idealize.ShloMosaic
open Idealize.ShloMosaic.TcCoe
open Idealize.SL.Sem

variable {V : Env Ideal} {s : St Ideal}

/-- The indices of a stretch of 512. -/
abbrev io : IVec S1x512 32 := iota .tc S1x512 32 [1] iota_S1x512_d1_w32

/-- The first points. -/
abbrev points0 : IVec S256x512 32 :=
  broadcastTo S256x512 (shapeCast S1x512 io shapeCasts_S1x512_S1x512) broadcasts_S1x512_S256x512

/-- The distances of the tile, as the body computes them. -/
abbrev dist (x2 : Vec Ideal S1x256x3 .f32) (x3 : Vec Ideal S1x3x8192 .f32) : Dist := k0_pay43 x3 x2

set_option maxHeartbeats 4000000 in
theorem part8 : Runs V s (k0_part8 V.i V.a2 V.h2 V.a3 V.h3 V.a4 V.h4 V.a5 V.h5) fun a s' =>
    s' = (s.1, dist V.x2 V.x3) ∧ a.1 = io ∧ Pair s'.2 a.2.1 points0 ∧ a.2.2.1 = broadcast S1x512 (Scalar.ofBits .f32 0x7F800000#32)
      ∧ a.2.2.2.1 = broadcast S1x512 8192#32 ∧ Pair s'.2 a.2.2.2.2.1 (points 512)
      ∧ a.2.2.2.2.2.1 = addi io (broadcast S1x512 512#32) := by
  rw [k0_part8_eq_skeleton]; unfold k0_part8_skel
  refine runs_bind (P := fun a s' => a = V.x3 ∧ s' = s) (runs_load3 _ _ ⟨View.ld_unit_zero (funext fun a => by fin_cases a <;> rfl) _ _, rfl⟩) ?_
  rintro _ s ⟨rfl, rfl⟩
  refine runs_bind (P := fun a s' => a = V.x2 ∧ s' = s) (runs_load2 _ _ ⟨View.ld_unit_zero (funext fun a => by fin_cases a <;> rfl) _ _, rfl⟩) ?_
  rintro _ s ⟨rfl, rfl⟩
  refine runs_bind (P := fun _ s' => s' = s) (runs_load5 _ _ rfl) ?_
  rintro _ s rfl
  refine runs_bind (P := fun _ s' => s' = (s.1, dist V.x2 V.x3)) (runs_store5 rfl) ?_
  rintro _ _ rfl
  refine runs_bind (runs_load5 _ _ (P := fun a s' => Pair s'.2 a points0 ∧ s' = (s.1, dist V.x2 V.x3)) ⟨pair_load_zero, rfl⟩) ?_
  rintro _ _ ⟨h0, rfl⟩
  refine runs_bind (runs_load5 _ _ (P := fun a s' => Pair s'.2 a (points 512) ∧ s' = (s.1, dist V.x2 V.x3)) ⟨pair_load 512 (by omega), rfl⟩) ?_
  rintro _ _ ⟨h1, rfl⟩
  exact runs_pure ⟨rfl, rfl, h0, rfl, rfl, h1, rfl⟩

/-- A load of a stretch of 512 distances. -/
theorem load_points {α : Type} {P : α → St Ideal → Prop} (o : ℕ) (ho : o + 512 ≤ 8192) {inb} {hl}
    {k : FVec Ideal S256x512 .f32 → Prog (TpuEff nD τ sig (Elt Ideal) Λ₀ .tc) α}
    (h : ∀ x, Pair s.2 x (points o) → Runs V s (k x) P) :
    Runs V s (Prog.lift (.load V.a5 (Rect.unit (s := S256x8192) ![0, o] S256x512.size inb).toLoadRect hl) >>= k) P := by
  refine runs_bind (runs_load5 _ _ (P := fun a s' => Pair s.2 a (points o) ∧ s' = s) ⟨pair_load o ho, rfl⟩) ?_
  rintro x _ ⟨hx, rfl⟩
  exact h x hx

set_option maxHeartbeats 4000000 in
theorem part9 {v33 v36 v39} (h33 : Pair s.2 v33 points0) (h36 : Pair s.2 v36 (points 512)) :
    Runs V s (k0_part9 V.i V.a2 V.h2 V.a3 V.h3 V.a4 V.h4 V.a5 V.h5 io v33 (broadcast S1x512 (Scalar.ofBits .f32 0x7F800000#32))
      (broadcast S1x512 8192#32) v36 (addi io (broadcast S1x512 512#32)) v39) fun a s' => s' = s ∧ Pair s.2 a.1 a.2.1
        ∧ Pair s.2 a.2.2.1 a.2.2.2.1 ∧ Pair s.2 a.2.2.2.2.1 a.2.2.2.2.2.1 ∧ Pair s.2 a.2.2.2.2.2.2 (points 1536) := by
  rw [k0_part9_eq_skeleton]; unfold k0_part9_skel
  refine load_points 1024 (by omega) fun v74 h74 => load_points 1536 (by omega) fun v94 h94 => runs_pure ?_
  dsimp only
  refine ⟨rfl, ?_, ?_, ?_, h94⟩
  all_goals repeat' first | with_reducible assumption | exact pair_none_row | apply pair_sel | assumption

set_option maxHeartbeats 4000000 in
theorem part10 {v78 v81 v87 v88 v92 v93 v94} (h1 : Pair s.2 v78 v81) (h2 : Pair s.2 v87 v88) (h3 : Pair s.2 v92 v93)
    (h94 : Pair s.2 v94 (points 1536)) :
    Runs V s (k0_part10 V.i V.a2 V.h2 V.a3 V.h3 V.a4 V.h4 V.a5 V.h5 io v78 v81 v87 v88 v92 v93 v94) fun a s' =>
      s' = s ∧ Pair s.2 a.1 a.2.1 ∧ Pair s.2 a.2.2.1 a.2.2.2.1 ∧ Pair s.2 a.2.2.2.2.1 a.2.2.2.2.2.1
        ∧ Pair s.2 a.2.2.2.2.2.2.1 a.2.2.2.2.2.2.2.1 ∧ PairOn s.2 a.2.2.2.2.2.2.2.2.1 a.2.2.2.2.2.2.2.2.2 a.2.2.2.2.2.2.2.1
        ∧ PairOff s.2 a.2.2.2.2.2.2.2.2.1 a.2.2.2.2.2.2.2.2.2 a.2.1 := by
  rw [k0_part10_eq_skeleton]; unfold k0_part10_skel
  refine load_points 2048 (by omega) fun v114 _ => load_points 2560 (by omega) fun v134 _ => runs_pure ?_
  dsimp only
  refine ⟨rfl, ?_, ?_, ?_, ?_, pairOn_sel ?_, pairOff_sel ?_⟩
  all_goals repeat' first | with_reducible assumption | apply pair_sel | assumption

set_option maxHeartbeats 4000000 in
theorem part11 {v127 v128 v132 v133 v138 v141 v142 v145 v146 v147} (h1 : Pair s.2 v127 v128) (h2 : Pair s.2 v132 v133)
    (h3 : Pair s.2 v138 v141) (h4 : Pair s.2 v142 v145) (h5 : PairOn s.2 v146 v147 v145) (h6 : PairOff s.2 v146 v147 v128) :
    Runs V s (k0_part11 V.i V.a2 V.h2 V.a3 V.h3 V.a4 V.h4 V.a5 V.h5 io v127 v128 v132 v133 v138 v141 v142 v145 v146 v147) fun a s' =>
      s' = s ∧ Pair s.2 a.1 a.2.1 ∧ Pair s.2 a.2.2.1 a.2.2.2.1 ∧ Pair s.2 a.2.2.2.2.1 a.2.2.2.2.2.1
        ∧ Pair s.2 a.2.2.2.2.2.2.1 (points 4096) ∧ a.2.2.2.2.2.2.2.1 = addi io (broadcast S1x512 4096#32)
        ∧ PairOn s.2 a.2.2.2.2.2.2.2.2.1 a.2.2.2.2.2.2.2.2.2 (points 4096)
        ∧ PairOff s.2 a.2.2.2.2.2.2.2.2.1 a.2.2.2.2.2.2.2.2.2 a.2.1 := by
  rw [k0_part11_eq_skeleton]; unfold k0_part11_skel
  have h7 := pair_join h5 h6
  refine load_points 3072 (by omega) fun v154 _ => load_points 3584 (by omega) fun v174 _ => load_points 4096 (by omega) fun v194 h194 => runs_pure ?_
  dsimp only
  refine ⟨rfl, ?_, ?_, ?_, h194, rfl, pairOn_sel h194, pairOff_sel ?_⟩
  all_goals repeat' first | with_reducible assumption | apply pair_sel | assumption

set_option maxHeartbeats 4000000 in
theorem part12 {v178 v181 v187 v188 v192 v193 v194 v197 v198} (h1 : Pair s.2 v178 v181) (h2 : Pair s.2 v187 v188)
    (h3 : Pair s.2 v192 v193) (h4 : Pair s.2 v194 (points 4096)) (h5 : PairOn s.2 v197 v198 (points 4096)) (h6 : PairOff s.2 v197 v198 v181) :
    Runs V s (k0_part12 V.i V.a2 V.h2 V.a3 V.h3 V.a4 V.h4 V.a5 V.h5 io v178 v181 v187 v188 v192 v193 v194
      (addi io (broadcast S1x512 4096#32)) v197 v198) fun a s' =>
      s' = s ∧ Pair s.2 a.2.1 a.2.2.1 ∧ Pair s.2 a.2.2.2.1 a.2.2.2.2.1
        ∧ PairOn s.2 a.2.2.2.2.2.2.1 a.2.2.2.2.2.2.2 a.2.2.2.2.2.1 ∧ PairOff s.2 a.2.2.2.2.2.2.1 a.2.2.2.2.2.2.2 a.1 := by
  rw [k0_part12_eq_skeleton]; unfold k0_part12_skel
  have h7 := pair_join h5 h6
  refine load_points 4608 (by omega) fun v214 _ => load_points 5120 (by omega) fun v234 _ => runs_pure ?_
  dsimp only
  refine ⟨rfl, ?_, ?_, pairOn_sel ?_, pairOff_sel ?_⟩
  all_goals repeat' first | with_reducible assumption | apply pair_sel | assumption

set_option maxHeartbeats 4000000 in
theorem part13 {v233 v238 v241 v247 v248 v250 v251 v252} (h1 : Pair s.2 v238 v241) (h2 : Pair s.2 v247 v248)
    (h5 : PairOn s.2 v251 v252 v250) (h6 : PairOff s.2 v251 v252 v233) :
    Runs V s (k0_part13 V.i V.a2 V.h2 V.a3 V.h3 V.a4 V.h4 V.a5 V.h5 io v233 v238 v241 v247 v248 v250 v251 v252) fun a s' =>
      s' = s ∧ Pair s.2 a.2.1 a.2.2.1 ∧ Pair s.2 a.2.2.2.1 a.2.2.2.2.1 ∧ Pair s.2 a.2.2.2.2.2.2.1 a.2.2.2.2.2.2.2.1
        ∧ PairOn s.2 a.2.2.2.2.2.1 a.2.2.2.2.2.2.2.2.1 a.1 ∧ PairOff s.2 a.2.2.2.2.2.1 a.2.2.2.2.2.2.2.2.1 (points 6656)
        ∧ a.2.2.2.2.2.2.2.2.2 = shapeCast S1x512 (addi io (broadcast S1x512 6656#32)) shapeCasts_S1x512_S1x512 := by
  rw [k0_part13_eq_skeleton]; unfold k0_part13_skel
  have h7 := pair_join h5 h6
  refine load_points 5632 (by omega) fun v254 _ => load_points 6144 (by omega) fun v274 _ => load_points 6656 (by omega) fun v294 h294 => runs_pure ?_
  dsimp only
  refine ⟨rfl, ?_, ?_, ?_, pairOn_sel ?_, pairOff_sel h294, rfl⟩
  all_goals repeat' first | with_reducible assumption | apply pair_sel | assumption

set_option maxHeartbeats 4000000 in
theorem part14 {v281 v287 v288 v292 v293 v297 v298 v301 v302} (h1 : Pair s.2 v287 v288) (h2 : Pair s.2 v292 v293)
    (h3 : Pair s.2 v298 v301) (h5 : PairOn s.2 v297 v302 v281) (h6 : PairOff s.2 v297 v302 (points 6656)) :
    Runs V s (k0_part14 V.i V.a2 V.h2 V.a3 V.h3 V.a4 V.h4 V.a5 V.h5 io v281 v287 v288 v292 v293 v297 v298 v301 v302
      (shapeCast S1x512 (addi io (broadcast S1x512 6656#32)) shapeCasts_S1x512_S1x512)) fun a s' =>
      s' = s ∧ Pair s.2 a.1 a.2.1 ∧ Pair s.2 a.2.2.1 a.2.2.2.1 ∧ Pair s.2 a.2.2.2.2.1 a.2.2.2.2.2.1
        ∧ Pair s.2 a.2.2.2.2.2.2.1 a.2.2.2.2.2.2.2.1 ∧ Pair s.2 a.2.2.2.2.2.2.2.2.1 a.2.2.2.2.2.2.2.2.2 := by
  rw [k0_part14_eq_skeleton]; unfold k0_part14_skel
  have h7 := pair_join h5 h6
  refine load_points 7168 (by omega) fun v314 _ => load_points 7680 (by omega) fun v334 _ => runs_pure ?_
  dsimp only
  refine ⟨rfl, ?_, ?_, ?_, pair_slice slices_S256x512_o0_0_S256x128 ?_, pair_slice slices_S256x512_o0_0_S256x128 ?_⟩
  all_goals repeat' first | with_reducible assumption | apply pair_sel | assumption

end Cert.Proof.SearchIdeal

end
-- ==== Proof.SearchIdeal.Picks.lean ====
/-
  The rounds of choices the search makes among the merged pairs, and what it stores of them.
-/
module

public import proofs.«01_k».proof.Proof.SearchIdeal.Merge

@[expose] public section

noncomputable section

namespace Cert.Proof.SearchIdeal

open Cert.SearchIdeal Cert.SearchIdeal.Gen

open Idealize.ShloMosaic
open Idealize.ShloMosaic.TcCoe
open Idealize.SL.Sem

variable {V : Env Ideal} {s : St Ideal}

set_option maxHeartbeats 4000000 in
theorem part15 {v338 v341 v347 v348 v352 v353 v354 v355 v356 v357} (h1 : Pair s.2 v338 v341) (h2 : Pair s.2 v347 v348)
    (h3 : Pair s.2 v352 v353) (h4 : Pair s.2 v354 v355) (h5 : Pair s.2 v356 v357) :
    Runs V s (k0_part15 V.i V.a2 V.h2 V.a3 V.h3 V.a4 V.h4 V.a5 V.h5 v338 v341 v347 v348 v352 v353 v354 v355 v356 v357)
      fun ⟨v379, v380, v392, v393, v397, v398, v402, v403, v405, v406, v407, v408, v410, v411, v412, v413, v415, v416, _⟩ s' =>
        s' = s ∧ Pair s.2 v379 v380 ∧ Pair s.2 v392 v393 ∧ Pair s.2 v397 v398 ∧ Pair s.2 v402 v403 ∧ Pair s.2 v405 v406
          ∧ Pair s.2 v407 v408 ∧ Pair s.2 v410 v411 ∧ Pair s.2 v412 v413 ∧ Pair s.2 v415 v416 := by
  rw [k0_part15_eq_skeleton]; unfold k0_part15_skel
  refine runs_pure ?_
  dsimp only
  refine ⟨rfl, ?_, ?_, ?_, ?_, ?_, ?_, ?_, ?_, ?_⟩
  all_goals repeat' first | with_reducible assumption | apply pair_sel | refine pair_slice (by decide) ?_ | assumption

set_option maxHeartbeats 4000000 in
theorem part16 {v379 v380 v392 v393 v397 v398 v402 v403 v405 v406 v407 v408 v410 v411 v412 v413 v415 v416 v417}
    (h1 : Pair s.2 v379 v380) (h2 : Pair s.2 v392 v393) (h3 : Pair s.2 v397 v398) (h4 : Pair s.2 v402 v403) (h5 : Pair s.2 v405 v406)
    (h6 : Pair s.2 v407 v408) (h7 : Pair s.2 v410 v411) (h8 : Pair s.2 v412 v413) (h9 : Pair s.2 v415 v416) :
    Runs V s (k0_part16 V.i V.a2 V.h2 V.a3 V.h3 V.a4 V.h4 V.a5 V.h5 v379 v380 v392 v393 v397 v398 v402 v403 v405 v406 v407 v408 v410
        v411 v412 v413 v415 v416 v417)
      fun ⟨v448, v452, v453, v460, v461, v463, v469, v471, v472, v473, v474⟩ s' =>
        s' = s ∧ Pair s.2 v452 v453 ∧ Pair s.2 v460 v461 ∧ Pair (n := 1) s.2 v463 v469 ∧ Pair s.2 v472 v473 ∧ PairOn s.2 v471 v474 v453
          ∧ PairOff s.2 v471 v474 v448 := by
  rw [k0_part16_eq_skeleton]; unfold k0_part16_skel
  refine runs_pure ?_
  dsimp only
  refine ⟨rfl, ?_, ?_, pair_least (h := reduces_S256x128_S256) (hb := broadcasts_S256x1_S256x128) (by decide) ?_, ?_, pairOn_sel ?_,
    pairOff_sel ?_⟩
  all_goals repeat' first | with_reducible assumption | apply pair_sel | assumption

set_option maxHeartbeats 4000000 in
theorem part17 {v448 v452 v453 v460 v461 v471 v472 v473 v474} (h1 : Pair s.2 v452 v453) (h2 : Pair s.2 v460 v461)
    (h3 : Pair s.2 v472 v473) (h4 : PairOn s.2 v471 v474 v453) (h5 : PairOff s.2 v471 v474 v448) :
    Runs V s (k0_part17 V.i V.a2 V.h2 V.a3 V.h3 V.a4 V.h4 V.a5 V.h5 v448 v452 v453 v460 v461 v471 v472 v473 v474)
      fun ⟨v483, v489, v503, v509, v512, v513, v514, v515, v516, v517, v519, v521⟩ s' =>
        s' = s ∧ Pair (n := 1) s.2 v483 v489 ∧ Pair (n := 1) s.2 v503 v509 ∧ Pair s.2 v512 v513 ∧ Pair s.2 v514 v515
          ∧ Pair s.2 v516 v517 ∧ Pair s.2 v519 v521 := by
  rw [k0_part17_eq_skeleton]; unfold k0_part17_skel
  have h6 := pair_join h4 h5
  refine runs_pure ?_
  dsimp only
  refine ⟨rfl, pair_least (h := reduces_S256x128_S256) (hb := broadcasts_S256x1_S256x128) (by decide) ?_,
    pair_least (h := reduces_S256x128_S256) (hb := broadcasts_S256x1_S256x128) (by decide) ?_, ?_, ?_, ?_, ?_⟩
  all_goals repeat' first | with_reducible assumption | apply pair_sel | exact pair_none | assumption

set_option maxHeartbeats 4000000 in
theorem part18 {v512 v513 v514 v515 v516 v517 v519 v521} (h1 : Pair s.2 v512 v513) (h2 : Pair s.2 v514 v515)
    (h3 : Pair s.2 v516 v517) (h4 : Pair s.2 v519 v521) :
    Runs V s (k0_part18 V.i V.a2 V.h2 V.a3 V.h3 V.a4 V.h4 V.a5 V.h5 v512 v513 v514 v515 v516 v517 v519 v521)
      fun ⟨v523, v529, v543, v549, v552, v553, v554, v555, v556, v557, v559, v561, v563, v569⟩ s' =>
        s' = s ∧ Pair (n := 1) s.2 v523 v529 ∧ Pair (n := 1) s.2 v543 v549 ∧ Pair (n := 1) s.2 v563 v569 ∧ Pair s.2 v552 v553
          ∧ Pair s.2 v554 v555 ∧ Pair s.2 v556 v557 ∧ Pair s.2 v559 v561 := by
  rw [k0_part18_eq_skeleton]; unfold k0_part18_skel
  refine runs_pure ?_
  dsimp only
  refine ⟨rfl, pair_least (h := reduces_S256x128_S256) (hb := broadcasts_S256x1_S256x128) (by decide) ?_,
    pair_least (h := reduces_S256x128_S256) (hb := broadcasts_S256x1_S256x128) (by decide) ?_,
    pair_least (h := reduces_S256x128_S256) (hb := broadcasts_S256x1_S256x128) (by decide) ?_, ?_, ?_, ?_, ?_⟩
  all_goals repeat' first | with_reducible assumption | apply pair_sel | exact pair_none | assumption

set_option maxHeartbeats 4000000 in
theorem part19 {v552 v553 v554 v555 v556 v557 v559 v561 v569} (h1 : Pair s.2 v552 v553) (h2 : Pair s.2 v554 v555)
    (h3 : Pair s.2 v556 v557) (h4 : Pair s.2 v559 v561) :
    Runs V s (k0_part19 V.i V.a2 V.h2 V.a3 V.h3 V.a4 V.h4 V.a5 V.h5 v552 v553 v554 v555 v556 v557 v559 v561 v569)
      fun ⟨v583, v589, v599, v601, v603, v609, _, v612, v613, v614, v615, v616, v617, v618⟩ s' =>
        s' = s ∧ Pair (n := 1) s.2 v583 v589 ∧ Pair s.2 v599 v601 ∧ Pair (n := 1) s.2 v603 v609 ∧ Pair s.2 v612 v613
          ∧ Pair s.2 v614 v615 ∧ Pair s.2 v616 v617 ∧ v618 = broadcast S256x128 (Scalar.ofBits .f32 0x7F800000#32) := by
  rw [k0_part19_eq_skeleton]; unfold k0_part19_skel
  refine runs_pure ?_
  dsimp only
  refine ⟨rfl, pair_least (h := reduces_S256x128_S256) (hb := broadcasts_S256x1_S256x128) (by decide) ?_, ?_,
    pair_least (h := reduces_S256x128_S256) (hb := broadcasts_S256x1_S256x128) (by decide) ?_, ?_, ?_, ?_, rfl⟩
  all_goals repeat' first | with_reducible assumption | apply pair_sel | exact pair_none | assumption

set_option maxHeartbeats 4000000 in
theorem part20 {v599 v601 v611 v612 v613 v614 v615 v616 v617} (h1 : Pair s.2 v599 v601) (h2 : Pair s.2 v612 v613)
    (h3 : Pair s.2 v614 v615) (h4 : Pair s.2 v616 v617) :
    Runs V s (k0_part20 V.i V.a2 V.h2 V.a3 V.h3 V.a4 V.h4 V.a5 V.h5 v599 v601 v611 v612 v613 v614 v615 v616 v617
        (broadcast S256x128 (Scalar.ofBits .f32 0x7F800000#32)))
      fun ⟨v623, v629, v643, v649, v652, v653, v654, v655, v656, v657, v659, v661, v663, v665, c⟩ s' =>
        s' = s ∧ Pair (n := 1) s.2 v623 v629 ∧ Pair (n := 1) s.2 v643 v649 ∧ Pair s.2 v652 v653 ∧ Pair s.2 v654 v655
          ∧ Pair s.2 v656 v657 ∧ Pair s.2 v659 v661 ∧ v663 = least v652 reduces_S256x128_S256
          ∧ v665 = cmpf .oeq v652 (broadcastTo S256x128 v663 broadcasts_S256x1_S256x128) ∧ c = 8192#32 := by
  rw [k0_part20_eq_skeleton]; unfold k0_part20_skel
  refine runs_pure ?_
  dsimp only
  refine ⟨rfl, pair_least (h := reduces_S256x128_S256) (hb := broadcasts_S256x1_S256x128) (by decide) ?_,
    pair_least (h := reduces_S256x128_S256) (hb := broadcasts_S256x1_S256x128) (by decide) ?_, ?_, ?_, ?_, ?_, rfl, rfl, rfl⟩
  all_goals repeat' first | with_reducible assumption | apply pair_sel | exact pair_none | assumption

set_option maxHeartbeats 4000000 in
theorem part21 {v652 v653 v654 v655 v656 v657 v659 v661} (h1 : Pair s.2 v652 v653) (h2 : Pair s.2 v654 v655)
    (h3 : Pair s.2 v656 v657) (h4 : Pair s.2 v659 v661) :
    Runs V s (k0_part21 V.i V.a2 V.h2 V.a3 V.h3 V.a4 V.h4 V.a5 V.h5 v652 v653 v654 v655 v656 v657 v659 v661
        (cmpf .oeq v652 (broadcastTo S256x128 (least v652 reduces_S256x128_S256) broadcasts_S256x1_S256x128)) 8192#32)
      fun ⟨v669, v683, v689, v695, v696, v697, v699, v701, v703, v709, v711, v712, v713, v714⟩ s' =>
        s' = s ∧ Pair (n := 1) s.2 (least v652 reduces_S256x128_S256) v669 ∧ Pair (n := 1) s.2 v683 v689 ∧ Pair (n := 1) s.2 v703 v709
          ∧ Pair s.2 v696 v697 ∧ Pair s.2 v699 v701 ∧ Pair s.2 v712 v713 ∧ PairOn s.2 v711 v714 v697 ∧ PairOff s.2 v711 v714 v695 := by
  rw [k0_part21_eq_skeleton]; unfold k0_part21_skel
  refine runs_pure ?_
  dsimp only
  refine ⟨rfl, pair_least (h := reduces_S256x128_S256) (hb := broadcasts_S256x1_S256x128) (by decide) ?_,
    pair_least (h := reduces_S256x128_S256) (hb := broadcasts_S256x1_S256x128) (by decide) ?_,
    pair_least (h := reduces_S256x128_S256) (hb := broadcasts_S256x1_S256x128) (by decide) ?_, ?_, ?_, ?_, pairOn_sel ?_, pairOff_sel ?_⟩
  all_goals repeat' first | with_reducible assumption | apply pair_sel | exact pair_none | assumption

/-- The 16 columns of indices laid side by side, as a block of the result. -/
abbrev sideBySide (c0 c1 c2 c3 c4 c5 c6 c7 c8 c9 c10 c11 c12 c13 c14 c15 : IVec S256x1 32) : Vec Ideal S1x256x16 .i32 :=
  shapeCast S1x256x16 (concatenate S256x16 1 [⟨S256x1, c0⟩, ⟨S256x1, c1⟩, ⟨S256x1, c2⟩, ⟨S256x1, c3⟩, ⟨S256x1, c4⟩, ⟨S256x1, c5⟩,
    ⟨S256x1, c6⟩, ⟨S256x1, c7⟩, ⟨S256x1, c8⟩, ⟨S256x1, c9⟩, ⟨S256x1, c10⟩, ⟨S256x1, c11⟩, ⟨S256x1, c12⟩, ⟨S256x1, c13⟩, ⟨S256x1, c14⟩,
    ⟨S256x1, c15⟩] concatenates_S256x1_S256x1_S256x1_S256x1_S256x1_S256x1_S256x1_S256x1_S256x1_S256x1_S256x1_S256x1_S256x1_S256x1_S256x1_S256x1_S256x16_d1) shapeCasts_S256x16_S1x256x16

/-- The indices of a row of distances. -/
abbrev ix : IVec S1x8192 32 := iota .tc S1x8192 32 [1] iota_S1x8192_d1_w32

set_option maxHeartbeats 4000000 in
theorem part22 {v469 v489 v509 v529 v549 v569 v589 v609 v629 v649 v669 v689 v695 v696 v697 v699 v701 v709 v711 v712 v713 v714}
    (h1 : Pair s.2 v696 v697) (h2 : Pair s.2 v699 v701) (h3 : Pair s.2 v712 v713) (h4 : PairOn s.2 v711 v714 v697)
    (h5 : PairOff s.2 v711 v714 v695) :
    Runs V s (k0_part22 V.i V.a2 V.h2 V.a3 V.h3 V.a4 V.h4 V.a5 V.h5 v469 v489 v509 v529 v549 v569 v589 v609 v629 v649 v669 v689 v695
        v696 v697 v699 v701 v709 v711 v712 v713 v714)
      fun ⟨v719, v725, v733, v739, v745, v751, v756, v759⟩ s' =>
        s' = (sideBySide v469 v489 v509 v529 v549 v569 v589 v609 v629 v649 v669 v689 v709 v725 v739 v751, s.2)
          ∧ Pair (n := 1) s.2 v719 v725 ∧ Pair (n := 1) s.2 v733 v739 ∧ Pair (n := 1) s.2 v745 v751 ∧ v756 = ix
          ∧ v759 = cmpf .ole s.2 (broadcastTo S256x8192 v745 broadcasts_S256x1_S256x8192) := by
  rw [k0_part22_eq_skeleton]; unfold k0_part22_skel
  have h6 := pair_join h4 h5
  refine runs_bind (P := fun _ s' => s' = s) (runs_load4 _ _ rfl) ?_
  rintro _ s rfl
  refine runs_bind (P := fun _ s' => s' = (_, s.2)) (runs_store4 rfl) ?_
  rintro _ _ rfl
  refine runs_bind (P := fun a s' => a = s'.2 ∧ s' = _) (runs_load5 _ _ ⟨View.ld_unit_zero (funext fun a => by fin_cases a <;> rfl) _ _, rfl⟩) ?_
  rintro _ _ ⟨rfl, rfl⟩
  refine runs_pure ?_
  dsimp only
  refine ⟨rfl, pair_least (h := reduces_S256x128_S256) (hb := broadcasts_S256x1_S256x128) (by decide) ?_,
    pair_least (h := reduces_S256x128_S256) (hb := broadcasts_S256x1_S256x128) (by decide) ?_,
    pair_least (h := reduces_S256x128_S256) (hb := broadcasts_S256x1_S256x128) (by decide) ?_, rfl, rfl⟩
  all_goals repeat' first | with_reducible assumption | apply pair_sel | exact pair_none | assumption

end Cert.Proof.SearchIdeal

end
-- ==== Proof.SearchIdeal.Order.lean ====
/-
  The places of the 16 least values of a row: what the search and a sort of the row both give.
-/
module

public import proofs.«01_k».proof.Proof.SearchIdeal.Pairs

@[expose] public section

noncomputable section

namespace Cert.Proof.SearchIdeal

open Cert.SearchIdeal Cert.SearchIdeal.Gen

open Idealize.ShloMosaic
open Idealize.ShloMosaic.TcCoe
open Idealize.SL.Sem

/-- A value with its place: the order of the search, by value and among like values by place. -/
def key {n : ℕ} (f : Fin n → EReal) (j : Fin n) : EReal ×ₗ Fin n := toLex (f j, j)

theorem key_inj {n : ℕ} (f : Fin n → EReal) : Function.Injective (key f) := fun a b h => by
  have : (f a, a) = (f b, b) := toLex.injective h
  exact (Prod.mk.inj this).2

/-- The places of the 16 least values in order: they increase, and every other place comes after all of them. -/
def Nearest {n : ℕ} (f : Fin n → EReal) (p : Fin 16 → Fin n) : Prop :=
  StrictMono (fun t => key f (p t)) ∧ ∀ j, (∀ t, p t ≠ j) → ∀ t, key f (p t) < key f j

theorem Nearest.inj {n : ℕ} {f : Fin n → EReal} {p : Fin 16 → Fin n} (h : Nearest f p) : Function.Injective p := fun a b e =>
  h.1.injective (show key f (p a) = key f (p b) by rw [e])

theorem card_places {n : ℕ} {p q : Fin 16 → Fin n} (hp : Function.Injective p) (hq : Function.Injective q) :
    (Finset.univ.image q).card ≤ (Finset.univ.image p).card := by
  rw [Finset.card_image_of_injective Finset.univ hp, Finset.card_image_of_injective Finset.univ hq]

/-- There is one such list of places. -/
theorem Nearest.unique {n : ℕ} {f : Fin n → EReal} {p q : Fin 16 → Fin n} (hp : Nearest f p) (hq : Nearest f q) : p = q := by
  have hsub : ∀ {p q : Fin 16 → Fin n}, Nearest f p → Nearest f q → Set.range p ⊆ Set.range q := by
    intro p q hp hq
    rintro _ ⟨t, rfl⟩
    by_contra hn
    have : ¬ Finset.univ.image q ⊆ Finset.univ.image p := fun hs => by
      have e := Finset.eq_of_subset_of_card_le hs (card_places hq.inj hp.inj)
      have hm : p t ∈ Finset.univ.image q := by rw [e]; exact Finset.mem_image_of_mem p (Finset.mem_univ t)
      obtain ⟨u, -, hu⟩ := Finset.mem_image.1 hm
      exact hn ⟨u, hu⟩
    obtain ⟨j, hj, hj'⟩ := Finset.not_subset.1 this
    obtain ⟨u, -, rfl⟩ := Finset.mem_image.1 hj
    have h1 := hp.2 (q u) (fun v e => hj' (by rw [← e]; exact Finset.mem_image_of_mem p (Finset.mem_univ v))) t
    have h2 := hq.2 (p t) (fun v e => hn ⟨v, e⟩) u
    exact lt_asymm h1 h2
  have hr : Set.range (fun t => key f (p t)) = Set.range (fun t => key f (q t)) := by
    rw [show (fun t => key f (p t)) = key f ∘ p from rfl, show (fun t => key f (q t)) = key f ∘ q from rfl, Set.range_comp, Set.range_comp,
      Set.Subset.antisymm (hsub hp hq) (hsub hq hp)]
  have := (StrictMono.range_inj hp.1 hq.1).1 hr
  funext t
  exact key_inj f (congrFun this t)

/-- Places each of which is the first of those the earlier ones leave. -/
theorem Nearest.of_next {n : ℕ} {f : Fin n → EReal} {p : Fin 16 → Fin n} (h : ∀ t, ∀ s < t, p s ≠ p t)
    (h' : ∀ t j, (∀ s < t, p s ≠ j) → key f (p t) ≤ key f j) : Nearest f p := by
  refine ⟨fun s t hst => lt_of_le_of_ne (h' s _ fun u hu => h t u (hu.trans hst)) fun e => h t s hst (key_inj f e), fun j hj t => ?_⟩
  exact lt_of_le_of_ne (h' t j fun s _ => hj s) fun e => hj t (key_inj f e)

/-- The first 16 places of an arrangement of all of them in order. -/
theorem Nearest.of_sorted {n : ℕ} (hn : 16 ≤ n) {f : Fin n → EReal} {σ : Fin n → Fin n} (h : StrictMono fun j => key f (σ j)) :
    Nearest f fun t => σ (Fin.castLE hn t) := by
  refine ⟨fun s t hst => h (by exact hst), fun j hj t => ?_⟩
  have hσ : Function.Surjective σ := Finite.surjective_of_injective fun a b e => h.injective (congrArg (key f) e)
  obtain ⟨i, rfl⟩ := hσ j
  refine h (lt_of_not_ge fun hi => hj ⟨i.val, ?_⟩ ?_)
  · have : i.val ≤ t.val := hi; have := t.isLt; omega
  · exact congrArg σ (Fin.ext rfl)

/-- Words for the places of the 16 least values. -/
def Places (f : Fin 8192 → EReal) (k : Fin 16 → BitVec 32) : Prop :=
  ∃ p : Fin 16 → Fin 8192, (∀ t, k t = BitVec.ofNat 32 (p t).val) ∧ Nearest f p

theorem toInt_place (j : Fin 8192) : (BitVec.ofNat 32 j.val).toInt = j.val := by
  have := j.isLt
  rw [BitVec.toInt_eq_toNat_of_lt (by rw [BitVec.toNat_ofNat]; omega), BitVec.toNat_ofNat]
  omega

/-- 16 candidates that increase, as many as there are values up to the last: the least 16 in order. -/
theorem places_of_count {f : Fin 8192 → EReal} (hf : ∀ j, f j ≠ ⊤) {m : Fin 16 → EReal} {k : Fin 16 → BitVec 32}
    (hc : ∀ t, (∃ j : Fin 8192, k t = BitVec.ofNat 32 j.val ∧ m t = f j) ∨ (k t = 8192#32 ∧ m t = ⊤))
    (hlt : ∀ t : Fin 15, m t.castSucc < m t.succ ∨ (m t.castSucc = m t.succ ∧ (k t.castSucc).toInt < (k t.succ).toInt))
    (hcnt : (Finset.univ.filter fun j => f j ≤ m 15).card = 16) : Places f k := by
  have hmono : Monotone m := Fin.monotone_iff_le_succ.2 fun t => by
    rcases hlt t with h | h
    · exact h.le
    · exact h.1.le
  have htop : m 15 ≠ ⊤ := fun e => by
    rw [e, Finset.filter_true_of_mem fun _ _ => le_top, Finset.card_univ, Fintype.card_fin] at hcnt
    omega
  have hg : ∀ t, ∃ j : Fin 8192, k t = BitVec.ofNat 32 j.val ∧ m t = f j := fun t => by
    rcases hc t with h | h
    · exact h
    · exact absurd (top_le_iff.1 (h.2 ▸ hmono (Fin.le_last t))) htop
  choose p hk hm using hg
  have hs : StrictMono fun t => key f (p t) := Fin.strictMono_iff_lt_succ.2 fun t => by
    refine Prod.Lex.toLex_lt_toLex.2 ?_
    rcases hlt t with h | ⟨h, h'⟩
    · left; rw [← hm, ← hm]; exact h
    · right
      rw [hk, hk, toInt_place, toInt_place] at h'
      exact ⟨by show f (p t.castSucc) = f (p t.succ); rw [← hm, ← hm]; exact h, by exact_mod_cast h'⟩
  have hinj : Function.Injective p := fun a b e => hs.injective (congrArg (key f) e)
  refine ⟨p, hk, hs, fun j hj t => lt_of_not_ge fun hle => ?_⟩
  have hle' : key f j ≤ key f (p 15) := hle.trans (hs.monotone (Fin.le_last t))
  have hfj : f j ≤ m 15 := by
    rw [hm]
    rcases Prod.Lex.toLex_le_toLex.1 hle' with h | h
    · exact h.le
    · exact h.1.le
  have hsub : insert j (Finset.univ.image p) ⊆ Finset.univ.filter fun j => f j ≤ m 15 := fun i hi => by
    refine Finset.mem_filter.2 ⟨Finset.mem_univ _, ?_⟩
    rcases Finset.mem_insert.1 hi with rfl | hi
    · exact hfj
    · obtain ⟨u, -, rfl⟩ := Finset.mem_image.1 hi
      rw [← hm]; exact hmono (Fin.le_last u)
  have hcard := Finset.card_le_card hsub
  rw [hcnt, Finset.card_insert_of_notMem (fun hi => by
    obtain ⟨u, -, e⟩ := Finset.mem_image.1 hi; exact hj u e), Finset.card_image_of_injective _ hinj, Finset.card_univ, Fintype.card_fin] at hcard
  omega

end Cert.Proof.SearchIdeal

end
-- ==== Proof.SearchIdeal.Check.lean ====
/-
  The check of the 16 candidates of a tile, and what a tile that passes it holds: the 16 nearest of each row, nearest first.
-/
module

public import proofs.«01_k».proof.Proof.SearchIdeal.Picks
public import proofs.«01_k».proof.Proof.SearchIdeal.Order
public import Idealize.ShloMosaic.Lib.WordSum
public import Idealize.ShloMosaic.Lib.IdealHost

@[expose] public section

noncomputable section

namespace Cert.Proof.SearchIdeal

open Cert.SearchIdeal Cert.SearchIdeal.Gen

open Idealize.ShloMosaic
open Idealize.ShloMosaic.TcCoe
open Idealize.SL.Sem

open Idealize.ShloMosaic.ValueIdx hiding ix0 ix1 ix2 ix3 ix4 eq_ix1 eq_ix2 eq_ix3 eq_ix4

variable {V : Env Ideal} {s : St Ideal}

/-- Whether a pair of columns lies before another: by the values, and by the indices where the values are equal. -/
abbrev below (m : FVec Ideal S256x1 .f32) (c : IVec S256x1 32) (m' : FVec Ideal S256x1 .f32) (c' : IVec S256x1 32) : IVec S256x1 1 :=
  ori (cmpf .olt m m') (andi (cmpf .oeq m m') (cmpi .slt c c'))

/-- The number of marked entries of each row. -/
abbrev marked (b : IVec S256x8192 1) : IVec S256x1 32 :=
  shapeCast S256x1 (multiReductionI .add [1] S256 (extui 32 b natLt_1_32) 0#32 reduces_S256x8192_S256 rfl) shapeCasts_S256_S256x1

/-- The greatest of ones and zeros, ones where marked. -/
abbrev some1 (b : IVec S256x1 1) : Ideal .f32 :=
  extractAt ![0, 0, 0] (shapeCast S1x1x1 (multiReduction .maximumf [1, 2] S1
    (shapeCast S1x256x1 (select b (broadcast S256x1 (Scalar.ofBits .f32 0x3F800000#32)) (broadcast S256x1 (Scalar.ofBits .f32 0x00000000#32)))
      shapeCasts_S256x1_S1x256x1) 0xFF800000#32 reduces_S1x256x1_S1 (.inl rfl) rfl) shapeCasts_S1_S1x1x1) inpos_S1x1x1_p0_0_0

set_option maxHeartbeats 4000000 in
theorem part23 {m0 c0 m1 c1 m2 c2 m3 c3 m4 c4 m5 c5 m6 c6 m7 c7 m8 c8 m9 c9 m10 c10 b} :
    Runs V s (k0_part23 V.i V.a2 V.h2 V.a3 V.h3 V.a4 V.h4 V.a5 V.h5 m0 c0 m1 c1 m2 c2 m3 c3 m4 c4 m5 c5 m6 c6 m7 c7 m8 c8 m9 c9 m10 c10 b)
      fun a s' => s' = s ∧ a.1 = marked b
        ∧ a.2.1 = andi (andi (andi (andi (andi (andi (andi (andi (below m0 c0 m1 c1) (below m1 c1 m2 c2)) (below m2 c2 m3 c3))
            (below m3 c3 m4 c4)) (below m4 c4 m5 c5)) (below m5 c5 m6 c6)) (below m6 c6 m7 c7)) (below m7 c7 m8 c8)) (below m8 c8 m9 c9)
        ∧ a.2.2.1 = cmpf .olt m9 m10 ∧ a.2.2.2.1 = cmpf .oeq m9 m10 ∧ a.2.2.2.2 = cmpi .slt c9 c10 := by
  rw [k0_part23_eq_skeleton]; unfold k0_part23_skel
  refine runs_pure ?_
  dsimp only
  exact ⟨rfl, rfl, rfl, rfl, rfl, rfl⟩

set_option maxHeartbeats 4000000 in
theorem part24 {m10 c10 m11 c11 m12 c12 m13 c13 m14 c14 m15 c15 n a b c d} :
    Runs V s (k0_part24 V.i V.a2 V.h2 V.a3 V.h3 V.a4 V.h4 V.a5 V.h5 m10 c10 m11 c11 m12 c12 m13 c13 m14 c14 m15 c15 n a b c d)
      fun r s' => s' = s
        ∧ r.1 = Scalar.cmpf .ogt (some1 (cmpi .ne n (broadcast S256x1 16#32))) (Scalar.ofBits .f32 0x00000000#32)
        ∧ r.2 = some1 (xori (andi (andi (andi (andi (andi (andi a (ori b (andi c d))) (below m10 c10 m11 c11)) (below m11 c11 m12 c12))
            (below m12 c12 m13 c13)) (below m13 c13 m14 c14)) (below m14 c14 m15 c15)) (constantI S256x1 1 1#1)) := by
  rw [k0_part24_eq_skeleton]; unfold k0_part24_skel
  refine runs_pure ?_
  dsimp only
  exact ⟨rfl, rfl, rfl⟩

/-! ### What the check says -/

theorem zero_eq : (Scalar.ofBits .f32 0x00000000#32 : Ideal .f32) = (0 : EReal) := by
  show Ideal.ofBits .f32 0x00000000#32 = _
  simp [Ideal.ofBits, Ideal.ieee]

/-- A marked row makes the greatest of the ones and zeros positive. -/
theorem some1_pos {b : IVec S256x1 1} {r : Fin 256} (h : b (ix2 r 0) = 1#1) : (0 : EReal) < some1 b := by
  have e : ∀ j, (0 : EReal) < multiReduction .maximumf [1, 2] S1
      (shapeCast S1x256x1 (select b (broadcast S256x1 (Scalar.ofBits (F := Ideal) .f32 0x3F800000#32))
        (broadcast S256x1 (Scalar.ofBits .f32 0x00000000#32))) shapeCasts_S256x1_S1x256x1) 0xFF800000#32 reduces_S1x256x1_S1 (.inl rfl) rfl j := by
    intro j
    refine lt_of_lt_of_eq ?_ ((multiReduction_maximumf_eq_fold _ _ reduces_S1x256x1_S1 _ _ j).trans
      ((reduces_S1x256x1_S1 : S1x256x1.Reduces [1, 2] S1).fold_fiber_r3_a12 j (FloatOps.maximumf (F := Ideal) (φ := .f32)) _ _)).symm
    refine (Finset.lt_fold_max (s := (Finset.univ : Finset (Fin 256 × Fin 1))) (0 : EReal)).2 (.inr ⟨(r, 0), Finset.mem_univ _, ?_⟩)
    refine lt_of_lt_of_eq ?_ (shapeCast_ab_1ab_apply _ _ _ _ _).symm
    show (0 : EReal) < (if b (ix2 r 0) = 1#1 then Ideal.ofBits .f32 0x3F800000#32 else _)
    rw [if_pos h, Ideal.ofBits_one_f32]
    exact zero_lt_one
  exact e _

theorem below_iff {m m' : FVec Ideal S256x1 .f32} {c c' : IVec S256x1 32} {y : S256x1.Idx} :
    below m c m' c' y = 1#1 ↔ (m y : EReal) < m' y ∨ ((m y : EReal) = m' y ∧ (c y).toInt < (c' y).toInt) := by
  show BitVec.ofBool (decide ((m y : EReal) < m' y)) ||| (BitVec.ofBool (decide ((m y : EReal) = m' y)) &&& BitVec.ofBool ((c y).slt (c' y))) = 1#1 ↔ _
  rw [BitVec.slt_eq_decide]
  by_cases h1 : (m y : EReal) < m' y <;> by_cases h2 : (m y : EReal) = m' y <;> by_cases h3 : (c y).toInt < (c' y).toInt <;>
    simp [h1, h2, h3]

theorem andi_iff {a b : IVec S256x1 1} {y : S256x1.Idx} : andi a b y = 1#1 ↔ a y = 1#1 ∧ b y = 1#1 := by
  show a y &&& b y = 1#1 ↔ _
  generalize a y = p
  generalize b y = q
  revert p q
  decide

/-- The number of the entries of a row that are at most a bound of the row. -/
theorem marked_apply (D : Dist) (m : FVec Ideal S256x1 .f32) (r : Fin 256) :
    (marked (cmpf .ole D (broadcastTo S256x8192 m broadcasts_S256x1_S256x8192)) (ix2 r 0)).toNat
      = (Finset.univ.filter fun j : Fin 8192 => (D (ix2 r j) : EReal) ≤ m (ix2 r 0)).card := by
  have ev : ∀ j : Fin 8192, (extui 32 (cmpf .ole D (broadcastTo S256x8192 m broadcasts_S256x1_S256x8192)) natLt_1_32 (ix2 r j)).toNat
      = if (D (ix2 r j) : EReal) ≤ m (ix2 r 0) then 1 else 0 := fun j => by
    show (BitVec.setWidth 32 (BitVec.ofBool (decide ((D (ix2 r j) : EReal) ≤ broadcastTo (Rows 8192) m broadcasts_S256x1_S256x8192 (ix2 r j))))).toNat = _
    rw [column_apply]
    by_cases h : (D (ix2 r j) : EReal) ≤ m (ix2 r 0)
    · rw [decide_eq_true h, if_pos h]; rfl
    · rw [decide_eq_false h, if_neg h]; rfl
  have es : ∀ g : S256x8192.Idx → ℕ, (∑ i ∈ Finset.univ.filter (fun i => (reduces_S256x8192_S256 : S256x8192.Reduces [1] S256).drop i = ix1 r), g i)
      = ∑ j : Fin 8192, g (ix2 r j) := fun g =>
    (reduces_S256x8192_S256 : S256x8192.Reduces [1] S256).fold_fiber_r2_a1 (ix1 r) (· + ·) 0 g
  have ec : ∑ i ∈ Finset.univ.filter (fun i => (reduces_S256x8192_S256 : S256x8192.Reduces [1] S256).drop i = ix1 r),
      (extui 32 (cmpf .ole D (broadcastTo S256x8192 m broadcasts_S256x1_S256x8192)) natLt_1_32 i).toNat
      = (Finset.univ.filter fun j : Fin 8192 => (D (ix2 r j) : EReal) ≤ m (ix2 r 0)).card := by
    rw [es, Finset.card_filter]
    exact Finset.sum_congr rfl fun j _ => ev j
  rw [marked, column_cast]
  refine (Idealize.ShloMosaic.WordSum.toNat_multiReductionI_add _ _ rfl _ ?_).trans ec
  rw [ec]
  refine lt_of_le_of_lt (Finset.card_le_univ _) ?_
  rw [Fintype.card_fin]
  norm_num

/-- A row whose 16 candidates stand in order, with just 16 distances up to the last of them, has them as its 16 nearest. -/
theorem places_of_check {D : Dist} (hD : ∀ y, (D y : EReal) ≠ ⊤) {m : Fin 16 → FVec Ideal S256x1 .f32} {c : Fin 16 → IVec S256x1 32}
    (hp : ∀ t, Pair (n := 1) D (m t) (c t)) (r : Fin 256) (hb : ∀ t : Fin 15, below (m t.castSucc) (c t.castSucc) (m t.succ) (c t.succ) (ix2 r 0) = 1#1)
    (hn : marked (cmpf .ole D (broadcastTo S256x8192 (m 15) broadcasts_S256x1_S256x8192)) (ix2 r 0) = 16#32) :
    Places (fun j => D (ix2 r j)) fun t => c t (ix2 r 0) := by
  refine places_of_count (m := fun t => m t (ix2 r 0)) (fun j => hD _) (fun t => ?_) (fun t => below_iff.1 (hb t)) ?_
  · rcases (hp t).get (ix2 r 0) with ⟨j, h, h'⟩ | ⟨h, h'⟩
    · exact .inl ⟨j, h, h'⟩
    · exact .inr ⟨h, h'.trans inf_eq⟩
  · rw [← marked_apply, hn]; rfl

/-- What the check lets through. -/
theorem check_ok {n : IVec S256x1 32} {o : IVec S256x1 1}
    (h : ¬ Scalar.cmpi .ne (Scalar.extui (Scalar.ori (Scalar.cmpf .ogt (some1 (cmpi .ne n (broadcast S256x1 16#32))) (Scalar.ofBits .f32 0x00000000#32))
      (Scalar.cmpf .ogt (some1 (xori o (constantI S256x1 1 1#1))) (Scalar.ofBits .f32 0x00000000#32)))) 0#32 = 1#1) (r : Fin 256) :
    n (ix2 r 0) = 16#32 ∧ o (ix2 r 0) = 1#1 := by
  have hp : ∀ b, (∃ r, b (ix2 r 0) = 1#1) → Scalar.cmpf .ogt (some1 b) (Scalar.ofBits (F := Ideal) .f32 0x00000000#32) = 1#1 := by
    rintro b ⟨r, h⟩
    rw [zero_eq]
    show BitVec.ofBool (decide ((0 : EReal) < some1 b)) = 1#1
    rw [decide_eq_true (some1_pos h)]; rfl
  constructor
  · by_contra e
    refine h ?_
    rw [hp (cmpi .ne n (broadcast S256x1 16#32)) ⟨r, ?_⟩]
    · generalize Scalar.cmpf (F := Ideal) (φ := .f32) .ogt _ _ = q; revert q; decide
    · show BitVec.ofBool (n (ix2 r 0) != 16#32) = 1#1
      rw [bne_iff_ne.2 e]; rfl
  · by_contra e
    refine h ?_
    rw [hp (xori o (constantI S256x1 1 1#1)) ⟨r, ?_⟩]
    · generalize Scalar.cmpf (F := Ideal) (φ := .f32) .ogt _ _ = q; revert q; decide
    · show o (ix2 r 0) ^^^ 1#1 = 1#1
      generalize o (ix2 r 0) = q at e; revert q; decide

/-- A block of indices read at a row and a place. -/
theorem sideBySide_apply (c : Fin 16 → IVec S256x1 32) (r : Fin 256) (t : Fin 16) :
    sideBySide (c 0) (c 1) (c 2) (c 3) (c 4) (c 5) (c 6) (c 7) (c 8) (c 9) (c 10) (c 11) (c 12) (c 13) (c 14) (c 15) (ix3 0 r t)
      = c t (ix2 r 0) := by
  unfold sideBySide
  refine (shapeCast_ab_1ab_apply _ _ _ _ _).trans ?_
  exact concatenate_ofFn_unit_apply (t := S256x16) 1 c concatenates_S256x1_S256x1_S256x1_S256x1_S256x1_S256x1_S256x1_S256x1_S256x1_S256x1_S256x1_S256x1_S256x1_S256x1_S256x1_S256x1_S256x16_d1
    rfl rfl (ix2 r t) t rfl (ix2 r 0) fun b hb => match b with
      | ⟨0, _⟩ => rfl
      | ⟨1, _⟩ => absurd rfl hb
end Cert.Proof.SearchIdeal

end
-- ==== Proof.SearchIdeal.Slow.lean ====
/-
  The rounds of a tile that fails the check: each picks the first place of the least value left in each row and strikes it out.
-/
module

public import proofs.«01_k».proof.Proof.SearchIdeal.Check

@[expose] public section

noncomputable section

namespace Cert.Proof.SearchIdeal

open Cert.SearchIdeal Cert.SearchIdeal.Gen

open Idealize.ShloMosaic
open Idealize.ShloMosaic.TcCoe
open Idealize.SL.Sem

open Idealize.ShloMosaic.ValueIdx hiding ix0 ix1 ix2 ix3 ix4 eq_ix1 eq_ix2 eq_ix3 eq_ix4

variable {V : Env Ideal} {s : St Ideal}

/-- The indices of the points, for every row. -/
abbrev everyIx : IVec S256x8192 32 := broadcastTo S256x8192 (shapeCast S1x8192 ix shapeCasts_S1x8192_S1x8192) broadcasts_S1x8192_S256x8192

/-- The first place of the least value of each row. -/
def pick (E : Dist) : IVec S256x1 32 := where_ E everyIx reduces_S256x8192_S256 broadcasts_S256x1_S256x8192

/-- A row's values with infinity at a place. -/
def strike (E : Dist) (p : IVec S256x1 32) : Dist :=
  shapeCast S256x8192 (select (cmpi .eq (broadcastTo S256x8192 ix broadcasts_S1x8192_S256x8192) (broadcastTo S256x8192 p broadcasts_S256x1_S256x8192))
    (broadcast S256x8192 (Scalar.ofBits .f32 0x7F800000#32)) E) shapeCasts_S256x8192_S256x8192

/-- A row's values with the picked place struck out. -/
def rest (E : Dist) : Dist := strike E (pick E)

/-- The values after some rounds. -/
def left (D : Dist) : ℕ → Dist
  | 0 => D
  | t + 1 => rest (left D t)

/-- The index a round picks. -/
def picked (D : Dist) (t : ℕ) : IVec S256x1 32 := pick (left D t)

theorem load5_then {β : Type} {hl} {k : Vec Ideal S256x8192 .f32 → Prog (TpuEff nD τ sig (Elt Ideal) Λ₀ .tc) β} {P : β → St Ideal → Prop}
    (h : Runs V s (k s.2) P) :
    Runs V s (Prog.lift (.load V.a5 (Rect.unit (s := S256x8192) ![0, 0] S256x8192.size inb_S256x8192_S256x8192_0_0).toLoadRect hl) >>= k) P := by
  refine runs_bind (P := fun a s' => a = s.2 ∧ s' = s) (runs_load5 _ _ ⟨View.ld_unit_zero (funext fun a => by fin_cases a <;> rfl) _ _, rfl⟩) ?_
  rintro _ _ ⟨rfl, rfl⟩
  exact h

theorem store5_then {β : Type} {v v' : Dist} {hx hm} {k : PUnit → Prog (TpuEff nD τ sig (Elt Ideal) Λ₀ .tc) β} {P : β → St Ideal → Prop}
    (e : v = v') (h : Runs V (s.1, v') (k ⟨⟩) P) :
    Runs V s (Prog.lift (.store V.a5 (Rect.unit (s := S256x8192) ![0, 0] S256x8192.size inb_S256x8192_S256x8192_0_0) v Finset.univ hx hm) >>= k) P := by
  subst e
  refine runs_bind (P := fun _ s' => s' = (s.1, v)) (runs_store5 rfl) ?_
  rintro _ _ rfl
  exact h

variable {w : Vec Ideal S1x256x16 .i32} {E : Dist}

/-- The least value of each row, and where it lies. -/
abbrev leastAt (E : Dist) : FVec Ideal S256x1 .f32 := least E reduces_S256x8192_S256
abbrev markAt (E : Dist) : IVec S256x8192 1 :=
  cmpf .oeq E (broadcastTo S256x8192 (leastAt E) broadcasts_S256x1_S256x8192)

abbrev inf : Ideal .f32 := Scalar.ofBits .f32 0x7F800000#32

set_option maxHeartbeats 4000000

theorem part1 : Runs V (w, E) (k0_part1 V.i V.a2 V.h2 V.a3 V.h3 V.a4 V.h4 V.a5 V.h5 ix inf) fun a s' =>
    s' = (w, rest (rest E)) ∧ a.1 = pick E ∧ a.2.1 = pick (rest E) ∧ a.2.2.1 = (rest (rest E)) ∧ a.2.2.2 = leastAt (rest (rest E)) := by
  obtain ⟨E1, h1⟩ : ∃ E', rest E = E' := ⟨_, rfl⟩
  obtain ⟨E2, h2⟩ : ∃ E', rest E1 = E' := ⟨_, rfl⟩
  simp only [h1, h2]
  rw [k0_part1_eq_skeleton]; unfold k0_part1_skel
  refine load5_then ?_
  refine load5_then ?_
  refine store5_then (v' := E1) h1 ?_
  refine load5_then ?_
  refine load5_then ?_
  refine store5_then (v' := E2) h2 ?_
  refine load5_then ?_
  refine runs_pure ?_
  dsimp only
  exact ⟨rfl, rfl, rfl, rfl, rfl⟩

theorem part2 : Runs V (w, E) (k0_part2 V.i V.a2 V.h2 V.a3 V.h3 V.a4 V.h4 V.a5 V.h5 ix inf E (leastAt E)) fun a s' =>
    s' = (w, rest (rest E)) ∧ a.1 = pick E ∧ a.2.1 = pick (rest E) ∧ a.2.2.1 = (rest (rest E)) ∧ a.2.2.2.1 = markAt (rest (rest E)) ∧ a.2.2.2.2.1 = everyIx
      ∧ a.2.2.2.2.2 = broadcast S256x8192 8192#32 := by
  obtain ⟨E1, h1⟩ : ∃ E', rest E = E' := ⟨_, rfl⟩
  obtain ⟨E2, h2⟩ : ∃ E', rest E1 = E' := ⟨_, rfl⟩
  simp only [h1, h2]
  rw [k0_part2_eq_skeleton]; unfold k0_part2_skel
  refine load5_then ?_
  refine store5_then (v' := E1) h1 ?_
  refine load5_then ?_
  refine load5_then ?_
  refine store5_then (v' := E2) h2 ?_
  refine load5_then ?_
  refine runs_pure ?_
  dsimp only
  exact ⟨rfl, rfl, rfl, rfl, rfl, rfl, rfl⟩

theorem part3 : Runs V (w, E) (k0_part3 V.i V.a2 V.h2 V.a3 V.h3 V.a4 V.h4 V.a5 V.h5 ix inf E (markAt E) everyIx (broadcast S256x8192 8192#32))
    fun a s' => s' = (w, rest (rest E)) ∧ a.1 = pick E ∧ a.2.1 = pick (rest E) ∧ a.2.2.1 = (rest (rest E)) ∧ a.2.2.2.1 = pick (rest (rest E))
      ∧ a.2.2.2.2.1 = broadcastTo S256x8192 ix broadcasts_S1x8192_S256x8192
      ∧ a.2.2.2.2.2 = broadcastTo S256x8192 (pick (rest (rest E))) broadcasts_S256x1_S256x8192 := by
  obtain ⟨E1, h1⟩ : ∃ E', rest E = E' := ⟨_, rfl⟩
  obtain ⟨E2, h2⟩ : ∃ E', rest E1 = E' := ⟨_, rfl⟩
  simp only [h1, h2]
  rw [k0_part3_eq_skeleton]; unfold k0_part3_skel
  refine load5_then ?_
  refine store5_then (v' := E1) h1 ?_
  refine load5_then ?_
  refine load5_then ?_
  refine store5_then (v' := E2) h2 ?_
  refine load5_then ?_
  refine runs_pure ?_
  dsimp only
  exact ⟨rfl, rfl, rfl, rfl, rfl, rfl, rfl⟩

theorem part4 : Runs V (w, E) (k0_part4 V.i V.a2 V.h2 V.a3 V.h3 V.a4 V.h4 V.a5 V.h5 ix inf E
      (broadcastTo S256x8192 ix broadcasts_S1x8192_S256x8192) (broadcastTo S256x8192 (pick E) broadcasts_S256x1_S256x8192))
    fun a s' => s' = (w, rest (rest E)) ∧ a.1 = pick (rest E) ∧ a.2.1 = pick (rest (rest E))
      ∧ shapeCast S256x8192 a.2.2.1 shapeCasts_S256x8192_S256x8192 = (rest (rest (rest E))) := by
  obtain ⟨E1, h1⟩ : ∃ E', rest E = E' := ⟨_, rfl⟩
  obtain ⟨E2, h2⟩ : ∃ E', rest E1 = E' := ⟨_, rfl⟩
  obtain ⟨E3, h3⟩ : ∃ E', rest E2 = E' := ⟨_, rfl⟩
  simp only [h1, h2, h3]
  rw [k0_part4_eq_skeleton]; unfold k0_part4_skel
  refine load5_then ?_
  refine store5_then (v' := E1) h1 ?_
  refine load5_then ?_
  refine load5_then ?_
  refine store5_then (v' := E2) h2 ?_
  refine load5_then ?_
  refine load5_then ?_
  refine runs_pure ?_
  dsimp only
  exact ⟨rfl, rfl, rfl, h3⟩

theorem part5 {v x} (h : shapeCast S256x8192 v shapeCasts_S256x8192_S256x8192 = (rest E)) :
    Runs V (w, E) (k0_part5 V.i V.a2 V.h2 V.a3 V.h3 V.a4 V.h4 V.a5 V.h5 ix inf v x)
    fun a s' => s' = (w, rest (rest (rest E))) ∧ a.1 = pick (rest E) ∧ a.2.1 = pick (rest (rest E)) ∧ a.2.2 = (rest (rest (rest E))) := by
  obtain ⟨E1, h1⟩ : ∃ E', rest E = E' := ⟨_, rfl⟩
  obtain ⟨E2, h2⟩ : ∃ E', rest E1 = E' := ⟨_, rfl⟩
  obtain ⟨E3, h3⟩ : ∃ E', rest E2 = E' := ⟨_, rfl⟩
  simp only [h1, h2, h3] at h ⊢
  rw [k0_part5_eq_skeleton]; unfold k0_part5_skel
  refine store5_then h ?_
  refine load5_then ?_
  refine load5_then ?_
  refine store5_then (v' := E2) h2 ?_
  refine load5_then ?_
  refine load5_then ?_
  refine store5_then (v' := E3) h3 ?_
  refine load5_then ?_
  refine runs_pure ?_
  dsimp only
  exact ⟨rfl, rfl, rfl, rfl⟩

theorem part6 : Runs V (w, E) (k0_part6 V.i V.a2 V.h2 V.a3 V.h3 V.a4 V.h4 V.a5 V.h5 ix inf E)
    fun a s' => s' = (w, rest (rest E)) ∧ a.1 = pick E ∧ a.2.1 = pick (rest E) ∧ a.2.2.1 = (rest (rest E)) ∧ a.2.2.2.1 = markAt (rest (rest E)) ∧ a.2.2.2.2 = 8192#32 := by
  obtain ⟨E1, h1⟩ : ∃ E', rest E = E' := ⟨_, rfl⟩
  obtain ⟨E2, h2⟩ : ∃ E', rest E1 = E' := ⟨_, rfl⟩
  simp only [h1, h2]
  rw [k0_part6_eq_skeleton]; unfold k0_part6_skel
  refine load5_then ?_
  refine store5_then (v' := E1) h1 ?_
  refine load5_then ?_
  refine load5_then ?_
  refine store5_then (v' := E2) h2 ?_
  refine load5_then ?_
  refine runs_pure ?_
  dsimp only
  exact ⟨rfl, rfl, rfl, rfl, rfl, rfl⟩

theorem part7 : Runs V (w, E) (k0_part7 V.i V.a2 V.h2 V.a3 V.h3 V.a4 V.h4 V.a5 V.h5 ix inf E (markAt E) 8192#32)
    fun a s' => s' = (w, rest (rest E)) ∧ a.1 = pick E ∧ a.2.1 = pick (rest E) ∧ a.2.2.1 = (rest (rest E))
      ∧ shapeCast S256x1 a.2.2.2 shapeCasts_S256_S256x1 = pick (rest (rest E)) := by
  obtain ⟨E1, h1⟩ : ∃ E', rest E = E' := ⟨_, rfl⟩
  obtain ⟨E2, h2⟩ : ∃ E', rest E1 = E' := ⟨_, rfl⟩
  simp only [h1, h2]
  rw [k0_part7_eq_skeleton]; unfold k0_part7_skel
  refine load5_then ?_
  refine store5_then (v' := E1) h1 ?_
  refine load5_then ?_
  refine load5_then ?_
  refine store5_then (v' := E2) h2 ?_
  refine load5_then ?_
  refine runs_pure ?_
  dsimp only
  exact ⟨rfl, rfl, rfl, rfl, rfl⟩
end Cert.Proof.SearchIdeal

end
-- ==== Proof.SearchIdeal.Rounds.lean ====
/-
  Sixteen rounds of picking the first place of the least value and striking it out find the 16 nearest of a row, nearest first.
-/
module

public import proofs.«01_k».proof.Proof.SearchIdeal.Slow

@[expose] public section

noncomputable section

namespace Cert.Proof.SearchIdeal

open Cert.SearchIdeal Cert.SearchIdeal.Gen

open Idealize.ShloMosaic
open Idealize.ShloMosaic.TcCoe
open Idealize.SL.Sem

open Idealize.ShloMosaic.ValueIdx hiding ix0 ix1 ix2 ix3 ix4 eq_ix1 eq_ix2 eq_ix3 eq_ix4

/-- The number of the place, for every row. -/
theorem ix_apply (r : Fin 256) (j : Fin 8192) : broadcastTo S256x8192 ix broadcasts_S1x8192_S256x8192 (ix2 r j) = BitVec.ofNat 32 j.val := by
  refine (broadcastTo_1b_ab_apply ix _ r j).trans ?_
  rw [ix, iota_single_apply]

theorem everyIx_apply (r : Fin 256) (j : Fin 8192) : everyIx (ix2 r j) = BitVec.ofNat 32 j.val := by
  rw [everyIx, shapeCast_self]
  exact ix_apply r j

theorem place_inj {a b : Fin 8192} (h : BitVec.ofNat 32 a.val = BitVec.ofNat 32 b.val) : a = b := by
  have e := congrArg BitVec.toInt h
  rw [toInt_place, toInt_place] at e
  exact Fin.ext (by exact_mod_cast e)

theorem strike_apply (E : Dist) (p : IVec S256x1 32) (r : Fin 256) (j : Fin 8192) :
    (strike E p (ix2 r j) : EReal) = if BitVec.ofNat 32 j.val = p (ix2 r 0) then ⊤ else E (ix2 r j) := by
  unfold strike
  rw [shapeCast_self]
  have h1 := ix_apply r j
  have h2 := column_apply p broadcasts_S256x1_S256x8192 r j
  show Scalar.select (IntOp.cmpi .eq (broadcastTo S256x8192 ix broadcasts_S1x8192_S256x8192 (ix2 r j))
    (broadcastTo (Rows 8192) p broadcasts_S256x1_S256x8192 (ix2 r j))) (Scalar.ofBits (F := Ideal) .f32 0x7F800000#32) (E (ix2 r j)) = _
  rw [h1, h2]
  by_cases e : BitVec.ofNat 32 j.val = p (ix2 r 0)
  · rw [if_pos e, e, ← inf_eq]
    show (if BitVec.ofBool (p (ix2 r 0) == p (ix2 r 0)) = 1#1 then _ else _) = _
    rw [beq_self_eq_true]; rfl
  · rw [if_neg e]
    show (if BitVec.ofBool (BitVec.ofNat 32 j.val == p (ix2 r 0)) = 1#1 then _ else _) = _
    rw [beq_eq_false_iff_ne.2 e]; rfl

/-- One round, at a row: the place picked is the first of the least values, and what is left has infinity there. -/
theorem round_row (E : Dist) (r : Fin 256) : ∃ p : Fin 8192, pick E (ix2 r 0) = BitVec.ofNat 32 p.val
    ∧ (∀ j, key (fun j => (E (ix2 r j) : EReal)) p ≤ key (fun j => (E (ix2 r j) : EReal)) j)
    ∧ ∀ j, (rest E (ix2 r j) : EReal) = if j = p then ⊤ else E (ix2 r j) := by
  obtain ⟨p, -, h2, h3, h4⟩ := where_spec (v := E) (i := everyIx) (by norm_num) (fun y => by
    have h : (y 1).val < 8192 := (y 1).isLt
    refine le_of_eq_of_le ((congrArg BitVec.toInt ((congrArg everyIx (eq_ix2 y)).trans (everyIx_apply (y 0) (y 1)))).trans (toInt_place (y 1))) ?_
    exact_mod_cast h.le) reduces_S256x8192_S256 broadcasts_S256x1_S256x8192 r 0
  rw [everyIx_apply] at h2
  have h2' : pick E (ix2 r 0) = BitVec.ofNat 32 p.val := h2
  refine ⟨p, h2, fun j => ?_, fun j => ?_⟩
  · refine Prod.Lex.toLex_le_toLex.2 ?_
    rcases (h3 j).lt_or_eq with h | h
    · exact .inl h
    · refine .inr ⟨h, ?_⟩
      have h5 := h4 j h.symm
      rw [everyIx_apply, everyIx_apply, toInt_place, toInt_place] at h5
      exact Fin.le_def.2 (by exact_mod_cast h5)
  · rw [rest, strike_apply, h2']
    by_cases e : j = p
    · rw [if_pos e, if_pos (by rw [e])]
    · rw [if_neg e, if_neg fun h => e (place_inj h)]

/-- Sixteen rounds pick the 16 nearest of each row, nearest first. -/
theorem picked_places {D : Dist} (hD : ∀ y, (D y : EReal) ≠ ⊤) (r : Fin 256) :
    Places (fun j => D (ix2 r j)) fun t => picked D t.val (ix2 r 0) := by
  choose p h1 h2 h3 using fun t => round_row (left D t) r
  have hl : ∀ t j, (left D t (ix2 r j) : EReal) = if ∃ s < t, p s = j then ⊤ else D (ix2 r j) := by
    intro t
    induction t with
    | zero => intro j; rw [if_neg (by rintro ⟨s, h, -⟩; omega)]; rfl
    | succ t ih =>
      intro j
      refine (h3 t j).trans ?_
      rw [ih]
      by_cases e : j = p t
      · rw [if_pos e, if_pos ⟨t, by omega, e.symm⟩]
      · rw [if_neg e]
        by_cases e' : ∃ s < t, p s = j
        · obtain ⟨s, hs, hj⟩ := e'
          rw [if_pos ⟨s, hs, hj⟩, if_pos ⟨s, by omega, hj⟩]
        · rw [if_neg e', if_neg]
          rintro ⟨s, hs, hj⟩
          rcases Nat.lt_succ_iff_lt_or_eq.1 hs with h | h
          · exact e' ⟨s, h, hj⟩
          · exact e (h ▸ hj.symm)
  have hfree : ∀ t < 16, ∃ j, ∀ s < t, p s ≠ j := by
    intro t ht
    by_contra h
    push Not at h
    have hc := Finset.card_le_card (s := (Finset.univ : Finset (Fin 8192))) (t := (Finset.range t).image p) fun j _ => by
      obtain ⟨s, hs, e⟩ := h j
      exact Finset.mem_image.2 ⟨s, Finset.mem_range.2 hs, e⟩
    have := hc.trans Finset.card_image_le
    rw [Finset.card_univ, Fintype.card_fin, Finset.card_range] at this
    omega
  have hnew : ∀ t < 16, ∀ s < t, p s ≠ p t := by
    intro t ht s hs e
    obtain ⟨j, hj⟩ := hfree t ht
    have a := hl t (p t)
    rw [if_pos ⟨s, hs, e⟩] at a
    have b := hl t j
    rw [if_neg (by rintro ⟨s, hs, e⟩; exact hj s hs e)] at b
    have c : (left D t (ix2 r (p t)) : EReal) ≤ left D t (ix2 r j) := by
      rcases Prod.Lex.toLex_le_toLex.1 (h2 t j) with h | h
      · exact h.le
      · exact h.1.le
    rw [a, b] at c
    exact hD _ (top_le_iff.1 c)
  refine ⟨fun t => p t.val, fun t => h1 t.val, Nearest.of_next (fun t s hs => hnew t.val t.isLt s.val hs) fun t j hj => ?_⟩
  have a := hl t.val (p t.val)
  rw [if_neg (by rintro ⟨s, hs, e⟩; exact hnew t.val t.isLt s hs e)] at a
  have b := hl t.val j
  rw [if_neg (by rintro ⟨s, hs, e⟩; exact hj ⟨s, by omega⟩ hs e)] at b
  have c := h2 t.val j
  unfold key at c ⊢
  dsimp only at c ⊢
  rw [a, b] at c
  exact c
end Cert.Proof.SearchIdeal

end
-- ==== Proof.SearchIdeal.Whole.lean ====
/-
  The body of the search: the block it leaves names the 16 nearest of each row of its distances.
-/
module

public import proofs.«01_k».proof.Proof.SearchIdeal.Rounds

@[expose] public section

noncomputable section

namespace Cert.Proof.SearchIdeal

open Cert.SearchIdeal Cert.SearchIdeal.Gen

open Idealize.ShloMosaic
open Idealize.ShloMosaic.TcCoe
open Idealize.SL.Sem

open Idealize.ShloMosaic.ValueIdx hiding ix0 ix1 ix2 ix3 ix4 eq_ix1 eq_ix2 eq_ix3 eq_ix4

variable {V : Env Ideal} {s : St Ideal} {w : Vec Ideal S1x256x16 .i32} {D : Dist}

/-- A block of indices names the 16 nearest of each row, nearest first, if every distance is finite. -/
def Found (D : Dist) (X : Vec Ideal S1x256x16 .i32) : Prop :=
  (∀ y, (D y : EReal) ≠ ⊤) → ∀ r, Places (fun j => D (ix2 r j)) fun t => X (ix3 0 r t)

theorem found_check {m : Fin 16 → FVec Ideal S256x1 .f32} {c : Fin 16 → IVec S256x1 32} (hp : ∀ t, Pair (n := 1) D (m t) (c t))
    (hb : ∀ r, ∀ t : Fin 15, below (m t.castSucc) (c t.castSucc) (m t.succ) (c t.succ) (ix2 r 0) = 1#1)
    (hn : ∀ r, marked (cmpf .ole D (broadcastTo S256x8192 (m 15) broadcasts_S256x1_S256x8192)) (ix2 r 0) = 16#32) :
    Found D (sideBySide (c 0) (c 1) (c 2) (c 3) (c 4) (c 5) (c 6) (c 7) (c 8) (c 9) (c 10) (c 11) (c 12) (c 13) (c 14) (c 15)) := fun hD r => by
  rw [show (fun t => sideBySide (c 0) (c 1) (c 2) (c 3) (c 4) (c 5) (c 6) (c 7) (c 8) (c 9) (c 10) (c 11) (c 12) (c 13) (c 14) (c 15) (ix3 0 r t))
    = fun t => c t (ix2 r 0) from funext fun t => sideBySide_apply c r t]
  exact places_of_check hD hp r (hb r) (hn r)

theorem found_rounds {c0 c1 c2 c3 c4 c5 c6 c7 c8 c9 c10 c11 c12 c13 c14 c15 : IVec S256x1 32} (h : ![c0, c1, c2, c3, c4, c5, c6, c7, c8, c9, c10, c11, c12, c13,
    c14, c15] = fun t : Fin 16 => picked D t.val) : Found D (sideBySide c0 c1 c2 c3 c4 c5 c6 c7 c8 c9 c10 c11 c12 c13 c14 c15) := fun hD r => by
  refine Eq.mp (congrArg (Places _) (funext fun t => ?_)) (picked_places hD r)
  refine (congrFun (congrFun h t).symm (ix2 r 0)).trans (sideBySide_apply ![c0, c1, c2, c3, c4, c5, c6, c7, c8, c9, c10, c11, c12, c13, c14, c15] r t).symm

theorem left_next (t : ℕ) : rest (left D t) = left D (t + 1) := rfl
theorem pick_left (t : ℕ) : pick (left D t) = picked D t := rfl

attribute [local irreducible] picked

set_option maxHeartbeats 4000000

/-- The body leaves in its third window a block that names the 16 nearest of each row of the distances of its two others. -/
theorem body : Runs V s (cc0__knn_kernel V.i V.a2 V.h2 V.a3 V.h3 V.a4 V.h4 V.a5 V.h5) fun _ s' => Found (dist V.x2 V.x3) s'.1 := by
  rw [cc0__knn_kernel_eq_skeleton]; unfold cc0__knn_kernel_skel
  with_reducible refine runs_bind part8 ?_
  rintro ⟨v32, v33, v34, v35, v36, v38, v39⟩ s' h; dsimp only at h ⊢
  obtain ⟨hs, rfl, h1, rfl, rfl, h2, rfl⟩ := h
  obtain rfl : s' = _ := hs
  with_reducible refine runs_bind (part9 h1 h2) ?_
  clear h1 h2
  rintro ⟨v78, v81, v87, v88, v92, v93, v94⟩ s' h; dsimp only at h ⊢
  obtain ⟨hs, h1, h2, h3, h4⟩ := h
  obtain rfl : s' = _ := hs
  with_reducible refine runs_bind (part10 h1 h2 h3 h4) ?_
  clear h1 h2 h3 h4
  rintro ⟨v127, v128, v132, v133, v138, v141, v142, v145, v146, v147⟩ s' h; dsimp only at h ⊢
  obtain ⟨hs, h1, h2, h3, h4, h5, h6⟩ := h
  obtain rfl : s' = _ := hs
  with_reducible refine runs_bind (part11 h1 h2 h3 h4 h5 h6) ?_
  clear h1 h2 h3 h4 h5 h6
  rintro ⟨v178, v181, v187, v188, v192, v193, v194, v196, v197, v198⟩ s' h; dsimp only at h ⊢
  obtain ⟨hs, h1, h2, h3, h4, rfl, h5, h6⟩ := h
  obtain rfl : s' = _ := hs
  with_reducible refine runs_bind (part12 h1 h2 h3 h4 h5 h6) ?_
  clear h1 h2 h3 h4 h5 h6
  rintro ⟨v233, v238, v241, v247, v248, v250, v251, v252⟩ s' h; dsimp only at h ⊢
  obtain ⟨hs, h1, h2, h3, h4⟩ := h
  obtain rfl : s' = _ := hs
  with_reducible refine runs_bind (part13 h1 h2 h3 h4) ?_
  clear h1 h2 h3 h4
  rintro ⟨v281, v287, v288, v292, v293, v297, v298, v301, v302, v303⟩ s' h; dsimp only at h ⊢
  obtain ⟨hs, h1, h2, h3, h4, h5, rfl⟩ := h
  obtain rfl : s' = _ := hs
  with_reducible refine runs_bind (part14 h1 h2 h3 h4 h5) ?_
  clear h1 h2 h3 h4 h5
  rintro ⟨v338, v341, v347, v348, v352, v353, v354, v355, v356, v357⟩ s' h; dsimp only at h ⊢
  obtain ⟨hs, h1, h2, h3, h4, h5⟩ := h
  obtain rfl : s' = _ := hs
  with_reducible refine runs_bind (part15 h1 h2 h3 h4 h5) ?_
  clear h1 h2 h3 h4 h5
  rintro ⟨v379, v380, v392, v393, v397, v398, v402, v403, v405, v406, v407, v408, v410, v411, v412, v413, v415, v416, v417⟩ s' h; dsimp only at h ⊢
  obtain ⟨hs, h1, h2, h3, h4, h5, h6, h7, h8, h9⟩ := h
  obtain rfl : s' = _ := hs
  with_reducible refine runs_bind (part16 h1 h2 h3 h4 h5 h6 h7 h8 h9) ?_
  clear h1 h2 h3 h4 h5 h6 h7 h8 h9
  rintro ⟨v448, v452, v453, v460, v461, v463, v469, v471, v472, v473, v474⟩ s' h; dsimp only at h ⊢
  obtain ⟨hs, h1, h2, p0, h3, h4, h5⟩ := h
  obtain rfl : s' = _ := hs
  with_reducible refine runs_bind (part17 h1 h2 h3 h4 h5) ?_
  clear h1 h2 h3 h4 h5
  rintro ⟨v483, v489, v503, v509, v512, v513, v514, v515, v516, v517, v519, v521⟩ s' h; dsimp only at h ⊢
  obtain ⟨hs, p1, p2, h1, h2, h3, h4⟩ := h
  obtain rfl : s' = _ := hs
  with_reducible refine runs_bind (part18 h1 h2 h3 h4) ?_
  clear h1 h2 h3 h4
  rintro ⟨v523, v529, v543, v549, v552, v553, v554, v555, v556, v557, v559, v561, v563, v569⟩ s' h; dsimp only at h ⊢
  obtain ⟨hs, p3, p4, p5, h1, h2, h3, h4⟩ := h
  obtain rfl : s' = _ := hs
  with_reducible refine runs_bind (part19 h1 h2 h3 h4) ?_
  clear h1 h2 h3 h4
  rintro ⟨v583, v589, v599, v601, v603, v609, v611, v612, v613, v614, v615, v616, v617, v618⟩ s' h; dsimp only at h ⊢
  obtain ⟨hs, p6, h1, p7, h2, h3, h4, rfl⟩ := h
  obtain rfl : s' = _ := hs
  with_reducible refine runs_bind (part20 h1 h2 h3 h4) ?_
  clear h1 h2 h3 h4
  rintro ⟨v623, v629, v643, v649, v652, v653, v654, v655, v656, v657, v659, v661, v663, v665, c⟩ s' h; dsimp only at h ⊢
  obtain ⟨hs, p8, p9, h1, h2, h3, h4, rfl, rfl, rfl⟩ := h
  obtain rfl : s' = _ := hs
  with_reducible refine runs_bind (part21 h1 h2 h3 h4) ?_
  clear h1 h2 h3 h4
  rintro ⟨v669, v683, v689, v695, v696, v697, v699, v701, v703, v709, v711, v712, v713, v714⟩ s' h; dsimp only at h ⊢
  obtain ⟨hs, p10, p11, p12, h1, h2, h3, h4, h5⟩ := h
  obtain rfl : s' = _ := hs
  with_reducible refine runs_bind (part22 h1 h2 h3 h4 h5) ?_
  clear h1 h2 h3 h4 h5
  rintro ⟨v719, v725, v733, v739, v745, v751, v756, v759⟩ s' h; dsimp only at h ⊢
  obtain ⟨hs, p13, p14, p15, rfl, rfl⟩ := h
  obtain rfl : s' = _ := hs
  with_reducible refine runs_bind part23 ?_
  rintro ⟨v762, v815, v816, v817, v818⟩ s' h; dsimp only at h ⊢
  obtain ⟨hs, rfl, rfl, rfl, rfl, rfl⟩ := h
  obtain rfl : s' = _ := hs
  with_reducible refine runs_bind part24 ?_
  rintro ⟨v861, v869⟩ s' h; dsimp only at h ⊢
  have hs := h.1
  have ha := h.2.1
  have hb := h.2.2
  obtain rfl : s' = _ := hs
  split
  · clear ha hb
    generalize sideBySide v469 v489 v509 v529 v549 v569 v589 v609 v629 v649 v669 v689 v709 v725 v739 v751 = w
    have q1 := part1 (V := V) (w := w) (E := left (dist V.x2 V.x3) 0)
    have q2 := part2 (V := V) (w := w) (E := left (dist V.x2 V.x3) 2)
    have q3 := part3 (V := V) (w := w) (E := left (dist V.x2 V.x3) 4)
    have q4 := part4 (V := V) (w := w) (E := left (dist V.x2 V.x3) 6)
    have q6 := part6 (V := V) (w := w) (E := left (dist V.x2 V.x3) 11)
    have q7 := part7 (V := V) (w := w) (E := left (dist V.x2 V.x3) 13)
    simp only [left_next, pick_left, Nat.reduceAdd] at q1 q2 q3 q4 q6 q7
    change Runs V (w, left (dist V.x2 V.x3) 0) _ _
    with_reducible refine runs_bind q1 ?_
    rintro ⟨v884, v903, v912, v914⟩ s' h; dsimp only at h ⊢; obtain ⟨hs, rfl, rfl, rfl, rfl⟩ := h; obtain rfl : s' = _ := hs
    with_reducible refine runs_bind q2 ?_
    rintro ⟨v922, v941, v950, v954, v956, v957⟩ s' h; dsimp only at h ⊢; obtain ⟨hs, rfl, rfl, rfl, rfl, rfl, rfl⟩ := h; obtain rfl : s' = _ := hs
    with_reducible refine runs_bind q3 ?_
    rintro ⟨v960, v979, v988, v998, v999, v1000⟩ s' h; dsimp only at h ⊢; obtain ⟨hs, rfl, rfl, rfl, rfl, rfl, rfl⟩ := h; obtain rfl : s' = _ := hs
    with_reducible refine runs_bind q4 ?_
    rintro ⟨v1017, v1036, v1041, v1042⟩ s' h; dsimp only at h ⊢; obtain ⟨hs, rfl, rfl, h⟩ := h; obtain rfl : s' = _ := hs
    have q5 := part5 (V := V) (w := w) (E := left (dist V.x2 V.x3) 8) (v := v1041) (x := v1042) h
    simp only [left_next, pick_left, Nat.reduceAdd] at q5
    with_reducible refine runs_bind q5 ?_
    rintro ⟨v1055, v1074, v1083⟩ s' h; dsimp only at h ⊢; obtain ⟨hs, rfl, rfl, rfl⟩ := h; obtain rfl : s' = _ := hs
    with_reducible refine runs_bind q6 ?_
    rintro ⟨v1093, v1112, v1121, v1125, c⟩ s' h; dsimp only at h ⊢; obtain ⟨hs, rfl, rfl, rfl, rfl, rfl⟩ := h; obtain rfl : s' = _ := hs
    with_reducible refine runs_bind q7 ?_
    rintro ⟨v1131, v1150, v1159, v1168⟩ s' h; dsimp only at h ⊢; obtain ⟨hs, rfl, rfl, rfl, h⟩ := h; obtain rfl : s' = _ := hs
    refine load5_then ?_
    refine store5_then (v' := _) rfl ?_
    refine runs_bind (P := fun _ s' => s' = _) (runs_load4 _ _ rfl) ?_
    rintro _ _ rfl
    refine runs_store4 ?_
    exact found_rounds (by
      funext t
      fin_cases t
      exacts [rfl, rfl, rfl, rfl, rfl, rfl, rfl, rfl, rfl, rfl, rfl, rfl, rfl, rfl, rfl, h])
  · rename_i hc
    rw [ha, hb] at hc
    refine runs_pure ?_
    have ok := check_ok hc
    clear hc ha hb
    generalize least v652 reduces_S256x128_S256 = v663 at ok p10
    refine found_check (m := ![v463, v483, v503, v523, v543, v563, v583, v603, v623, v643, v663, v683, v703, v719, v733, v745])
      (c := ![v469, v489, v509, v529, v549, v569, v589, v609, v629, v649, v669, v689, v709, v725, v739, v751]) (fun t => ?_) (fun r t => ?_) fun r => (ok r).1
    · fin_cases t
      exacts [p0, p1, p2, p3, p4, p5, p6, p7, p8, p9, p10, p11, p12, p13, p14, p15]
    · have o := (ok r).2
      simp only [andi_iff, and_assoc] at o
      obtain ⟨o0, o1, o2, o3, o4, o5, o6, o7, o8, o9, o10, o11, o12, o13, o14⟩ := o
      fin_cases t
      exacts [o0, o1, o2, o3, o4, o5, o6, o7, o8, o9, o10, o11, o12, o13, o14]
end Cert.Proof.SearchIdeal

end
-- ==== Proof.SearchIdeal.Sorted.lean ====
/-
  The places that the reference's choice of the 16 greatest names: a stable sort, read by value and place.
-/
module

public import proofs.«01_k».proof.Proof.SearchIdeal.Order
public import proofs.«01_k».proof.Proof.Gen.NearestIdeal.Read
public import Idealize.ShloMosaic.Lib.SortFacts

@[expose] public section

noncomputable section

namespace Cert.Proof.SearchIdeal

open Cert.SearchIdeal Cert.SearchIdeal.Gen

open Idealize.ShloMosaic
open Idealize.ShloMosaic.TcCoe
open Idealize.SL.Sem

/-! ### A stable sort read by keys -/

theorem key_lt {n : ℕ} {f : Fin n → EReal} {a b : Fin n} : key f a < key f b ↔ f a < f b ∨ f a = f b ∧ a < b := Prod.Lex.toLex_lt_toLex

theorem insert_keys {n : ℕ} {f : Fin n → EReal} {before : Fin n → Fin n → Bool} (hb : ∀ a b, before a b = true ↔ f a < f b) (a : Fin n)
    (l : List (Fin n)) (hl : l.Pairwise fun b c => key f b < key f c) (ha : ∀ b ∈ l, a < b) :
    (insertBefore before a l).Pairwise fun b c => key f b < key f c := by
  induction l with
  | nil => exact List.pairwise_singleton _ _
  | cons b l ih =>
    rw [List.pairwise_cons] at hl
    unfold insertBefore
    split
    · rename_i h
      rw [List.pairwise_cons]
      refine ⟨fun c hc => ?_, ih hl.2 fun c hc => ha c (List.mem_cons_of_mem _ hc)⟩
      rcases List.mem_cons.1 ((perm_insertBefore before a l).mem_iff.1 hc) with e | e
      · rw [e]
        exact key_lt.2 (.inl ((hb b a).1 h))
      · exact hl.1 c e
    · rename_i h
      have hab : key f a < key f b := by
        rcases (not_lt.1 fun e => h ((hb b a).2 e) : f a ≤ f b).lt_or_eq with e | e
        · exact key_lt.2 (.inl e)
        · exact key_lt.2 (.inr ⟨e, ha b List.mem_cons_self⟩)
      rw [List.pairwise_cons]
      refine ⟨fun c hc => ?_, List.pairwise_cons.2 hl⟩
      rcases List.mem_cons.1 hc with e | e
      · rw [e]; exact hab
      · exact hab.trans (hl.1 c e)

theorem sort_keys {n : ℕ} {f : Fin n → EReal} {before : Fin n → Fin n → Bool} (hb : ∀ a b, before a b = true ↔ f a < f b)
    (l : List (Fin n)) (hl : l.Pairwise (· < ·)) : (stableSort before l).Pairwise fun b c => key f b < key f c := by
  induction l with
  | nil => exact List.Pairwise.nil
  | cons a l ih =>
    rw [List.pairwise_cons] at hl
    unfold stableSort
    exact insert_keys hb a _ (ih hl.2) fun b h => hl.1 b ((perm_stableSort before l).mem_iff.1 h)

/-- The places in the order of a stable sort increase by value and, among like values, by place. -/
theorem sortedFrom_keys {n : ℕ} {f : Fin n → EReal} {before : Fin n → Fin n → Bool} (hb : ∀ a b, before a b = true ↔ f a < f b) :
    StrictMono fun j => key f (sortedFrom before j) := fun i j hij => by
  have hp : ∀ a b : Fin (sortPositions n before).length, a < b →
      key f ((sortPositions n before).get a) < key f ((sortPositions n before).get b) := List.pairwise_iff_get.1 (sort_keys hb (List.finRange n) (List.pairwise_lt_finRange n))
  unfold sortedFrom
  exact hp _ _ (Fin.lt_def.2 (Fin.lt_def.1 hij))

/-! ### The reference's choice -/

abbrev Wide : Shape := Cert.NearestIdeal.S4x8192x8192
abbrev Few : Shape := Cert.NearestIdeal.S4x8192x16

theorem along_two (h : 2 < Wide.rank) (b : Fin 4) (q j k : Fin 8192) :
    Shape.Idx.along (s := Wide) (ix3 b q j) (⟨2, h⟩ : Fin Wide.rank) k = ix3 b q k := by
  funext a
  match a with
  | ⟨0, _⟩ => rfl
  | ⟨1, _⟩ => rfl
  | ⟨2, _⟩ => rfl

theorem sorted_word {n : ℕ} {B B' : Fin n → Fin n → Bool} (h : B = B') (i : Fin n) :
    BitVec.ofNat 32 (sortedFrom B i).val = BitVec.ofNat 32 (sortedFrom B' i).val := by rw [h]

theorem topK_at {α : Type} (gt : α → α → BitVec 1) (y : Wide.Idx → α) (h : Wide.Slices (fun _ => 0) Few) (b : Fin 4) (q : Fin 8192) (t : Fin 16) :
    (Host.topK Few 2 gt y h).2 (ix3 b q t)
      = BitVec.ofNat 32 (sortedFrom (fun k k' : Fin 8192 => gt (y (ix3 b q k)) (y (ix3 b q k')) == 1#1) (Fin.castLE (by norm_num) t)).val := by
  have hj : (fun a => ⟨0 + ((ix3 b q t : Few.Idx) (a.cast h.1.symm)).val,
      Nat.lt_of_lt_of_le (Nat.add_lt_add_left ((ix3 b q t : Few.Idx) _).isLt _) (h.2 a)⟩ : Wide.Idx) = ix3 b q (Fin.castLE (by norm_num) t) := by
    funext a
    match a with
    | ⟨0, _⟩ => exact Fin.ext (Nat.zero_add _)
    | ⟨1, _⟩ => exact Fin.ext (Nat.zero_add _)
    | ⟨2, _⟩ => exact Fin.ext (Nat.zero_add _)
  unfold Host.topK extractStridedSlice
  dsimp only
  refine (congrArg _ hj).trans ?_
  unfold Host.sort2
  rw [dif_pos (by decide : 2 < Wide.rank)]
  dsimp only
  rw [dif_pos (by decide : 2 < Wide.rank)]
  unfold iotaInDim
  refine (congrArg (fun i : Wide.Idx => BitVec.ofNat 32 (i ⟨2, by decide⟩).val) (along_two (by decide) b q _ _)).trans ?_
  refine sorted_word (n := 8192) ?_ _
  funext k k'
  exact congrArg₂ (fun u v => gt (y u) (y v) == 1#1) (along_two (by decide) b q _ _) (along_two (by decide) b q _ _)

/-- The 16 greatest of the negated values are at the 16 nearest places, nearest first. -/
theorem topK_places (x : FVec Ideal Wide .f32) (h : Wide.Slices (fun _ => 0) Few) (b : Fin 4) (q : Fin 8192) :
    Places (fun j => x (ix3 b q j)) fun t => (Host.topK Few 2 (FloatOps.cmpfTotal .gt) (Host.negf x) h).2 (ix3 b q t) := by
  have hb : ∀ k k' : Fin 8192, ((FloatOps.cmpfTotal (F := Ideal) (φ := .f32) .gt (Host.negf x (ix3 b q k)) (Host.negf x (ix3 b q k')) == 1#1) = true)
      ↔ (x (ix3 b q k) : EReal) < x (ix3 b q k') := fun k k' => by
    show (BitVec.ofBool (decide ((-(x (ix3 b q k') : EReal)) < -(x (ix3 b q k) : EReal))) == 1#1) = true ↔ _
    refine Iff.trans ?_ EReal.neg_lt_neg_iff
    by_cases e : (-(x (ix3 b q k') : EReal)) < -(x (ix3 b q k) : EReal)
    · simp [e]
    · simp [e]
  exact ⟨_, fun t => topK_at _ _ _ _ _ _, Nearest.of_sorted (by norm_num) (sortedFrom_keys hb)⟩

end Cert.Proof.SearchIdeal

end
-- ==== Proof.SearchIdeal.Distances.lean ====
/-
  The distances that the body computes are the reference's, and finite where the coordinates are.
-/
module

public import proofs.«01_k».proof.Proof.SearchIdeal.Merge
public import proofs.«01_k».proof.Proof.SearchIdeal.Sorted
public import proofs.«01_k».proof.Proof.Gen.NearestIdeal.Read
public import Idealize.ShloMosaic.Lib.MatmulPlain
public import Idealize.ShloMosaic.Lib.ValueLayout

@[expose] public section

noncomputable section

namespace Cert.Proof.SearchIdeal

open Cert.SearchIdeal Cert.SearchIdeal.Gen

open Idealize.ShloMosaic
open Idealize.ShloMosaic.TcCoe
open Idealize.SL.Sem

open Idealize.ShloMosaic.ValueIdx hiding ix0 ix1 ix2 ix3 ix4 eq_ix1 eq_ix2 eq_ix3 eq_ix4

/-- The square of a point's length, its three terms summed in order. -/
def square (a : Fin 3 → EReal) : EReal := a 0 * a 0 + a 1 * a 1 + a 2 * a 2

/-- The distance between two points as it is computed: the squares of their lengths less twice their product. -/
def apart (a c : Fin 3 → EReal) : EReal := square a + square c - Ideal.ofBits .f32 0x40000000#32 * ∑ k, a k * c k

/-! ### The body's distances -/

section Body

variable (x2 : Vec Ideal S1x256x3 .f32) (x3 : Vec Ideal S1x3x8192 .f32)

theorem row_coord (v : FVec Ideal S256x3 .f32) (o : ℕ) (ho : o < 3) (h : S256x3.Slices ![0, o] S256x1) (r : Fin 256) :
    extractStridedSlice S256x1 ![0, o] v h (ix2 r 0) = v (ix2 r ⟨o, ho⟩) :=
  extractStridedSlice_apply ![0, o] v h _ _ fun a => match a with
    | ⟨0, _⟩ => (Nat.zero_add _).symm
    | ⟨1, _⟩ => rfl

theorem column_coord (v : FVec Ideal S3x8192 .f32) (o : ℕ) (ho : o < 3) (h : S3x8192.Slices ![o, 0] S1x8192) (j : Fin 8192) :
    extractStridedSlice S1x8192 ![o, 0] v h (ix2 0 j) = v (ix2 ⟨o, ho⟩ j) :=
  extractStridedSlice_apply ![o, 0] v h _ _ fun a => match a with
    | ⟨0, _⟩ => rfl
    | ⟨1, _⟩ => (Nat.zero_add _).symm

theorem row_square (v : FVec Ideal S256x3 .f32) (h0 : S256x3.Slices ![0, 0] S256x1) (h1 : S256x3.Slices ![0, 1] S256x1)
    (h2 : S256x3.Slices ![0, 2] S256x1) (h : S256x1.Broadcasts S256x8192) (r : Fin 256) (j : Fin 8192) :
    broadcastTo S256x8192 (addf (addf (mulf (extractStridedSlice S256x1 ![0, 0] v h0) (extractStridedSlice S256x1 ![0, 0] v h0))
      (mulf (extractStridedSlice S256x1 ![0, 1] v h1) (extractStridedSlice S256x1 ![0, 1] v h1)))
      (mulf (extractStridedSlice S256x1 ![0, 2] v h2) (extractStridedSlice S256x1 ![0, 2] v h2))) h (ix2 r j) = square fun k => v (ix2 r k) := by
  refine (broadcastTo_apply _ h (ix2 r j) (ix2 r (0 : Fin 1)) fun a => match a with | ⟨0, _⟩ => rfl | ⟨1, _⟩ => rfl).trans ?_
  show extractStridedSlice S256x1 ![0, 0] v h0 (ix2 r 0) * extractStridedSlice S256x1 ![0, 0] v h0 (ix2 r 0)
    + extractStridedSlice S256x1 ![0, 1] v h1 (ix2 r 0) * extractStridedSlice S256x1 ![0, 1] v h1 (ix2 r 0)
    + extractStridedSlice S256x1 ![0, 2] v h2 (ix2 r 0) * extractStridedSlice S256x1 ![0, 2] v h2 (ix2 r 0) = _
  rw [row_coord v 0 (by decide), row_coord v 1 (by decide), row_coord v 2 (by decide)]
  rfl

theorem column_square (v : FVec Ideal S3x8192 .f32) (h0 : S3x8192.Slices ![0, 0] S1x8192) (h1 : S3x8192.Slices ![1, 0] S1x8192)
    (h2 : S3x8192.Slices ![2, 0] S1x8192) (h : S1x8192.Broadcasts S256x8192) (r : Fin 256) (j : Fin 8192) :
    broadcastTo S256x8192 (addf (addf (mulf (extractStridedSlice S1x8192 ![0, 0] v h0) (extractStridedSlice S1x8192 ![0, 0] v h0))
      (mulf (extractStridedSlice S1x8192 ![1, 0] v h1) (extractStridedSlice S1x8192 ![1, 0] v h1)))
      (mulf (extractStridedSlice S1x8192 ![2, 0] v h2) (extractStridedSlice S1x8192 ![2, 0] v h2))) h (ix2 r j) = square fun k => v (ix2 k j) := by
  refine (broadcastTo_apply _ h (ix2 r j) (ix2 (0 : Fin 1) j) fun a => match a with | ⟨0, _⟩ => rfl | ⟨1, _⟩ => rfl).trans ?_
  show extractStridedSlice S1x8192 ![0, 0] v h0 (ix2 0 j) * extractStridedSlice S1x8192 ![0, 0] v h0 (ix2 0 j)
    + extractStridedSlice S1x8192 ![1, 0] v h1 (ix2 0 j) * extractStridedSlice S1x8192 ![1, 0] v h1 (ix2 0 j)
    + extractStridedSlice S1x8192 ![2, 0] v h2 (ix2 0 j) * extractStridedSlice S1x8192 ![2, 0] v h2 (ix2 0 j) = _
  rw [column_coord v 0 (by decide), column_coord v 1 (by decide), column_coord v 2 (by decide)]
  rfl

theorem product (v : FVec Ideal S256x3 .f32) (w : FVec Ideal S3x8192 .f32) (r : Fin 256) (j : Fin 8192) :
    matmul dot_S256x3_S3x8192_S256x8192_1_0_0_1_n_n none (truncf .bf16 v bitsLt_bf16_f32) (truncf .bf16 w bitsLt_bf16_f32)
      (constant S256x8192 .f32 0x00000000#32) (ix2 r j) = ∑ k, v (ix2 r k) * w (ix2 k j) := by
  refine (Ideal.matmul_plain_apply none (truncf .bf16 v bitsLt_bf16_f32) (truncf .bf16 w bitsLt_bf16_f32) (constant S256x8192 .f32 0x00000000#32) r j).trans ?_
  rw [constant_apply, Ideal.ofBits_zero_f32, zero_add]
  rfl

theorem dist_apply (r : Fin 256) (j : Fin 8192) : dist x2 x3 (ix2 r j) = apart (fun k => x2 (ix3 0 r k)) fun k => x3 (ix3 0 k j) := by
  unfold dist k0_pay43
  rw [shapeCast_self]
  refine congrArg₂ (fun a b : EReal => a - b) (congrArg₂ (fun a b : EReal => a + b) ?_ ?_) (congrArg (Ideal.ofBits .f32 0x40000000#32 * ·) ?_)
  · refine (row_square _ _ _ _ _ r j).trans (congrArg square (funext fun k => ?_))
    exact shapeCast_1ab_ab_apply x2 shapeCasts_S1x256x3_S256x3 r k
  · refine (column_square _ _ _ _ _ r j).trans (congrArg square (funext fun k => ?_))
    exact shapeCast_1ab_ab_apply x3 shapeCasts_S1x3x8192_S3x8192 k j
  · refine (product _ _ r j).trans (Finset.sum_congr rfl fun k _ => ?_)
    exact congrArg₂ (fun a b : EReal => a * b) (shapeCast_1ab_ab_apply x2 shapeCasts_S1x256x3_S256x3 r k)
      (shapeCast_1ab_ab_apply x3 shapeCasts_S1x3x8192_S3x8192 k j)

end Body

/-! ### The reference's distances -/

open Cert.NearestIdeal.Read in
theorem apart_reference (x : FVec Ideal Cert.NearestIdeal.S4x8192x3 .f32) (b : Fin 4) (q j : Fin 8192) :
    val_main_v12 (F := Ideal) x (ix3 b q j) = apart (fun k => x (ix3 b q k)) fun k => x (ix3 b j k) := by
  have sq (z : EReal) (hz : z = 0) (a : Fin 3 → EReal) : z + ∑ k, a k * a k = square a := by rw [hz, zero_add, Fin.sum_univ_three]; rfl
  rw [val_main_v12_apply]
  refine congrArg₂ (fun a b : EReal => a - b) ?_ ?_
  · rw [val_main_v9_apply]
    refine congrArg₂ (fun a b : EReal => a + b) ?_ ?_
    · rw [val_main_v7_apply, val_main_v2_apply, val_main_v1_apply]
      refine (congrArg (_ + ·) (Finset.sum_congr rfl fun k _ => ?_)).trans (sq _ Ideal.ofBits_zero_f32 fun k => x (ix3 b q k))
      exact congrArg (fun i => x i * x i) (funext fun a => by match a with | ⟨0, _⟩ => rfl | ⟨1, _⟩ => rfl | ⟨2, _⟩ => rfl)
    · rw [val_main_v8_apply, val_main_v5_apply, val_main_v4_apply]
      refine (congrArg (_ + ·) (Finset.sum_congr rfl fun k _ => ?_)).trans (sq _ Ideal.ofBits_zero_f32 fun k => x (ix3 b j k))
      exact congrArg (fun i => x i * x i) (funext fun a => by match a with | ⟨0, _⟩ => rfl | ⟨1, _⟩ => rfl | ⟨2, _⟩ => rfl)
  · rw [val_main_v11_apply, val_main_v10_apply, val_main_cst_1_apply, val_main_v6_apply]
    refine congrArg (Ideal.ofBits .f32 0x40000000#32 * ·) (Finset.sum_congr rfl fun k _ => ?_)
    exact congrArg₂ (fun i j => x i * x j) (funext fun a => by match a with | ⟨0, _⟩ => rfl | ⟨1, _⟩ => rfl | ⟨2, _⟩ => rfl)
      (funext fun a => by match a with | ⟨0, _⟩ => rfl | ⟨1, _⟩ => rfl | ⟨2, _⟩ => rfl)

/-! ### They are finite where the coordinates are -/

theorem apart_finite {a c : Fin 3 → EReal} (ha : ∀ k, a k ≠ ⊤ ∧ a k ≠ ⊥) (hc : ∀ k, c k ≠ ⊤ ∧ c k ≠ ⊥) : apart a c ≠ ⊤ := by
  have e (a : Fin 3 → EReal) (ha : ∀ k, a k ≠ ⊤ ∧ a k ≠ ⊥) : ∃ u : Fin 3 → ℝ, a = fun k => (u k : EReal) :=
    ⟨fun k => (a k).toReal, funext fun k => (EReal.coe_toReal (ha k).1 (ha k).2).symm⟩
  obtain ⟨u, rfl⟩ := e a ha
  obtain ⟨v, rfl⟩ := e c hc
  obtain ⟨two, h2⟩ : ∃ z : ℝ, Ideal.ofBits .f32 0x40000000#32 = (z : EReal) := by
    refine ⟨2, ?_⟩
    simp [Ideal.ofBits, Ideal.ieee, -EReal.coe_mul]
    norm_num
  unfold apart square
  rw [h2, Fin.sum_univ_three]
  simp only [← EReal.coe_mul, ← EReal.coe_add, ← EReal.coe_sub]
  exact EReal.coe_ne_top _

end Cert.Proof.SearchIdeal

end
-- ==== Proof.SearchIdeal.Answer.lean ====
/-
  The whole result of the search is the reference's.
-/
module

public import proofs.«01_k».proof.Proof.SearchIdeal.Launch
public import proofs.«01_k».proof.Proof.SearchIdeal.Whole
public import proofs.«01_k».proof.Proof.SearchIdeal.Distances
public import Idealize.ShloMosaic.Lib.Pipeline.ValueKit.Geometry

@[expose] public section

noncomputable section

namespace Cert.Proof.SearchIdeal

open Cert.SearchIdeal Cert.SearchIdeal.Gen

open Idealize.ShloMosaic
open Idealize.ShloMosaic.TcCoe
open Idealize.SL.Sem

open Idealize.ShloMosaic.Pipeline (RDat)
open Idealize.ShloMosaic.ValueIdx hiding ix0 ix1 ix2 ix3 ix4 eq_ix1 eq_ix2 eq_ix3 eq_ix4

theorem Places.unique {f : Fin 8192 → EReal} {k k' : Fin 16 → BitVec 32} (h : Places f k) (h' : Places f k') : k = k' := by
  obtain ⟨p, hp, np⟩ := h
  obtain ⟨q, hq, nq⟩ := h'
  funext t
  rw [hp, hq, np.unique nq]

variable (m : (ℓ : Loc nD τ sig) → Buf (Elt Ideal) ℓ) (c : Dev nD)

/-- The points. -/
abbrev cloud : FVec Ideal S4x8192x3 .f32 := m ((c.tc : Thread nD τ).loc main_arg0)

/-- The neighbours as the reference computes them. -/
abbrev answer : IVec S4x8192x16 32 := Cert.NearestIdeal.Read.val_main_indices (F := Ideal) (cloud m c)

theorem answer_places (b : Fin 4) (q : Fin 8192) :
    Places (fun j => apart (fun k => cloud m c (ix3 b q k)) fun k => cloud m c (ix3 b j k)) fun t => answer m c (ix3 b q t) := by
  simp only [← apart_reference]
  exact topK_places _ _ b q

/-! ### Where the blocks of a point lie -/

theorem idx_rows (t : Fin cfg0.N) : win0_0.index t = ![t.val / 32, t.val % 32, 0] :=
  (by decide +kernel : ∀ t : Fin grid0.N, win0_0.index t = ![t.val / 32, t.val % 32, 0]) t
theorem idx_columns (t : Fin cfg0.N) : win0_1.index t = ![t.val / 32, 0, 0] :=
  (by decide +kernel : ∀ t : Fin grid0.N, win0_1.index t = ![t.val / 32, 0, 0]) t

variable (t : Fin cfg0.N)

theorem points_lt : t.val < 128 := t.isLt

def bat : Fin 4 := ⟨t.val / 32, by have := points_lt t; omega⟩
def place (r : Fin 256) : Fin 8192 := ⟨t.val % 32 * 256 + r.val, by omega⟩

theorem q0_apply (r : Fin 256) (k : Fin 3) : q0 m c t (ix3 0 r k) = cloud m c (ix3 (bat t) (place t r) k) := by
  show cloud m c ((win0_0.rect t).emb (ix3 (0 : Fin 1) r k)) = _
  refine congrArg _ (funext fun a => Fin.ext ?_)
  rw [Pipeline.Window.rect_emb_val win0_0, idx_rows]
  match a with
  | ⟨0, _⟩ => exact Nat.mul_one _
  | ⟨1, _⟩ => rfl
  | ⟨2, _⟩ => exact Nat.zero_add _

theorem q1_apply (k : Fin 3) (j : Fin 8192) : q1 m c t (ix3 0 k j) = cloud m c (ix3 (bat t) j k) := by
  show transpose S4x3x8192 [0, 2, 1] (cloud m c) transposes_S4x8192x3_S4x3x8192_0_2_1 ((win0_1.rect t).emb (ix3 (0 : Fin 1) k j)) = _
  have e : (win0_1.rect t).emb (ix3 (0 : Fin 1) k j) = ix3 (bat t) k j := funext fun a => Fin.ext (by
    rw [Pipeline.Window.rect_emb_val win0_1, idx_columns]
    match a with
    | ⟨0, _⟩ => exact Nat.mul_one _
    | ⟨1, _⟩ => show 0 * 3 + k.val = k.val; omega
    | ⟨2, _⟩ => show 0 * 8192 + j.val = j.val; omega)
  rw [e]
  exact transpose_apply [0, 2, 1] (cloud m c) transposes_S4x8192x3_S4x3x8192_0_2_1 (ix3 (bat t) k j) (ix3 (bat t) j k)
    fun a => match a with | ⟨0, _⟩ => rfl | ⟨1, _⟩ => rfl | ⟨2, _⟩ => rfl

theorem dist_at (r : Fin 256) (j : Fin 8192) : dist (q0 m c t) (q1 m c t) (ix2 r j)
    = apart (fun k => cloud m c (ix3 (bat t) (place t r) k)) fun k => cloud m c (ix3 (bat t) j k) := by
  rw [dist_apply]
  exact congrArg₂ apart (funext fun k => q0_apply m c t r k) (funext fun k => q1_apply m c t k j)

variable {m c} (hfin : ∀ i, (cloud m c i : EReal) ≠ ⊤ ∧ (cloud m c i : EReal) ≠ ⊥)

include hfin in
/-- A block that names the nearest of its distances holds the reference's neighbours. -/
theorem block_answer {X : Vec Ideal S1x256x16 .i32} (h : Found (dist (q0 m c t) (q1 m c t)) X) (r : Fin 256) (s : Fin 16) :
    X (ix3 0 r s) = answer m c (ix3 (bat t) (place t r) s) := by
  have hp := h (fun y => by
    obtain ⟨r, j, rfl⟩ : ∃ (r : Fin 256) (j : Fin 8192), y = ix2 r j := ⟨_, _, eq_ix2 y⟩
    rw [dist_at]
    exact apart_finite (fun k => hfin _) fun k => hfin _) r
  simp only [dist_at] at hp
  exact congrFun (hp.unique (answer_places m c (bat t) (place t r))) s

/-! ### The whole result -/

include hfin in
theorem result {r : PUnit × MemSt nD τ sig (Elt Ideal)}
    (h : RDat.FramePost cfg0 (fun c => (dat m c).toRRel mark (rel m (fun x2 x3 X => Found (dist x2 x3) X) c)) (ent m) r) :
    r.2.mem ((c.tc : Thread nD τ).loc main_v1) = answer m c := by
  obtain ⟨after, hL, hA⟩ := h.exists_exact c
  refine (hA 2).trans (funext fun i => ?_)
  refine Pipeline.Dat.arrAt_forall_of_covers (((dat m c).toRRel mark (rel m (fun x2 x3 X => Found (dist x2 x3) X) c)).withAfter after) 2 (fun i v => v = answer m c i) (by decide +kernel) (fun t hf y => ?_) i
  have hX := (dat m c).toRRel_leaves (w := 2) rfl (hL 2 t hf)
  obtain ⟨u, r, s, rfl⟩ : ∃ (u : Fin 1) (r : Fin 256) (s : Fin 16), y = ix3 u r s := ⟨_, _, _, eq_ix3 y⟩
  have e : (win0_2.rect t).emb (ix3 u r s) = ix3 (bat t) (place t r) s := funext fun a => Fin.ext (by
    rw [Pipeline.Window.rect_emb_val win0_2, idx_out]
    match a with
    | ⟨0, _⟩ => show t.val / 32 * 1 + u.val = t.val / 32; omega
    | ⟨1, _⟩ => rfl
    | ⟨2, _⟩ => show 0 * 16 + s.val = s.val; omega)
  have eu : (cfg0.win 2).xinj (cfg0.grid.coords t) (ix3 u r s) = ix3 0 r s := funext fun a => Fin.ext (by
    match a with
    | ⟨0, _⟩ => show u.val = 0; omega
    | ⟨1, _⟩ => rfl
    | ⟨2, _⟩ => rfl)
  show after 2 t ((cfg0.win 2).xinj (cfg0.grid.coords t) (ix3 u r s)) = answer m c ((win0_2.rect t).emb (ix3 u r s))
  rw [e, eu]
  exact block_answer t hfin hX r s

end Cert.Proof.SearchIdeal

end
-- ==== Proof.Nearest.lean ====
/-
  The claims of the search: its frames, the frames of its reference, and that both name the same neighbours of finite points.
-/
module

public import proofs.«01_k».proof.Defs
public import proofs.«01_k».proof.Proof.Gen.Pre_finite
public import proofs.«01_k».proof.Proof.Search.Launch
public import proofs.«01_k».proof.Proof.SearchIdeal.Answer
public import proofs.«01_k».proof.Proof.Gen.NearestIdeal.Run
public import Idealize.ShloMosaic.Lib.Quiescent
public import Idealize.ShloMosaic.Lib.ReduceAll

@[expose] public section

noncomputable section

namespace Cert.Proof

open Idealize.ShloMosaic Idealize.ShloMosaic.TcCoe Idealize.SL.Sem

/-! ### The precondition read -/

theorem finite_word (v : EReal) (e : BitVec.ofBool (decide (max v (-v) < Ideal.ofBits .f32 0x7F800000#32)) = 1#1) : v ≠ ⊤ ∧ v ≠ ⊥ := by
  rw [show Ideal.ofBits .f32 0x7F800000#32 = (⊤ : EReal) from SearchIdeal.inf_eq] at e
  have h : max v (-v) < ⊤ := by
    by_contra hn
    rw [decide_eq_false hn] at e
    exact absurd e (by decide)
  constructor
  · rintro rfl; simp at h
  · rintro rfl; simp at h

instance scalar_finite : Subsingleton Cert.Pre_finite.S_.Idx := ⟨fun a b => funext fun i => i.elim0⟩

theorem finite_of (a : FVec Ideal Cert.Pre_finite.S4x8192x3 .f32) (h : Cert.Pre_finite.fn (F := Ideal) a = fun _ => 1#1) (i : Cert.Pre_finite.S4x8192x3.Idx) :
    (a i : EReal) ≠ ⊤ ∧ (a i : EReal) ≠ ⊥ := by
  have h0 := congrFun h (fun a => a.elim0)
  exact finite_word _ (Host.reduce_andi_all _ _ _ _ _ h0 i)

/-! ### The frames -/

theorem frame_search : Cert.quiescent_Search := fun m g _ => Search.frame (F := Bits) m g

theorem frame_searchIdeal : Cert.quiescent_SearchIdeal := fun m g _ => SearchIdeal.frame (F := Ideal) m g

theorem frame_searchIdeal_pre : Cert.quiescent_SearchIdeal_pre_finite := fun m g _ => SearchIdeal.frame (F := Ideal) m g

theorem frame_nearest : Cert.quiescent_NearestIdeal := fun m g _ =>
  (θ_run Cert.NearestIdeal.defs _ _).mono (fun r h => ⟨fun c => (h c).2, sem_eq_zero_of_no_sems (by decide) r.2⟩)
    (Cert.NearestIdeal.Value.run (F := Ideal) m g)

theorem frame_nearest_pre : Cert.quiescent_NearestIdeal_pre_finite := fun m g _ => frame_nearest m g trivial

/-! ### The neighbours -/

theorem algebraic_search : Cert.algebraic_SearchIdeal_NearestIdeal_pre_finite := fun m g m' g' hpre hag =>
  ⟨fun c => SearchIdeal.answer m c,
    (θ_run Cert.SearchIdeal.defs _ _).mono
      (fun r h c => ⟨SearchIdeal.result (finite_of _ (hpre c)) h.1, h.1.arr_in c 0 rfl⟩)
      (SearchIdeal.run (F := Ideal) m (fun _ _ => SearchIdeal.body) g),
    (θ_run Cert.NearestIdeal.defs _ _).mono
      (fun r h c => ⟨(h c).1.trans ((Cert.NearestIdeal.Read.val_main_indices_eq _).trans (congrArg Cert.NearestIdeal.Read.val_main_indices (hag c))), (h c).2⟩)
      (Cert.NearestIdeal.Value.run (F := Ideal) m' g')⟩

end Cert.Proof

end
-- ==== Proof.lean ====
module

public import proofs.«01_k».proof.Proof.Gen.Search
public import proofs.«01_k».proof.Proof.Gen.SearchIdeal
public import proofs.«01_k».proof.Proof.Gen.NearestIdeal
public import proofs.«01_k».proof.Proof.Gen.NearestIdeal.Run
public import proofs.«01_k».proof.Proof.Gen.NearestIdeal.Read
public import proofs.«01_k».proof.Proof.Gen.Pre_finite
public import proofs.«01_k».proof.Proof.Gen.Search.Launch
public import proofs.«01_k».proof.Proof.Gen.SearchIdeal.Launch
public import proofs.«01_k».proof.Proof.Gen.Search.Skeleton
public import proofs.«01_k».proof.Proof.Gen.SearchIdeal.Skeleton
public import proofs.«01_k».proof.Proof.Gen.Search.Points
public import proofs.«01_k».proof.Proof.Gen.SearchIdeal.Points
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.Nearest
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Search.Gen.facts,
  Cert.SearchIdeal.Gen.facts, Cert.NearestIdeal.Gen.facts, Cert.Pre_in_range.Gen.facts, Cert.Pre_finite.Gen.facts,
  frame_kernel, frame_kernelIdeal, frame_reference, frame_reference_pre, frame_search, frame_searchIdeal, frame_searchIdeal_pre, frame_nearest,
  frame_nearest_pre, trivial, algebraic, trivial, algebraic_search⟩

end Cert.Proof

end
